-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tokens : Cert.Pre_tokens.Facts] (m : (ℓ : Loc Cert.Kernel2.nD Cert.Kernel2.τ Cert.Kernel2.sig) → Buf (Elt Bits) ℓ) : Prop :=
  ∀ c : Dev Cert.Kernel2.nD,
    (Cert.Pre_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tokens : Cert.Pre_tokens.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tokens [hPre_tokens : Cert.Pre_tokens.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_tokens : Cert.Pre_tokens.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tokens : Cert.Pre_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tokens [hReference2Ideal : Cert.Reference2Ideal.Facts] [hPre_tokens : Cert.Pre_tokens.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tokens m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_tokens : Cert.Pre_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v22_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v255) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v22_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v274) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tokens : Cert.Pre_tokens.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tokens := hPre_tokens)
    ∧ quiescent_Kernel2Ideal (hKernel2Ideal := hKernel2Ideal) (hPre_tokens := hPre_tokens)
    ∧ quiescent_Reference2Ideal (hReference2Ideal := hReference2Ideal)
    ∧ quiescent_Reference2Ideal_pre_tokens (hReference2Ideal := hReference2Ideal) (hPre_tokens := hPre_tokens)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tokens := hPre_tokens)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S1x16384x1024 : Shape := ⟨3, ![1, 16384, 1024]⟩
abbrev S1x16384x512 : Shape := ⟨3, ![1, 16384, 512]⟩
abbrev S1x31x512 : Shape := ⟨3, ![1, 31, 512]⟩
abbrev S1x512 : Shape := ⟨2, ![1, 512]⟩
abbrev S1x1024x1024 : Shape := ⟨3, ![1, 1024, 1024]⟩
abbrev S2x1024 : Shape := ⟨2, ![2, 1024]⟩
abbrev S2x1024x16 : Shape := ⟨3, ![2, 1024, 16]⟩
abbrev S1x1024 : Shape := ⟨2, ![1, 1024]⟩
abbrev S1024 : Shape := ⟨1, ![1024]⟩
abbrev S_ : Shape := ⟨0, ![]⟩
abbrev S1x1024x16 : Shape := ⟨3, ![1, 1024, 16]⟩
abbrev S1024x16 : Shape := ⟨2, ![1024, 16]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x16_S1x1024x16_0_0_0 : S2x1024x16.Slices ![0, 0, 0] S1x1024x16
  shapeCasts_S1x1024x16_S1024x16 : S1x1024x16.ShapeCasts S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1x16384x1024 .f32) (main_arg1 : FVec F S1x16384x512 .bf16) (main_arg2 : FVec F S1x16384x512 .f32) (main_arg3 : FVec F S1x31x512 .f32) (main_arg4 : FVec F S1x512 .f32) (main_arg5 : FVec F S1x512 .f32) (main_arg6 : FVec F S1x512 .f32) (main_arg7 : FVec F S1x1024x1024 .f32) (main_arg8 : FVec F S2x1024 .f32) (main_arg9 : FVec F S2x1024x16 .f32) : IVec S_ 1 :=
  let main_v0 : FVec F S1x1024 .f32 := (extractStridedSlice S1x1024 ![0, 0] · slices_S2x1024_S1x1024_0_0) main_arg8
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x16 .f32 := (extractStridedSlice S1x1024x16 ![0, 0, 0] · slices_S2x1024x16_S1x1024x16_0_0_0) main_arg9
  let main_v7 : FVec F S1024x16 .f32 := shapeCast S1024x16 main_v6 shapeCasts_S1x1024x16_S1024x16
  let main_v8 : FVec F S1024x16 .f32 := Host.absf main_v7
  let main_cst_0 : FVec F S_ .f32 := constant S_ .f32 0x7F800000#32
  let main_v9 : FVec F S1024x16 .f32 := broadcastInDim S1024x16 ![] bcast_S_S1024x16 main_cst_0
  let main_v10 : IVec S1024x16 1 := cmpf .olt main_v8 main_v9
  let main_c_1 : IVec S_ 1 := constantI S_ 1 1#1
  let main_v11 : IVec S_ 1 := (fun x v => Host.reduce IntOp.andi x v reducesTo_S1024x16_S_d0_1 h_S_) main_v10 main_c_1
  let main_v12 : IVec S_ 1 := andi main_v5 main_v11
  main_v12
-- ==== Pre_tokens.lean ====
abbrev S1x16384x1024 : Shape := ⟨3, ![1, 16384, 1024]⟩
abbrev S16x2048 : Shape := ⟨2, ![16, 2048]⟩
abbrev S2x1024 : Shape := ⟨2, ![2, 1024]⟩
abbrev S2x16x1024x1024 : Shape := ⟨4, ![2, 16, 1024, 1024]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel

variable [Facts]

def fn {F : FTy → Type} [FloatOps F] (main_arg0 : FVec F S1x16384x1024 .f32) (main_arg1 : IVec S16x2048 32) (main_arg2 : FVec F S16x2048 .f32) (main_arg3 : FVec F S2x1024 .f32) (main_arg4 : FVec F S2x16x1024x1024 .f32) (main_arg5 : FVec F S2x16x1024x1024 .f32) (main_arg6 : FVec F S2x16x1024x1024 .f32) : IVec S_ 1 :=
  let main_c : IVec S_ 32 := constantI S_ 32 0#32
  let main_v0 : IVec S16x2048 32 := broadcastInDim S16x2048 ![] bcast_S_S16x2048 main_c
  let main_v1 : IVec S16x2048 1 := cmpi .sge main_arg1 main_v0
  let main_c_0 : IVec S_ 32 := constantI S_ 32 16384#32
  let main_v2 : IVec S16x2048 32 := broadcastInDim S16x2048 ![] bcast_S_S16x2048 main_c_0
  let main_v3 : IVec S16x2048 1 := cmpi .slt main_arg1 main_v2
  let main_v4 : IVec S16x2048 1 := andi main_v1 main_v3
  let main_c_1 : IVec S_ 1 := constantI S_ 1 1#1
  let main_v5 : IVec S_ 1 := (fun x v => Host.reduce IntOp.andi x v reducesTo_S16x2048_S_d0_1 h_S_) main_v4 main_c_1
  main_v5
-- ==== Kernel.lean ====
abbrev S1x16384x1024 : Shape := ⟨3, ![1, 16384, 1024]⟩
abbrev S2x1024 : Shape := ⟨2, ![2, 1024]⟩
abbrev S1x1024x2048 : Shape := ⟨3, ![1, 1024, 2048]⟩
abbrev S1x512 : Shape := ⟨2, ![1, 512]⟩
abbrev S1x4x128x128 : Shape := ⟨4, ![1, 4, 128, 128]⟩
abbrev S1x4x128 : Shape := ⟨3, ![1, 4, 128]⟩
abbrev S16384x1024 : Shape := ⟨2, ![16384, 1024]⟩
abbrev S1x1024 : Shape := ⟨2, ![1, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S16384x512 : Shape := ⟨2, ![16384, 512]⟩
abbrev S512x1024 : Shape := ⟨2, ![512, 1024]⟩
abbrev S512x512 : Shape := ⟨2, ![512, 512]⟩
abbrev S512x1 : Shape := ⟨2, ![512, 1]⟩
abbrev S1024x512 : Shape := ⟨2, ![1024, 512]⟩
abbrev S1x128x128 : Shape := ⟨3, ![1, 128, 128]⟩
abbrev S128x128 : Shape := ⟨2, ![128, 128]⟩

abbrev nBuf : Space → Nat
  | .hbm => 25
  | .vmem => 14
  | .smem => 0
  | _ => 0

abbrev bufTy : (tb : Table) → Fin (tcTables nBuf tb) → BufTy
  | .hbm, ⟨0, _⟩ => ⟨S1x16384x1024, .f32⟩
  | .hbm, ⟨1, _⟩ => ⟨S2x1024, .f32⟩
  | .hbm, ⟨2, _⟩ => ⟨S1x1024x2048, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2048, .f32⟩
  | .hbm, ⟨12, _⟩ => ⟨S1024x2048, .bf16⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S4x128x128, .f32⟩
  | .hbm, ⟨18, _⟩ => ⟨S4x128x128, .bf16⟩
  | .hbm, ⟨19, _⟩ => ⟨S4x128, .f32⟩
  | .hbm, ⟨20, _⟩ => ⟨S128x4, .f32⟩
  | .hbm, ⟨21, _⟩ => ⟨S128x4x128, .f32⟩
  | .hbm, ⟨22, _⟩ => ⟨S128x512, .f32⟩
  | .hbm, ⟨23, _⟩ => ⟨S16384x512, .bf16⟩
  | .hbm, ⟨24, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S4x128x128, .bf16⟩
  | .local _ .vmem, ⟨7, _⟩ => ⟨S128x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x16384x1024 : Shape := ⟨3, ![1, 16384, 1024]⟩
abbrev S2x1024 : Shape := ⟨2, ![2, 1024]⟩
abbrev S1x1024x2048 : Shape := ⟨3, ![1, 1024, 2048]⟩
abbrev S1x512 : Shape := ⟨2, ![1, 512]⟩
abbrev S1x4x128x128 : Shape := ⟨4, ![1, 4, 128, 128]⟩
abbrev S1x4x128 : Shape := ⟨3, ![1, 4, 128]⟩
abbrev S1x1024 : Shape := ⟨2, ![1, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2048 : Shape := ⟨2, ![1024, 2048]⟩
abbrev S1x16384x2048 : Shape := ⟨3, ![1, 16384, 2048]⟩
abbrev S1x16384x512 : Shape := ⟨3, ![1, 16384, 512]⟩
abbrev S512 : Shape := ⟨1, ![512]⟩
abbrev S1x1x512 : Shape := ⟨3, ![1, 1, 512]⟩
abbrev S1x128x128x4x128 : Shape := ⟨5, ![1, 128, 128, 4, 128]⟩
abbrev S4x128x128 : Shape := ⟨3, ![4, 128, 128]⟩
abbrev S4x1x128x128x128 : Shape := ⟨5, ![4, 1, 128, 128, 128]⟩
abbrev S4x128 : Shape := ⟨2, ![4, 128]⟩
abbrev S128x4 : Shape := ⟨2, ![128, 4]⟩
abbrev S1x1x128x4x1 : Shape := ⟨5, ![1, 1, 128, 4, 1]⟩
abbrev S16384x512 : Shape := ⟨2, ![16384, 512]⟩

abbrev nBuf : Space → Nat
  | .hbm => 95
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x1024, .f32⟩
  | .hbm, ⟨2, _⟩ => ⟨S1x1024x2048, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x1024, .f32⟩
  | .hbm, ⟨8, _⟩ => ⟨S1024, .f32⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S1024x2048, .f32⟩
  | .hbm, ⟨26, _⟩ => ⟨S1x16384x2048, .f32⟩
  | .hbm, ⟨27, _⟩ => ⟨S1x16384x1024, .f32⟩
  | .hbm, ⟨28, _⟩ => ⟨S_, .f32⟩
  | .hbm, ⟨29, _⟩ => ⟨S1x16384x1024, .f32⟩
  | .hbm, ⟨30, _⟩ => ⟨S1x16384x1024, .f32⟩
  | .hbm, ⟨31, _⟩ => ⟨S1x16384x1024, .f32⟩
  | .hbm, ⟨32, _⟩ => ⟨S_, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S1x16384x1024, .f32⟩
  | .hbm, ⟨37, _⟩ => ⟨S1x16384x512, .f32⟩
  | .hbm, ⟨38, _⟩ => ⟨S1x16384x512, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S1x16384x512, .f32⟩
  | .hbm, ⟨48, _⟩ => ⟨S1x16384x512, .f32⟩
  | .hbm, ⟨49, _⟩ => ⟨S1x16384x512, .f32⟩
  | .hbm, ⟨50, _⟩ => ⟨S_, .f32⟩
  | .hbm, ⟨51, _⟩ => ⟨S1x16384, .f32⟩
  | .hbm, ⟨52, _⟩ => ⟨S1x16384x1, .f32⟩
  | .hbm, ⟨53, _⟩ => ⟨S_, .f32⟩
  | .hbm, ⟨54, _⟩ => ⟨S1x16384x1, .f32⟩
  | .hbm, ⟨55, _⟩ => ⟨S1x16384x1, .f32⟩
  | .hbm, ⟨56, _⟩ => ⟨S1x16384x512, .f32⟩
  | .hbm, ⟨57, _⟩ => ⟨S1x16384x512, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S1x16384x1, .f32⟩
  | .hbm, ⟨62, _⟩ => ⟨S1x16384x512, .f32⟩
  | .hbm, ⟨63, _⟩ => ⟨S1x16384x512, .f32⟩
  | .hbm, ⟨64, _⟩ => ⟨S1x1x512, .f32⟩
  | .hbm, ⟨65, _⟩ => ⟨S1x16384x512, .f32⟩
  | .hbm, ⟨66, _⟩ => ⟨S1x16384x512, .f32⟩
  | .hbm, ⟨67, _⟩ => ⟨S1x1x512, .f32⟩
  | .hbm, ⟨68, _⟩ => ⟨S1x16384x512, .f32⟩
  | .hbm, ⟨69, _⟩ => ⟨S1x16384x512, .f32⟩
  | .hbm, ⟨70, _⟩ => ⟨S1x128x128x4x128, .f32⟩
  | .hbm, ⟨71, _⟩ => ⟨S4x128x128, .f32⟩
  | .hbm, ⟨72, _⟩ => ⟨S4x1x128x128x128, .f32⟩
  | .hbm, ⟨73, _⟩ => ⟨S1x128x128x4x128, .f32⟩
  | .hbm, ⟨74, _⟩ => ⟨S4x128, .f32⟩
  | .hbm, ⟨75, _⟩ => ⟨S128x4, .f32⟩
  | .hbm, ⟨76, _⟩ => ⟨S1x1x128x4x1, .f32⟩
  | .hbm, ⟨77, _⟩ => ⟨S1x128x128x4x128, .f32⟩
  | .hbm, ⟨78, _⟩ => ⟨S1x128x128x4x128, .f32⟩
  | .hbm, ⟨79, _⟩ => ⟨S1x16384x512, .f32⟩
  | .hbm, ⟨80, _⟩ => ⟨S1x16384x512, .f32⟩
  | .hbm, ⟨81, _⟩ => ⟨S1x16384x512, .f32⟩
  | .hbm, ⟨82, _⟩ => ⟨S1x16384x512, .f32⟩
  | .hbm, ⟨83, _⟩ => ⟨S1x16384x512, .f32⟩
  | .hbm, ⟨84, _⟩ => ⟨S1x16384x512, .f32⟩
  | .hbm, ⟨85, _⟩ => ⟨S_, .f32⟩
  | .hbm, ⟨86, _⟩ => ⟨S1x16384x512, .f32⟩
  | .hbm, ⟨87, _⟩ => ⟨S1x16384x512, .f32⟩
  | .hbm, ⟨88, _⟩ => ⟨S_, .f32⟩
  | .hbm, ⟨89, _⟩ => ⟨S1x16384x512, .f32⟩
  | .hbm, ⟨90, _⟩ => ⟨S1x16384x512, .f32⟩
  | .hbm, ⟨91, _⟩ => ⟨S1x16384x512, .f32⟩
  | .hbm, ⟨92, _⟩ => ⟨S16384x512, .f32⟩
  | .hbm, ⟨93, _⟩ => ⟨S16384x512, .bf16⟩
  | .hbm, ⟨94, _⟩ => ⟨S16384x512, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel2.lean ====
abbrev S1x16384x1024 : Shape := ⟨3, ![1, 16384, 1024]⟩
abbrev S16x2048 : Shape := ⟨2, ![16, 2048]⟩
abbrev S2x1024 : Shape := ⟨2, ![2, 1024]⟩
abbrev S2x16x1024x1024 : Shape := ⟨4, ![2, 16, 1024, 1024]⟩
abbrev S131072x128 : Shape := ⟨2, ![131072, 128]⟩
abbrev S1x1024 : Shape := ⟨2, ![1, 1024]⟩
abbrev S1024 : Shape := ⟨1, ![1024]⟩
abbrev S64x1x512 : Shape := ⟨3, ![64, 1, 512]⟩
abbrev S16384x8x128 : Shape := ⟨3, ![16384, 8, 128]⟩
abbrev S32768x1024 : Shape := ⟨2, ![32768, 1024]⟩
abbrev S1x1x512 : Shape := ⟨3, ![1, 1, 512]⟩
abbrev S512x1024 : Shape := ⟨2, ![512, 1024]⟩
abbrev S2x4096x128 : Shape := ⟨3, ![2, 4096, 128]⟩
abbrev S3x1024x1024 : Shape := ⟨3, ![3, 1024, 1024]⟩
abbrev S2 : Shape := ⟨1, ![2]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1x1024x1024 : Shape := ⟨4, ![1, 1, 1024, 1024]⟩
abbrev S1x1x1 : Shape := ⟨3, ![1, 1, 1]⟩
abbrev S1x8x128 : Shape := ⟨3, ![1, 8, 128]⟩
abbrev S8x128 : Shape := ⟨2, ![8, 128]⟩
abbrev S1x4096x128 : Shape := ⟨3, ![1, 4096, 128]⟩
abbrev S4096x128 : Shape := ⟨2, ![4096, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x512 : Shape := ⟨2, ![1, 512]⟩
abbrev S1x128 : Shape := ⟨2, ![1, 128]⟩
abbrev S128 : Shape := ⟨1, ![128]⟩
abbrev S128x1 : Shape := ⟨2, ![128, 1]⟩

abbrev nBuf : Space → Nat
  | .hbm => 15
  | .vmem => 8
  | .smem => 4
  | _ => 0

abbrev bufTy : (tb : Table) → Fin (tcTables nBuf tb) → BufTy
  | .hbm, ⟨0, _⟩ => ⟨S1x16384x1024, .f32⟩
  | .hbm, ⟨1, _⟩ => ⟨S16x2048, .i32⟩
  | .hbm, ⟨2, _⟩ => ⟨S16x2048, .f32⟩
  | .hbm, ⟨3, _⟩ => ⟨S2x1024, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S131072x128, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S64x1x512, .i32⟩
  | .hbm, ⟨12, _⟩ => ⟨S64x1x512, .f32⟩
  | .hbm, ⟨13, _⟩ => ⟨S16384x8x128, .f32⟩
  | .hbm, ⟨14, _⟩ => ⟨S32768x1024, .bf16⟩
  | .local _ .vmem, ⟨0, _⟩ => ⟨S1x1x512, .f32⟩
  | .local _ .vmem, ⟨1, _⟩ => ⟨S1x1x512, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2x4096x128, .f32⟩
  | .local _ .vmem, ⟨6, _⟩ => ⟨S3x1024x1024, .f32⟩
  | .local _ .vmem, ⟨7, _⟩ => ⟨S3x1024x1024, .bf16⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_72 : BitVec 32 := 0#32
  let c512_i32_73 : BitVec 32 := 512#32
  let v131 : BitVec 32 := Scalar.addi c0_i32_72 c512_i32_73
  let c1_i32_74 : BitVec 32 := 1#32
  ⟨c0_i32_72, v131, c1_i32_74⟩
def k0_off1 (k0_t1 : Fin k0_t1_loop.trips) : Fin 3 → Nat :=
  let c0_76 : Index := 0#32
  let c0_77 : Index := 0#32
  let c0_i32_72 : BitVec 32 := 0#32
  let c1_i32_74 : BitVec 32 := 1#32
  let arg17 : BitVec 32 := Scf.iv c0_i32_72 c1_i32_74 k0_t1
  let v132 : Index := Scalar.indexCast arg17
  ![0, 0, v132.toNat]
def k0_off2 (k0_t1 : Fin k0_t1_loop.trips) : Fin 3 → Nat :=
  let c0_i32_78 : BitVec 32 := 0#32
  let c0_i32_72 : BitVec 32 := 0#32
  let c1_i32_74 : BitVec 32 := 1#32
  let arg17 : BitVec 32 := Scf.iv c0_i32_72 c1_i32_74 k0_t1
  let c8_i32 : BitVec 32 := 8#32
  let v134 : BitVec 32 := Scalar.muli arg17 c8_i32
  let c0_i32_80 : BitVec 32 := 0#32
  ![0, v134.toNat, 0]
def k0_off3 (v133 : BitVec 32) : Fin 3 → Nat :=
  let c0_i32_81 : BitVec 32 := 0#32
  let c0_i32_82 : BitVec 32 := 0#32
  ![v133.toNat, 0, 0]

def k0_chk1 (i : grid0.Coords) (v133 : BitVec 32) : Prop :=
  (∀ (k0_h1 : k0_cond1 i = 1#1), ∀ a, (k0_off3 v133) a + S1x8x128.size a ≤ S16384x8x128.size a)
theorem k0_off3_inb : ∀ (i : grid0.Coords) (v133 : BitVec 32) (k0_hw1 : k0_chk1 i v133), ∀ (k0_h1 : k0_cond1 i = 1#1), ∀ a, (k0_off3 v133) a + S1x8x128.size a ≤ S16384x8x128.size a := fun i v133 k0_hw1 k0_h1 => k0_hw1 k0_h1

def k0_cond2 (i : grid0.Coords) : BitVec 1 :=
  let arg1 : BitVec 32 := BitVec.ofNat 32 (i 1).val
  let c0_i32_1 : BitVec 32 := 0#32
  let v6 : BitVec 1 := Scalar.cmpi .eq arg1 c0_i32_1
  let v7 : BitVec 32 := Scalar.extui v6
  let c0_i32_2 : BitVec 32 := 0#32
  let v8 : BitVec 1 := Scalar.cmpi .ne v7 c0_i32_2
  v8

def k0_off4 (i : grid0.Coords) : Fin 4 → Nat :=
  let c0_i32_48 : BitVec 32 := 0#32
  let arg0 : BitVec 32 := BitVec.ofNat 32 (i 0).val
  let c0_i32_53 : BitVec 32 := 0#32
  let c0_i32_54 : BitVec 32 := 0#32
  ![0, arg0.toNat, 0, 0]
def k0_cond3 (i : grid0.Coords) : BitVec 1 :=
  let arg0 : BitVec 32 := BitVec.ofNat 32 (i 0).val
  let c1_i32_87 : BitVec 32 := 1#32
  let v149 : BitVec 32 := Scalar.addi arg0 c1_i32_87
  let c16_i32 : BitVec 32 := 16#32
  let v150 : BitVec 1 := Scalar.cmpi .slt v149 c16_i32
  let v151 : BitVec 32 := Scalar.extui v150
  let c0_i32_88 : BitVec 32 := 0#32
  let v152 : BitVec 1 := Scalar.cmpi .ne v151 c0_i32_88
  v152

def k0_off5 (i : grid0.Coords) : Fin 4 → Nat :=
  let c0_i32_90 : BitVec 32 := 0#32
  let arg0 : BitVec 32 := BitVec.ofNat 32 (i 0).val
  let c1_i32_89 : BitVec 32 := 1#32
  let v153 : BitVec 32 := Scalar.addi arg0 c1_i32_89
  let c0_i32_95 : BitVec 32 := 0#32
  let c0_i32_96 : BitVec 32 := 0#32
  ![0, v153.toNat, 0, 0]
@[reducible] def k0_t2_loop : Scf.Loop 32 :=
  let c0_i32_3 : BitVec 32 := 0#32
  let c512_i32 : BitVec 32 := 512#32
  let v10 : BitVec 32 := Scalar.addi c0_i32_3 c512_i32
  let c1_i32_4 : BitVec 32 := 1#32
  ⟨c0_i32_3, v10, c1_i32_4⟩
def k0_off6 (k0_t2 : Fin k0_t2_loop.trips) : Fin 3 → Nat :=
  let c0_48 : Index := 0#32
  let c0_49 : Index := 0#32
  let c0_i32_3 : BitVec 32 := 0#32
  let c1_i32_4 : BitVec 32 := 1#32
  let arg17 : BitVec 32 := Scf.iv c0_i32_3 c1_i32_4 k0_t2
  let v113 : Index := Scalar.indexCast arg17
  ![0, 0, v113.toNat]
def k0_off7 (i : grid0.Coords) : Fin 1 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v9 : BitVec 32 := Scalar.subi c1_i32 v2
  ![v9.toNat]
def k0_off8 (i : grid0.Coords) (k0_t2 : Fin k0_t2_loop.trips) : Fin 3 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v9 : BitVec 32 := Scalar.subi c1_i32 v2
  let c0_i32_3 : BitVec 32 := 0#32
  let c1_i32_4 : BitVec 32 := 1#32
  let arg17 : BitVec 32 := Scf.iv c0_i32_3 c1_i32_4 k0_t2
  let c8_i32 : BitVec 32 := 8#32
  let v115 : BitVec 32 := Scalar.muli arg17 c8_i32
  let c0_i32_50 : BitVec 32 := 0#32
  ![v9.toNat, v115.toNat, 0]
def k0_off9 (v114 : BitVec 32) : Fin 3 → Nat :=
  let c0_i32_51 : BitVec 32 := 0#32
  let c0_i32_52 : BitVec 32 := 0#32
  ![v114.toNat, 0, 0]

def k0_chk2 (v114 : BitVec 32) : Prop :=
  (∀ a, (k0_off9 v114) a + S1x8x128.size a ≤ S16384x8x128.size a)
theorem k0_off9_inb : ∀ (v114 : BitVec 32) (k0_hw2 : k0_chk2 v114), ∀ a, (k0_off9 v114) a + S1x8x128.size a ≤ S16384x8x128.size a := fun v114 k0_hw2 => k0_hw2

def k0_off10 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off11 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_6 : BitVec 32 := 0#32
  let c0_i32_7 : BitVec 32 := 0#32
  ![v2.toNat, 0, 0]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v16 : Index := Scalar.indexCast v2
  let c0 : Index := 0#32
  let c0_10 : Index := 0#32
  ![v16.toNat, 0, 0]
def k0_off13 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v19 : Index := Scalar.indexCast v2
  let c1 : Index := 1#32
  let c0_11 : Index := 0#32
  ![v19.toNat, 1, 0]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : Index := Scalar.indexCast v2
  let c2 : Index := 2#32
  let c0_12 : Index := 0#32
  ![v22.toNat, 2, 0]
def k0_off15 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v25 : Index := Scalar.indexCast v2
  let c3 : Index := 3#32
  let c0_13 : Index := 0#32
  ![v25.toNat, 3, 0]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v28 : Index := Scalar.indexCast v2
  let c4 : Index := 4#32
  let c0_14 : Index := 0#32
  ![v28.toNat, 4, 0]
def k0_off17 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v31 : Index := Scalar.indexCast v2
  let c5 : Index := 5#32
  let c0_15 : Index := 0#32
  ![v31.toNat, 5, 0]
def k0_off18 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v34 : Index := Scalar.indexCast v2
  let c6 : Index := 6#32
  let c0_16 : Index := 0#32
  ![v34.toNat, 6, 0]
def k0_off19 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v37 : Index := Scalar.indexCast v2
  let c7 : Index := 7#32
  let c0_17 : Index := 0#32
  ![v37.toNat, 7, 0]
def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c63_i32 : BitVec 32 := 63#32
  let v110 : BitVec 1 := Scalar.cmpi .eq v1 c63_i32
  let v111 : BitVec 32 := Scalar.extui v110
  let c0_i32_47 : BitVec 32 := 0#32
  let v112 : BitVec 1 := Scalar.cmpi .ne v111 c0_i32_47
  v112

def k0_off20 (i : grid0.Coords) : Fin 1 → Nat :=
  let c1_i32_48 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v113 : BitVec 32 := Scalar.subi c1_i32_48 v2
  ![v113.toNat]
def k0_off21 (i : grid0.Coords) : Fin 3 → Nat :=
  let c1_i32_48 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v113 : BitVec 32 := Scalar.subi c1_i32_48 v2
  let c0_i32_49 : BitVec 32 := 0#32
  let c0_i32_50 : BitVec 32 := 0#32
  ![v113.toNat, 0, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S1x16384x1024 : Shape := ⟨3, ![1, 16384, 1024]⟩
abbrev S16x2048 : Shape := ⟨2, ![16, 2048]⟩
abbrev S2x1024 : Shape := ⟨2, ![2, 1024]⟩
abbrev S2x16x1024x1024 : Shape := ⟨4, ![2, 16, 1024, 1024]⟩
abbrev S_ : Shape := ⟨0, ![]⟩
abbrev S1x16384 : Shape := ⟨2, ![1, 16384]⟩
abbrev S1x16384x1 : Shape := ⟨3, ![1, 16384, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩
abbrev S16x2048x1 : Shape := ⟨3, ![16, 2048, 1]⟩
abbrev S16x2048x1024 : Shape := ⟨3, ![16, 2048, 1024]⟩
abbrev S1x16x1024x1024 : Shape := ⟨4, ![1, 16, 1024, 1024]⟩
abbrev S16x1024x1024 : Shape := ⟨3, ![16, 1024, 1024]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x2048, .i32⟩
  | .hbm, ⟨2, _⟩ => ⟨S16x2048, .f32⟩
  | .hbm, ⟨3, _⟩ => ⟨S2x1024, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S1x16384x1024, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x1024, .f32⟩
  | .hbm, ⟨19, _⟩ => ⟨S1x16384x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S16384x1024, .f32⟩
  | .hbm, ⟨26, _⟩ => ⟨S_, .i32⟩
  | .hbm, ⟨27, _⟩ => ⟨S16x2048, .i32⟩
  | .hbm, ⟨28, _⟩ => ⟨S16x2048, .i1⟩
  | .hbm, ⟨29, _⟩ => ⟨S_, .i32⟩
  | .hbm, ⟨30, _⟩ => ⟨S16x2048, .i32⟩
  | .hbm, ⟨31, _⟩ => ⟨S16x2048, .i32⟩
  | .hbm, ⟨32, _⟩ => ⟨S16x2048, .i32⟩
  | .hbm, ⟨33, _⟩ => ⟨S16x2048x1, .i32⟩
  | .hbm, ⟨34, _⟩ => ⟨S16x2048x1024, .f32⟩
  | .hbm, ⟨35, _⟩ => ⟨S1x16x1024x1024, .f32⟩
  | .hbm, ⟨36, _⟩ => ⟨S16x1024x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S_, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1x16x1024x1024, .f32⟩
  | .hbm, ⟨48, _⟩ => ⟨S16x1024x1024, .f32⟩
  | .hbm, ⟨49, _⟩ => ⟨S16x2048x1024, .f32⟩
  | .hbm, ⟨50, _⟩ => ⟨S16x2048x1024, .f32⟩
  | .hbm, ⟨51, _⟩ => ⟨S1x16x1024x1024, .f32⟩
  | .hbm, ⟨52, _⟩ => ⟨S16x1024x1024, .f32⟩
  | .hbm, ⟨53, _⟩ => ⟨S16x2048x1024, .f32⟩
  | .hbm, ⟨54, _⟩ => ⟨S16x2048x1, .f32⟩
  | .hbm, ⟨55, _⟩ => ⟨S16x2048x1024, .f32⟩
  | .hbm, ⟨56, _⟩ => ⟨S16x2048x1024, .f32⟩
  | .hbm, ⟨57, _⟩ => ⟨S32768x1024, .f32⟩
  | .hbm, ⟨58, _⟩ => ⟨S32768x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x16384x512 : Shape := ⟨3, ![1, 16384, 512]⟩
abbrev S1x31x512 : Shape := ⟨3, ![1, 31, 512]⟩
abbrev S1x512 : Shape := ⟨2, ![1, 512]⟩
abbrev S1x1024x1024 : Shape := ⟨3, ![1, 1024, 1024]⟩
abbrev S2x1024 : Shape := ⟨2, ![2, 1024]⟩
abbrev S2x1024x16 : Shape := ⟨3, ![2, 1024, 16]⟩
abbrev S16384x1024 : Shape := ⟨2, ![16384, 1024]⟩
abbrev S16384x512 : Shape := ⟨2, ![16384, 512]⟩
abbrev S31x512 : Shape := ⟨2, ![31, 512]⟩
abbrev S512 : Shape := ⟨1, ![512]⟩
abbrev S1024x1024 : Shape := ⟨2, ![1024, 1024]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S16x1024 : Shape := ⟨2, ![16, 1024]⟩
abbrev S131072x128 : Shape := ⟨2, ![131072, 128]⟩
abbrev S16x16384 : Shape := ⟨2, ![16, 16384]⟩
abbrev S512x1024 : Shape := ⟨2, ![512, 1024]⟩
abbrev S512x512 : Shape := ⟨2, ![512, 512]⟩
abbrev S16x512 : Shape := ⟨2, ![16, 512]⟩
abbrev S4096x128 : Shape := ⟨2, ![4096, 128]⟩
abbrev S544x512 : Shape := ⟨2, ![544, 512]⟩
abbrev S8x536x512 : Shape := ⟨3, ![8, 536, 512]⟩
abbrev S536x512 : Shape := ⟨2, ![536, 512]⟩
abbrev S1x536x512 : Shape := ⟨3, ![1, 536, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S512x128 : Shape := ⟨2, ![512, 128]⟩
abbrev S512x1 : Shape := ⟨2, ![512, 1]⟩

abbrev nBuf : Space → Nat
  | .hbm => 34
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x16384x512, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S2x1024, .f32⟩
  | .hbm, ⟨9, _⟩ => ⟨S2x1024x16, .f32⟩
  | .hbm, ⟨10, _⟩ => ⟨S16384x1024, .f32⟩
  | .hbm, ⟨11, _⟩ => ⟨S16384x512, .bf16⟩
  | .hbm, ⟨12, _⟩ => ⟨S16384x512, .f32⟩
  | .hbm, ⟨13, _⟩ => ⟨S31x512, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024x16, .f32⟩
  | .hbm, ⟨26, _⟩ => ⟨S1024x16, .f32⟩
  | .hbm, ⟨27, _⟩ => ⟨S16x1024, .f32⟩
  | .hbm, ⟨28, _⟩ => ⟨S16x1024, .bf16⟩
  | .hbm, ⟨29, _⟩ => ⟨S16x1024, .f32⟩
  | .hbm, ⟨30, _⟩ => ⟨S16x1024, .f32⟩
  | .hbm, ⟨31, _⟩ => ⟨S16x1024, .bf16⟩
  | .hbm, ⟨32, _⟩ => ⟨S131072x128, .f32⟩
  | .hbm, ⟨33, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S16x1024, .bf16⟩
  | .local _ .vmem, ⟨17, _⟩ => ⟨S16x1024, .bf16⟩
  | .local _ .vmem, ⟨18, _⟩ => ⟨S4096x128, .f32⟩
  | .local _ .vmem, ⟨19, _⟩ => ⟨S4096x128, .f32⟩
  | .local _ .vmem, ⟨20, _⟩ => ⟨S16x512, .f32⟩
  | .local _ .vmem, ⟨21, _⟩ => ⟨S16x512, .f32⟩
  | .local _ .vmem, ⟨22, _⟩ => ⟨S544x512, .f32⟩
  | .local _ .vmem, ⟨23, _⟩ => ⟨S8x536x512, .f32⟩
  | .local _ .vmem, ⟨24, _⟩ => ⟨S512x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S1x16384x1024 : Shape := ⟨3, ![1, 16384, 1024]⟩
abbrev S1x16384x512 : Shape := ⟨3, ![1, 16384, 512]⟩
abbrev S1x31x512 : Shape := ⟨3, ![1, 31, 512]⟩
abbrev S1x512 : Shape := ⟨2, ![1, 512]⟩
abbrev S1x1024x1024 : Shape := ⟨3, ![1, 1024, 1024]⟩
abbrev S2x1024 : Shape := ⟨2, ![2, 1024]⟩
abbrev S2x1024x16 : Shape := ⟨3, ![2, 1024, 16]⟩
abbrev S_ : Shape := ⟨0, ![]⟩
abbrev S1x16414x512 : Shape := ⟨3, ![1, 16414, 512]⟩
abbrev S1x1x512 : Shape := ⟨3, ![1, 1, 512]⟩
abbrev S512 : Shape := ⟨1, ![512]⟩
abbrev S1x16384 : Shape := ⟨2, ![1, 16384]⟩
abbrev S1x16384x1 : Shape := ⟨3, ![1, 16384, 1]⟩
abbrev S1024x1024 : Shape := ⟨2, ![1024, 1024]⟩
abbrev S131072x128 : Shape := ⟨2, ![131072, 128]⟩

abbrev nBuf : Space → Nat
  | .hbm => 282
  | .vmem => 0
  | .smem => 0
  | _ => 0

abbrev hbmTy0_0 (i : Nat) : BufTy := match i % 128 with
  | 0 => ⟨S1x16384x1024, .f32⟩
  | 1 => ⟨S1x16384x512, .bf16⟩
  | 2 => ⟨S1x16384x512, .f32⟩
  | 3 => ⟨S1x31x512, .f32⟩
  | 4 => ⟨S1x512, .f32⟩
  | 5 => ⟨S1x512, .f32⟩
  | 6 => ⟨S1x512, .f32⟩
  | 7 => ⟨S1x1024x1024, .f32⟩
  | 8 => ⟨S2x1024, .f32⟩
  | 9 => ⟨S2x1024x16, .f32⟩
  | 10 => ⟨S_, .i32⟩
  | 11 => ⟨S_, .f32⟩
  | 12 => ⟨S1x16414x512, .f32⟩
  | 13 => ⟨S1x16384x512, .f32⟩
  | 14 => ⟨S1x1x512, .f32⟩
  | 15 => ⟨S512, .f32⟩
  | 16 => ⟨S1x1x512, .f32⟩
  | 17 => ⟨S1x16384x512, .f32⟩
  | 18 => ⟨S1x16384x512, .f32⟩
  | 19 => ⟨S_, .f32⟩
  | 20 => ⟨S1x16384x512, .f32⟩
  | 21 => ⟨S1x16384x512, .f32⟩
  | 22 => ⟨S1x16384x512, .f32⟩
  | 23 => ⟨S1x1x512, .f32⟩
  | 24 => ⟨S512, .f32⟩
  | 25 => ⟨S1x1x512, .f32⟩
  | 26 => ⟨S1x16384x512, .f32⟩
  | 27 => ⟨S1x16384x512, .f32⟩
  | 28 => ⟨S1x16384x512, .f32⟩
  | 29 => ⟨S1x16384x512, .f32⟩
  | 30 => ⟨S1x1x512, .f32⟩
  | 31 => ⟨S512, .f32⟩
  | 32 => ⟨S1x1x512, .f32⟩
  | 33 => ⟨S1x16384x512, .f32⟩
  | 34 => ⟨S1x16384x512, .f32⟩
  | 35 => ⟨S1x16384x512, .f32⟩
  | 36 => ⟨S1x16384x512, .f32⟩
  | 37 => ⟨S1x1x512, .f32⟩
  | 38 => ⟨S512, .f32⟩
  | 39 => ⟨S1x1x512, .f32⟩
  | 40 => ⟨S1x16384x512, .f32⟩
  | 41 => ⟨S1x16384x512, .f32⟩
  | 42 => ⟨S1x16384x512, .f32⟩
  | 43 => ⟨S1x16384x512, .f32⟩
  | 44 => ⟨S1x1x512, .f32⟩
  | 45 => ⟨S512, .f32⟩
  | 46 => ⟨S1x1x512, .f32⟩
  | 47 => ⟨S1x16384x512, .f32⟩
  | 48 => ⟨S1x16384x512, .f32⟩
  | 49 => ⟨S1x16384x512, .f32⟩
  | 50 => ⟨S1x16384x512, .f32⟩
  | 51 => ⟨S1x1x512, .f32⟩
  | 52 => ⟨S512, .f32⟩
  | 53 => ⟨S1x1x512, .f32⟩
  | 54 => ⟨S1x16384x512, .f32⟩
  | 55 => ⟨S1x16384x512, .f32⟩
  | 56 => ⟨S1x16384x512, .f32⟩
  | 57 => ⟨S1x16384x512, .f32⟩
  | 58 => ⟨S1x1x512, .f32⟩
  | 59 => ⟨S512, .f32⟩
  | 60 => ⟨S1x1x512, .f32⟩
  | 61 => ⟨S1x16384x512, .f32⟩
  | 62 => ⟨S1x16384x512, .f32⟩
  | 63 => ⟨S1x16384x512, .f32⟩
  | 64 => ⟨S1x16384x512, .f32⟩
  | 65 => ⟨S1x1x512, .f32⟩
  | 66 => ⟨S512, .f32⟩
  | 67 => ⟨S1x1x512, .f32⟩
  | 68 => ⟨S1x16384x512, .f32⟩
  | 69 => ⟨S1x16384x512, .f32⟩
  | 70 => ⟨S1x16384x512, .f32⟩
  | 71 => ⟨S1x16384x512, .f32⟩
  | 72 => ⟨S1x1x512, .f32⟩
  | 73 => ⟨S512, .f32⟩
  | 74 => ⟨S1x1x512, .f32⟩
  | 75 => ⟨S1x16384x512, .f32⟩
  | 76 => ⟨S1x16384x512, .f32⟩
  | 77 => ⟨S1x16384x512, .f32⟩
  | 78 => ⟨S1x16384x512, .f32⟩
  | 79 => ⟨S1x1x512, .f32⟩
  | 80 => ⟨S512, .f32⟩
  | 81 => ⟨S1x1x512, .f32⟩
  | 82 => ⟨S1x16384x512, .f32⟩
  | 83 => ⟨S1x16384x512, .f32⟩
  | 84 => ⟨S1x16384x512, .f32⟩
  | 85 => ⟨S1x16384x512, .f32⟩
  | 86 => ⟨S1x1x512, .f32⟩
  | 87 => ⟨S512, .f32⟩
  | 88 => ⟨S1x1x512, .f32⟩
  | 89 => ⟨S1x16384x512, .f32⟩
  | 90 => ⟨S1x16384x512, .f32⟩
  | 91 => ⟨S1x16384x512, .f32⟩
  | 92 => ⟨S1x16384x512, .f32⟩
  | 93 => ⟨S1x1x512, .f32⟩
  | 94 => ⟨S512, .f32⟩
  | 95 => ⟨S1x1x512, .f32⟩
  | 96 => ⟨S1x16384x512, .f32⟩
  | 97 => ⟨S1x16384x512, .f32⟩
  | 98 => ⟨S1x16384x512, .f32⟩
  | 99 => ⟨S1x16384x512, .f32⟩
  | 100 => ⟨S1x1x512, .f32⟩
  | 101 => ⟨S512, .f32⟩
  | 102 => ⟨S1x1x512, .f32⟩
  | 103 => ⟨S1x16384x512, .f32⟩
  | 104 => ⟨S1x16384x512, .f32⟩
  | 105 => ⟨S1x16384x512, .f32⟩
  | 106 => ⟨S1x16384x512, .f32⟩
  | 107 => ⟨S1x1x512, .f32⟩
  | 108 => ⟨S512, .f32⟩
  | 109 => ⟨S1x1x512, .f32⟩
  | 110 => ⟨S1x16384x512, .f32⟩
  | 111 => ⟨S1x16384x512, .f32⟩
  | 112 => ⟨S1x16384x512, .f32⟩
  | 113 => ⟨S1x16384x512, .f32⟩
  | 114 => ⟨S1x1x512, .f32⟩
  | 115 => ⟨S512, .f32⟩
  | 116 => ⟨S1x1x512, .f32⟩
  | 117 => ⟨S1x16384x512, .f32⟩
  | 118 => ⟨S1x16384x512, .f32⟩
  | 119 => ⟨S1x16384x512, .f32⟩
  | 120 => ⟨S1x16384x512, .f32⟩
  | 121 => ⟨S1x1x512, .f32⟩
  | 122 => ⟨S512, .f32⟩
  | 123 => ⟨S1x1x512, .f32⟩
  | 124 => ⟨S1x16384x512, .f32⟩
  | 125 => ⟨S1x16384x512, .f32⟩
  | 126 => ⟨S1x16384x512, .f32⟩
  | 127 => ⟨S1x16384x512, .f32⟩
  | _ => ⟨S1x16384x1024, .f32⟩

abbrev hbmTy0_1 (i : Nat) : BufTy := match i % 128 with
  | 0 => ⟨S1x1x512, .f32⟩
  | 1 => ⟨S512, .f32⟩
  | 2 => ⟨S1x1x512, .f32⟩
  | 3 => ⟨S1x16384x512, .f32⟩
  | 4 => ⟨S1x16384x512, .f32⟩
  | 5 => ⟨S1x16384x512, .f32⟩
  | 6 => ⟨S1x16384x512, .f32⟩
  | 7 => ⟨S1x1x512, .f32⟩
  | 8 => ⟨S512, .f32⟩
  | 9 => ⟨S1x1x512, .f32⟩
  | 10 => ⟨S1x16384x512, .f32⟩
  | 11 => ⟨S1x16384x512, .f32⟩
  | 12 => ⟨S1x16384x512, .f32⟩
  | 13 => ⟨S1x16384x512, .f32⟩
  | 14 => ⟨S1x1x512, .f32⟩
  | 15 => ⟨S512, .f32⟩
  | 16 => ⟨S1x1x512, .f32⟩
  | 17 => ⟨S1x16384x512, .f32⟩
  | 18 => ⟨S1x16384x512, .f32⟩
  | 19 => ⟨S1x16384x512, .f32⟩
  | 20 => ⟨S1x16384x512, .f32⟩
  | 21 => ⟨S1x1x512, .f32⟩
  | 22 => ⟨S512, .f32⟩
  | 23 => ⟨S1x1x512, .f32⟩
  | 24 => ⟨S1x16384x512, .f32⟩
  | 25 => ⟨S1x16384x512, .f32⟩
  | 26 => ⟨S1x16384x512, .f32⟩
  | 27 => ⟨S1x16384x512, .f32⟩
  | 28 => ⟨S1x1x512, .f32⟩
  | 29 => ⟨S512, .f32⟩
  | 30 => ⟨S1x1x512, .f32⟩
  | 31 => ⟨S1x16384x512, .f32⟩
  | 32 => ⟨S1x16384x512, .f32⟩
  | 33 => ⟨S1x16384x512, .f32⟩
  | 34 => ⟨S1x16384x512, .f32⟩
  | 35 => ⟨S1x1x512, .f32⟩
  | 36 => ⟨S512, .f32⟩
  | 37 => ⟨S1x1x512, .f32⟩
  | 38 => ⟨S1x16384x512, .f32⟩
  | 39 => ⟨S1x16384x512, .f32⟩
  | 40 => ⟨S1x16384x512, .f32⟩
  | 41 => ⟨S1x16384x512, .f32⟩
  | 42 => ⟨S1x1x512, .f32⟩
  | 43 => ⟨S512, .f32⟩
  | 44 => ⟨S1x1x512, .f32⟩
  | 45 => ⟨S1x16384x512, .f32⟩
  | 46 => ⟨S1x16384x512, .f32⟩
  | 47 => ⟨S1x16384x512, .f32⟩
  | 48 => ⟨S1x16384x512, .f32⟩
  | 49 => ⟨S1x1x512, .f32⟩
  | 50 => ⟨S512, .f32⟩
  | 51 => ⟨S1x1x512, .f32⟩
  | 52 => ⟨S1x16384x512, .f32⟩
  | 53 => ⟨S1x16384x512, .f32⟩
  | 54 => ⟨S1x16384x512, .f32⟩
  | 55 => ⟨S1x16384x512, .f32⟩
  | 56 => ⟨S1x1x512, .f32⟩
  | 57 => ⟨S512, .f32⟩
  | 58 => ⟨S1x1x512, .f32⟩
  | 59 => ⟨S1x16384x512, .f32⟩
  | 60 => ⟨S1x16384x512, .f32⟩
  | 61 => ⟨S1x16384x512, .f32⟩
  | 62 => ⟨S1x16384x512, .f32⟩
  | 63 => ⟨S1x1x512, .f32⟩
  | 64 => ⟨S512, .f32⟩
  | 65 => ⟨S1x1x512, .f32⟩
  | 66 => ⟨S1x16384x512, .f32⟩
  | 67 => ⟨S1x16384x512, .f32⟩
  | 68 => ⟨S1x16384x512, .f32⟩
  | 69 => ⟨S1x16384x512, .f32⟩
  | 70 => ⟨S1x1x512, .f32⟩
  | 71 => ⟨S512, .f32⟩
  | 72 => ⟨S1x1x512, .f32⟩
  | 73 => ⟨S1x16384x512, .f32⟩
  | 74 => ⟨S1x16384x512, .f32⟩
  | 75 => ⟨S1x16384x512, .f32⟩
  | 76 => ⟨S1x16384x512, .f32⟩
  | 77 => ⟨S1x1x512, .f32⟩
  | 78 => ⟨S512, .f32⟩
  | 79 => ⟨S1x1x512, .f32⟩
  | 80 => ⟨S1x16384x512, .f32⟩
  | 81 => ⟨S1x16384x512, .f32⟩
  | 82 => ⟨S1x16384x512, .f32⟩
  | 83 => ⟨S1x16384x512, .f32⟩
  | 84 => ⟨S1x1x512, .f32⟩
  | 85 => ⟨S512, .f32⟩
  | 86 => ⟨S1x1x512, .f32⟩
  | 87 => ⟨S1x16384x512, .f32⟩
  | 88 => ⟨S1x16384x512, .f32⟩
  | 89 => ⟨S1x16384x512, .f32⟩
  | 90 => ⟨S1x16384x512, .f32⟩
  | 91 => ⟨S1x1x512, .f32⟩
  | 92 => ⟨S512, .f32⟩
  | 93 => ⟨S1x1x512, .f32⟩
  | 94 => ⟨S1x16384x512, .f32⟩
  | 95 => ⟨S1x16384x512, .f32⟩
  | 96 => ⟨S1x16384x512, .f32⟩
  | 97 => ⟨S1x16384x512, .f32⟩
  | 98 => ⟨S1x1x512, .f32⟩
  | 99 => ⟨S512, .f32⟩
  | 100 => ⟨S1x1x512, .f32⟩
  | 101 => ⟨S1x16384x512, .f32⟩
  | 102 => ⟨S1x16384x512, .f32⟩
  | 103 => ⟨S1x16384x512, .f32⟩
  | 104 => ⟨S512, .f32⟩
  | 105 => ⟨S1x1x512, .f32⟩
  | 106 => ⟨S1x16384x512, .f32⟩
  | 107 => ⟨S1x16384x512, .f32⟩
  | 108 => ⟨S512, .f32⟩
  | 109 => ⟨S512, .f32⟩
  | 110 => ⟨S_, .f32⟩
  | 111 => ⟨S1x16384, .f32⟩
  | 112 => ⟨S1x16384x1, .f32⟩
  | 113 => ⟨S_, .f32⟩
  | 114 => ⟨S1x16384x1, .f32⟩
  | 115 => ⟨S1x16384x1, .f32⟩
  | 116 => ⟨S1x16384x512, .f32⟩
  | 117 => ⟨S1x16384x512, .f32⟩
  | 118 => ⟨S1x16384x512, .f32⟩
  | 119 => ⟨S_, .f32⟩
  | 120 => ⟨S1x16384, .f32⟩
  | 121 => ⟨S1x16384x1, .f32⟩
  | 122 => ⟨S_, .f32⟩
  | 123 => ⟨S1x16384x1, .f32⟩
  | 124 => ⟨S1x16384x1, .f32⟩
  | 125 => ⟨S1x16384x512, .f32⟩
  | 126 => ⟨S1x16384x512, .f32⟩
  | 127 => ⟨S_, .f32⟩
  | _ => ⟨S1x16384x1024, .f32⟩

abbrev hbmTy0_2 (i : Nat) : BufTy := match i % 128 with
  | 0 => ⟨S1x16384x1, .f32⟩
  | 1 => ⟨S1x16384x1, .f32⟩
  | 2 => ⟨S1x16384x1, .f32⟩
  | 3 => ⟨S1x16384x512, .f32⟩
  | 4 => ⟨S1x16384x512, .f32⟩
  | 5 => ⟨S1x1x512, .f32⟩
  | 6 => ⟨S1x16384x512, .f32⟩
  | 7 => ⟨S1x16384x512, .f32⟩
  | 8 => ⟨S1x1x512, .f32⟩
  | 9 => ⟨S1x16384x512, .f32⟩
  | 10 => ⟨S1x16384x512, .f32⟩
  | 11 => ⟨S1x16384x512, .f32⟩
  | 12 => ⟨S1x16384x512, .f32⟩
  | 13 => ⟨S_, .f32⟩
  | 14 => ⟨S1x16384x512, .f32⟩
  | 15 => ⟨S1x16384x512, .f32⟩
  | 16 => ⟨S_, .f32⟩
  | 17 => ⟨S1x16384x512, .f32⟩
  | 18 => ⟨S1x16384x512, .f32⟩
  | 19 => ⟨S1x16384x512, .f32⟩
  | 20 => ⟨S1x16384x512, .f32⟩
  | 21 => ⟨S1x16384x1024, .f32⟩
  | 22 => ⟨S1024x1024, .f32⟩
  | 23 => ⟨S1x16384x1024, .f32⟩
  | 24 => ⟨S1x16384x1024, .f32⟩
  | 25 => ⟨S131072x128, .f32⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_cst_0 : Ref sig .tc := ⟨.hbm, 238, rfl⟩
abbrev main_v225 : Ref sig .tc := ⟨.hbm, 239, rfl⟩
abbrev main_v226 : Ref sig .tc := ⟨.hbm, 240, rfl⟩
abbrev main_cst_1 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_cst_2 : Ref sig .tc := ⟨.hbm, 247, rfl⟩
abbrev main_v232 : Ref sig .tc := ⟨.hbm, 248, rfl⟩
abbrev main_v233 : Ref sig .tc := ⟨.hbm, 249, rfl⟩
abbrev main_cst_3 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_cst_4 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x16384x512 : Shape := ⟨3, ![1, 16384, 512]⟩
abbrev S1x31x512 : Shape := ⟨3, ![1, 31, 512]⟩
abbrev S1x512 : Shape := ⟨2, ![1, 512]⟩
abbrev S1x1024x1024 : Shape := ⟨3, ![1, 1024, 1024]⟩
abbrev S2x1024 : Shape := ⟨2, ![2, 1024]⟩
abbrev S2x1024x16 : Shape := ⟨3, ![2, 1024, 16]⟩
abbrev S16384x1024 : Shape := ⟨2, ![16384, 1024]⟩
abbrev S16384x512 : Shape := ⟨2, ![16384, 512]⟩
abbrev S31x512 : Shape := ⟨2, ![31, 512]⟩
abbrev S512 : Shape := ⟨1, ![512]⟩
abbrev S1024x1024 : Shape := ⟨2, ![1024, 1024]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S16x1024 : Shape := ⟨2, ![16, 1024]⟩
abbrev S131072x128 : Shape := ⟨2, ![131072, 128]⟩
abbrev S16x16384 : Shape := ⟨2, ![16, 16384]⟩
abbrev S512x1024 : Shape := ⟨2, ![512, 1024]⟩
abbrev S512x512 : Shape := ⟨2, ![512, 512]⟩
abbrev S16x512 : Shape := ⟨2, ![16, 512]⟩
abbrev S4096x128 : Shape := ⟨2, ![4096, 128]⟩
abbrev S544x512 : Shape := ⟨2, ![544, 512]⟩
abbrev S8x536x512 : Shape := ⟨3, ![8, 536, 512]⟩
abbrev S536x512 : Shape := ⟨2, ![536, 512]⟩
abbrev S1x536x512 : Shape := ⟨3, ![1, 536, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S512x128 : Shape := ⟨2, ![512, 128]⟩
abbrev S512x1 : Shape := ⟨2, ![512, 1]⟩

abbrev nBuf : Space → Nat
  | .hbm => 34
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x16384x512, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S2x1024, .f32⟩
  | .hbm, ⟨9, _⟩ => ⟨S2x1024x16, .f32⟩
  | .hbm, ⟨10, _⟩ => ⟨S16384x1024, .f32⟩
  | .hbm, ⟨11, _⟩ => ⟨S16384x512, .bf16⟩
  | .hbm, ⟨12, _⟩ => ⟨S16384x512, .f32⟩
  | .hbm, ⟨13, _⟩ => ⟨S31x512, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024x16, .f32⟩
  | .hbm, ⟨26, _⟩ => ⟨S1024x16, .f32⟩
  | .hbm, ⟨27, _⟩ => ⟨S16x1024, .f32⟩
  | .hbm, ⟨28, _⟩ => ⟨S16x1024, .bf16⟩
  | .hbm, ⟨29, _⟩ => ⟨S16x1024, .f32⟩
  | .hbm, ⟨30, _⟩ => ⟨S16x1024, .f32⟩
  | .hbm, ⟨31, _⟩ => ⟨S16x1024, .bf16⟩
  | .hbm, ⟨32, _⟩ => ⟨S131072x128, .f32⟩
  | .hbm, ⟨33, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S16x1024, .bf16⟩
  | .local _ .vmem, ⟨17, _⟩ => ⟨S16x1024, .bf16⟩
  | .local _ .vmem, ⟨18, _⟩ => ⟨S4096x128, .f32⟩
  | .local _ .vmem, ⟨19, _⟩ => ⟨S4096x128, .f32⟩
  | .local _ .vmem, ⟨20, _⟩ => ⟨S16x512, .f32⟩
  | .local _ .vmem, ⟨21, _⟩ => ⟨S16x512, .f32⟩
  | .local _ .vmem, ⟨22, _⟩ => ⟨S544x512, .f32⟩
  | .local _ .vmem, ⟨23, _⟩ => ⟨S8x536x512, .f32⟩
  | .local _ .vmem, ⟨24, _⟩ => ⟨S512x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S1x16384x1024 : Shape := ⟨3, ![1, 16384, 1024]⟩
abbrev S1x16384x512 : Shape := ⟨3, ![1, 16384, 512]⟩
abbrev S1x31x512 : Shape := ⟨3, ![1, 31, 512]⟩
abbrev S1x512 : Shape := ⟨2, ![1, 512]⟩
abbrev S1x1024x1024 : Shape := ⟨3, ![1, 1024, 1024]⟩
abbrev S2x1024 : Shape := ⟨2, ![2, 1024]⟩
abbrev S2x1024x16 : Shape := ⟨3, ![2, 1024, 16]⟩
abbrev S_ : Shape := ⟨0, ![]⟩
abbrev S1x16414x512 : Shape := ⟨3, ![1, 16414, 512]⟩
abbrev S1x1x512 : Shape := ⟨3, ![1, 1, 512]⟩
abbrev S512 : Shape := ⟨1, ![512]⟩
abbrev S1x16384 : Shape := ⟨2, ![1, 16384]⟩
abbrev S1x16384x1 : Shape := ⟨3, ![1, 16384, 1]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩
abbrev S1x1024x16 : Shape := ⟨3, ![1, 1024, 16]⟩
abbrev S1024x16 : Shape := ⟨2, ![1024, 16]⟩
abbrev S16384x16 : Shape := ⟨2, ![16384, 16]⟩
abbrev S16x16384 : Shape := ⟨2, ![16, 16384]⟩

abbrev nBuf : Space → Nat
  | .hbm => 304
  | .vmem => 0
  | .smem => 0
  | _ => 0

abbrev hbmTy0_0 (i : Nat) : BufTy := match i % 128 with
  | 0 => ⟨S1x16384x1024, .f32⟩
  | 1 => ⟨S1x16384x512, .bf16⟩
  | 2 => ⟨S1x16384x512, .f32⟩
  | 3 => ⟨S1x31x512, .f32⟩
  | 4 => ⟨S1x512, .f32⟩
  | 5 => ⟨S1x512, .f32⟩
  | 6 => ⟨S1x512, .f32⟩
  | 7 => ⟨S1x1024x1024, .f32⟩
  | 8 => ⟨S2x1024, .f32⟩
  | 9 => ⟨S2x1024x16, .f32⟩
  | 10 => ⟨S_, .i32⟩
  | 11 => ⟨S_, .f32⟩
  | 12 => ⟨S1x16414x512, .f32⟩
  | 13 => ⟨S1x16384x512, .f32⟩
  | 14 => ⟨S1x1x512, .f32⟩
  | 15 => ⟨S512, .f32⟩
  | 16 => ⟨S1x1x512, .f32⟩
  | 17 => ⟨S1x16384x512, .f32⟩
  | 18 => ⟨S1x16384x512, .f32⟩
  | 19 => ⟨S_, .f32⟩
  | 20 => ⟨S1x16384x512, .f32⟩
  | 21 => ⟨S1x16384x512, .f32⟩
  | 22 => ⟨S1x16384x512, .f32⟩
  | 23 => ⟨S1x1x512, .f32⟩
  | 24 => ⟨S512, .f32⟩
  | 25 => ⟨S1x1x512, .f32⟩
  | 26 => ⟨S1x16384x512, .f32⟩
  | 27 => ⟨S1x16384x512, .f32⟩
  | 28 => ⟨S1x16384x512, .f32⟩
  | 29 => ⟨S1x16384x512, .f32⟩
  | 30 => ⟨S1x1x512, .f32⟩
  | 31 => ⟨S512, .f32⟩
  | 32 => ⟨S1x1x512, .f32⟩
  | 33 => ⟨S1x16384x512, .f32⟩
  | 34 => ⟨S1x16384x512, .f32⟩
  | 35 => ⟨S1x16384x512, .f32⟩
  | 36 => ⟨S1x16384x512, .f32⟩
  | 37 => ⟨S1x1x512, .f32⟩
  | 38 => ⟨S512, .f32⟩
  | 39 => ⟨S1x1x512, .f32⟩
  | 40 => ⟨S1x16384x512, .f32⟩
  | 41 => ⟨S1x16384x512, .f32⟩
  | 42 => ⟨S1x16384x512, .f32⟩
  | 43 => ⟨S1x16384x512, .f32⟩
  | 44 => ⟨S1x1x512, .f32⟩
  | 45 => ⟨S512, .f32⟩
  | 46 => ⟨S1x1x512, .f32⟩
  | 47 => ⟨S1x16384x512, .f32⟩
  | 48 => ⟨S1x16384x512, .f32⟩
  | 49 => ⟨S1x16384x512, .f32⟩
  | 50 => ⟨S1x16384x512, .f32⟩
  | 51 => ⟨S1x1x512, .f32⟩
  | 52 => ⟨S512, .f32⟩
  | 53 => ⟨S1x1x512, .f32⟩
  | 54 => ⟨S1x16384x512, .f32⟩
  | 55 => ⟨S1x16384x512, .f32⟩
  | 56 => ⟨S1x16384x512, .f32⟩
  | 57 => ⟨S1x16384x512, .f32⟩
  | 58 => ⟨S1x1x512, .f32⟩
  | 59 => ⟨S512, .f32⟩
  | 60 => ⟨S1x1x512, .f32⟩
  | 61 => ⟨S1x16384x512, .f32⟩
  | 62 => ⟨S1x16384x512, .f32⟩
  | 63 => ⟨S1x16384x512, .f32⟩
  | 64 => ⟨S1x16384x512, .f32⟩
  | 65 => ⟨S1x1x512, .f32⟩
  | 66 => ⟨S512, .f32⟩
  | 67 => ⟨S1x1x512, .f32⟩
  | 68 => ⟨S1x16384x512, .f32⟩
  | 69 => ⟨S1x16384x512, .f32⟩
  | 70 => ⟨S1x16384x512, .f32⟩
  | 71 => ⟨S1x16384x512, .f32⟩
  | 72 => ⟨S1x1x512, .f32⟩
  | 73 => ⟨S512, .f32⟩
  | 74 => ⟨S1x1x512, .f32⟩
  | 75 => ⟨S1x16384x512, .f32⟩
  | 76 => ⟨S1x16384x512, .f32⟩
  | 77 => ⟨S1x16384x512, .f32⟩
  | 78 => ⟨S1x16384x512, .f32⟩
  | 79 => ⟨S1x1x512, .f32⟩
  | 80 => ⟨S512, .f32⟩
  | 81 => ⟨S1x1x512, .f32⟩
  | 82 => ⟨S1x16384x512, .f32⟩
  | 83 => ⟨S1x16384x512, .f32⟩
  | 84 => ⟨S1x16384x512, .f32⟩
  | 85 => ⟨S1x16384x512, .f32⟩
  | 86 => ⟨S1x1x512, .f32⟩
  | 87 => ⟨S512, .f32⟩
  | 88 => ⟨S1x1x512, .f32⟩
  | 89 => ⟨S1x16384x512, .f32⟩
  | 90 => ⟨S1x16384x512, .f32⟩
  | 91 => ⟨S1x16384x512, .f32⟩
  | 92 => ⟨S1x16384x512, .f32⟩
  | 93 => ⟨S1x1x512, .f32⟩
  | 94 => ⟨S512, .f32⟩
  | 95 => ⟨S1x1x512, .f32⟩
  | 96 => ⟨S1x16384x512, .f32⟩
  | 97 => ⟨S1x16384x512, .f32⟩
  | 98 => ⟨S1x16384x512, .f32⟩
  | 99 => ⟨S1x16384x512, .f32⟩
  | 100 => ⟨S1x1x512, .f32⟩
  | 101 => ⟨S512, .f32⟩
  | 102 => ⟨S1x1x512, .f32⟩
  | 103 => ⟨S1x16384x512, .f32⟩
  | 104 => ⟨S1x16384x512, .f32⟩
  | 105 => ⟨S1x16384x512, .f32⟩
  | 106 => ⟨S1x16384x512, .f32⟩
  | 107 => ⟨S1x1x512, .f32⟩
  | 108 => ⟨S512, .f32⟩
  | 109 => ⟨S1x1x512, .f32⟩
  | 110 => ⟨S1x16384x512, .f32⟩
  | 111 => ⟨S1x16384x512, .f32⟩
  | 112 => ⟨S1x16384x512, .f32⟩
  | 113 => ⟨S1x16384x512, .f32⟩
  | 114 => ⟨S1x1x512, .f32⟩
  | 115 => ⟨S512, .f32⟩
  | 116 => ⟨S1x1x512, .f32⟩
  | 117 => ⟨S1x16384x512, .f32⟩
  | 118 => ⟨S1x16384x512, .f32⟩
  | 119 => ⟨S1x16384x512, .f32⟩
  | 120 => ⟨S1x16384x512, .f32⟩
  | 121 => ⟨S1x1x512, .f32⟩
  | 122 => ⟨S512, .f32⟩
  | 123 => ⟨S1x1x512, .f32⟩
  | 124 => ⟨S1x16384x512, .f32⟩
  | 125 => ⟨S1x16384x512, .f32⟩
  | 126 => ⟨S1x16384x512, .f32⟩
  | 127 => ⟨S1x16384x512, .f32⟩
  | _ => ⟨S1x16384x1024, .f32⟩

abbrev hbmTy0_1 (i : Nat) : BufTy := match i % 128 with
  | 0 => ⟨S1x1x512, .f32⟩
  | 1 => ⟨S512, .f32⟩
  | 2 => ⟨S1x1x512, .f32⟩
  | 3 => ⟨S1x16384x512, .f32⟩
  | 4 => ⟨S1x16384x512, .f32⟩
  | 5 => ⟨S1x16384x512, .f32⟩
  | 6 => ⟨S1x16384x512, .f32⟩
  | 7 => ⟨S1x1x512, .f32⟩
  | 8 => ⟨S512, .f32⟩
  | 9 => ⟨S1x1x512, .f32⟩
  | 10 => ⟨S1x16384x512, .f32⟩
  | 11 => ⟨S1x16384x512, .f32⟩
  | 12 => ⟨S1x16384x512, .f32⟩
  | 13 => ⟨S1x16384x512, .f32⟩
  | 14 => ⟨S1x1x512, .f32⟩
  | 15 => ⟨S512, .f32⟩
  | 16 => ⟨S1x1x512, .f32⟩
  | 17 => ⟨S1x16384x512, .f32⟩
  | 18 => ⟨S1x16384x512, .f32⟩
  | 19 => ⟨S1x16384x512, .f32⟩
  | 20 => ⟨S1x16384x512, .f32⟩
  | 21 => ⟨S1x1x512, .f32⟩
  | 22 => ⟨S512, .f32⟩
  | 23 => ⟨S1x1x512, .f32⟩
  | 24 => ⟨S1x16384x512, .f32⟩
  | 25 => ⟨S1x16384x512, .f32⟩
  | 26 => ⟨S1x16384x512, .f32⟩
  | 27 => ⟨S1x16384x512, .f32⟩
  | 28 => ⟨S1x1x512, .f32⟩
  | 29 => ⟨S512, .f32⟩
  | 30 => ⟨S1x1x512, .f32⟩
  | 31 => ⟨S1x16384x512, .f32⟩
  | 32 => ⟨S1x16384x512, .f32⟩
  | 33 => ⟨S1x16384x512, .f32⟩
  | 34 => ⟨S1x16384x512, .f32⟩
  | 35 => ⟨S1x1x512, .f32⟩
  | 36 => ⟨S512, .f32⟩
  | 37 => ⟨S1x1x512, .f32⟩
  | 38 => ⟨S1x16384x512, .f32⟩
  | 39 => ⟨S1x16384x512, .f32⟩
  | 40 => ⟨S1x16384x512, .f32⟩
  | 41 => ⟨S1x16384x512, .f32⟩
  | 42 => ⟨S1x1x512, .f32⟩
  | 43 => ⟨S512, .f32⟩
  | 44 => ⟨S1x1x512, .f32⟩
  | 45 => ⟨S1x16384x512, .f32⟩
  | 46 => ⟨S1x16384x512, .f32⟩
  | 47 => ⟨S1x16384x512, .f32⟩
  | 48 => ⟨S1x16384x512, .f32⟩
  | 49 => ⟨S1x1x512, .f32⟩
  | 50 => ⟨S512, .f32⟩
  | 51 => ⟨S1x1x512, .f32⟩
  | 52 => ⟨S1x16384x512, .f32⟩
  | 53 => ⟨S1x16384x512, .f32⟩
  | 54 => ⟨S1x16384x512, .f32⟩
  | 55 => ⟨S1x16384x512, .f32⟩
  | 56 => ⟨S1x1x512, .f32⟩
  | 57 => ⟨S512, .f32⟩
  | 58 => ⟨S1x1x512, .f32⟩
  | 59 => ⟨S1x16384x512, .f32⟩
  | 60 => ⟨S1x16384x512, .f32⟩
  | 61 => ⟨S1x16384x512, .f32⟩
  | 62 => ⟨S1x16384x512, .f32⟩
  | 63 => ⟨S1x1x512, .f32⟩
  | 64 => ⟨S512, .f32⟩
  | 65 => ⟨S1x1x512, .f32⟩
  | 66 => ⟨S1x16384x512, .f32⟩
  | 67 => ⟨S1x16384x512, .f32⟩
  | 68 => ⟨S1x16384x512, .f32⟩
  | 69 => ⟨S1x16384x512, .f32⟩
  | 70 => ⟨S1x1x512, .f32⟩
  | 71 => ⟨S512, .f32⟩
  | 72 => ⟨S1x1x512, .f32⟩
  | 73 => ⟨S1x16384x512, .f32⟩
  | 74 => ⟨S1x16384x512, .f32⟩
  | 75 => ⟨S1x16384x512, .f32⟩
  | 76 => ⟨S1x16384x512, .f32⟩
  | 77 => ⟨S1x1x512, .f32⟩
  | 78 => ⟨S512, .f32⟩
  | 79 => ⟨S1x1x512, .f32⟩
  | 80 => ⟨S1x16384x512, .f32⟩
  | 81 => ⟨S1x16384x512, .f32⟩
  | 82 => ⟨S1x16384x512, .f32⟩
  | 83 => ⟨S1x16384x512, .f32⟩
  | 84 => ⟨S1x1x512, .f32⟩
  | 85 => ⟨S512, .f32⟩
  | 86 => ⟨S1x1x512, .f32⟩
  | 87 => ⟨S1x16384x512, .f32⟩
  | 88 => ⟨S1x16384x512, .f32⟩
  | 89 => ⟨S1x16384x512, .f32⟩
  | 90 => ⟨S1x16384x512, .f32⟩
  | 91 => ⟨S1x1x512, .f32⟩
  | 92 => ⟨S512, .f32⟩
  | 93 => ⟨S1x1x512, .f32⟩
  | 94 => ⟨S1x16384x512, .f32⟩
  | 95 => ⟨S1x16384x512, .f32⟩
  | 96 => ⟨S1x16384x512, .f32⟩
  | 97 => ⟨S1x16384x512, .f32⟩
  | 98 => ⟨S1x1x512, .f32⟩
  | 99 => ⟨S512, .f32⟩
  | 100 => ⟨S1x1x512, .f32⟩
  | 101 => ⟨S1x16384x512, .f32⟩
  | 102 => ⟨S1x16384x512, .f32⟩
  | 103 => ⟨S1x16384x512, .f32⟩
  | 104 => ⟨S512, .f32⟩
  | 105 => ⟨S1x1x512, .f32⟩
  | 106 => ⟨S1x16384x512, .f32⟩
  | 107 => ⟨S1x16384x512, .f32⟩
  | 108 => ⟨S512, .f32⟩
  | 109 => ⟨S512, .f32⟩
  | 110 => ⟨S_, .f32⟩
  | 111 => ⟨S1x16384, .f32⟩
  | 112 => ⟨S1x16384x1, .f32⟩
  | 113 => ⟨S_, .f32⟩
  | 114 => ⟨S1x16384x1, .f32⟩
  | 115 => ⟨S1x16384x1, .f32⟩
  | 116 => ⟨S1x16384x512, .f32⟩
  | 117 => ⟨S1x16384x512, .f32⟩
  | 118 => ⟨S1x16384x512, .f32⟩
  | 119 => ⟨S_, .f32⟩
  | 120 => ⟨S1x16384, .f32⟩
  | 121 => ⟨S1x16384x1, .f32⟩
  | 122 => ⟨S_, .f32⟩
  | 123 => ⟨S1x16384x1, .f32⟩
  | 124 => ⟨S1x16384x1, .f32⟩
  | 125 => ⟨S1x16384x512, .f32⟩
  | 126 => ⟨S1x16384x512, .f32⟩
  | 127 => ⟨S_, .f32⟩
  | _ => ⟨S1x16384x1024, .f32⟩

abbrev hbmTy0_2 (i : Nat) : BufTy := match i % 128 with
  | 0 => ⟨S1x16384x1, .f32⟩
  | 1 => ⟨S1x16384x1, .f32⟩
  | 2 => ⟨S1x16384x1, .f32⟩
  | 3 => ⟨S1x16384x512, .f32⟩
  | 4 => ⟨S1x16384x512, .f32⟩
  | 5 => ⟨S1x1x512, .f32⟩
  | 6 => ⟨S1x16384x512, .f32⟩
  | 7 => ⟨S1x16384x512, .f32⟩
  | 8 => ⟨S1x1x512, .f32⟩
  | 9 => ⟨S1x16384x512, .f32⟩
  | 10 => ⟨S1x16384x512, .f32⟩
  | 11 => ⟨S1x16384x512, .f32⟩
  | 12 => ⟨S1x16384x512, .f32⟩
  | 13 => ⟨S_, .f32⟩
  | 14 => ⟨S1x16384x512, .f32⟩
  | 15 => ⟨S1x16384x512, .f32⟩
  | 16 => ⟨S_, .f32⟩
  | 17 => ⟨S1x16384x512, .f32⟩
  | 18 => ⟨S1x16384x512, .f32⟩
  | 19 => ⟨S1x16384x512, .f32⟩
  | 20 => ⟨S1x16384x512, .f32⟩
  | 21 => ⟨S1x16384x1024, .f32⟩
  | 22 => ⟨S1024x1024, .f32⟩
  | 23 => ⟨S1x16384x1024, .f32⟩
  | 24 => ⟨S1x16384x1024, .f32⟩
  | 25 => ⟨S1x1024, .f32⟩
  | 26 => ⟨S1024, .f32⟩
  | 27 => ⟨S1x16384x1024, .f32⟩
  | 28 => ⟨S_, .f32⟩
  | 29 => ⟨S1x16384, .f32⟩
  | 30 => ⟨S1x16384x1, .f32⟩
  | 31 => ⟨S_, .f32⟩
  | 32 => ⟨S1x16384x1, .f32⟩
  | 33 => ⟨S1x16384x1, .f32⟩
  | 34 => ⟨S_, .f32⟩
  | 35 => ⟨S1x16384x1, .f32⟩
  | 36 => ⟨S1x16384x1, .f32⟩
  | 37 => ⟨S1x16384x1, .f32⟩
  | 38 => ⟨S1x16384x1024, .f32⟩
  | 39 => ⟨S1x16384x1024, .f32⟩
  | 40 => ⟨S1x1x1024, .f32⟩
  | 41 => ⟨S1x16384x1024, .f32⟩
  | 42 => ⟨S1x16384x1024, .f32⟩
  | 43 => ⟨S16384x1024, .f32⟩
  | 44 => ⟨S1x1024x16, .f32⟩
  | 45 => ⟨S1024x16, .f32⟩
  | 46 => ⟨S16384x16, .f32⟩
  | 47 => ⟨S16x16384, .f32⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_cst_0 : Ref sig .tc := ⟨.hbm, 238, rfl⟩
abbrev main_v225 : Ref sig .tc := ⟨.hbm, 239, rfl⟩
abbrev main_v226 : Ref sig .tc := ⟨.hbm, 240, rfl⟩
abbrev main_cst_1 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_cst_2 : Ref sig .tc := ⟨.hbm, 247, rfl⟩
abbrev main_v232 : Ref sig .tc := ⟨.hbm, 248, rfl⟩
abbrev main_v233 : Ref sig .tc := ⟨.hbm, 249, rfl⟩
abbrev main_cst_3 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_cst_4 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_cst_5 : Ref sig .tc := ⟨.hbm, 284, rfl⟩
abbrev main_v258 : Ref sig .tc := ⟨.hbm, 285, rfl⟩
abbrev main_v259 : Ref sig .tc := ⟨.hbm, 286, rfl⟩
abbrev main_cst_6 : Ref sig .tc := ⟨.hbm, 287, rfl⟩
abbrev main_v260 : Ref sig .tc := ⟨.hbm, 288, rfl⟩
abbrev main_v261 : Ref sig .tc := ⟨.hbm, 289, rfl⟩
abbrev main_cst_7 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩

abbrev nD : Nat := 1
abbrev τ : Topo := Topo.v7x

variable {F : FTy → Type} [FloatOps F]
-- ==== Proof.Front.Spec.lean ====
/-
  The mathematics of the layer's first call, row by row over the extended reals: the root-mean-square norm of one
  token, its input projection, the exact GELU, the layer norm of the gating half, the mixing of 128 positions by one
  head's matrix, and the gated linear unit.
-/
module

public import Idealize.ShloMosaic.Lib.Pointwise

@[expose] public section

noncomputable section

namespace Cert.Front

open Idealize.ShloMosaic

/-- The root-mean-square norm of the token `x` with the gain `g`, at channel `k`. -/
def rms (x g : Fin 1024 → EReal) (k : Fin 1024) : EReal :=
  x k * Ideal.rsqrt (Ideal.div (∑ j, x j * x j) (Ideal.ofBits .f32 1149239296#32) + Ideal.ofBits .f32 897988541#32) * g k

/-- The normed token `x` against one column `w` of the input projection. -/
def proj (x g w : Fin 1024 → EReal) : EReal := ∑ k, rms x g k * w k

/-- The exact GELU: half of `y` times one plus the error function of `y / √2`. -/
def gelu (y : EReal) : EReal :=
  Ideal.ofBits .f32 1056964608#32 * y * (1 + FloatOps.erf (F := Ideal) (φ := .f32) (y * Ideal.ofBits .f32 1060439283#32))

/-- The mean of 512 values. -/
def mean (z : Fin 512 → EReal) : EReal := Ideal.div (∑ n, z n) (Ideal.ofBits .f32 1140850688#32)

/-- The layer norm of 512 values with gain `g` and bias `b`, at channel `n`. -/
def ln (z g b : Fin 512 → EReal) (n : Fin 512) : EReal :=
  (z n - mean z) * Ideal.rsqrt (mean (fun k => (z k - mean z) * (z k - mean z)) + Ideal.ofBits .f32 925353388#32) * g n + b n

/-- The half of the token that is gated, at channel `n`. -/
def gated (x g : Fin 1024 → EReal) (W : Fin 1024 → Fin 2048 → EReal) (n : Fin 512) : EReal :=
  gelu (proj x g fun k => W k ⟨n.val, by omega⟩)

/-- The half of the token that gates, after its layer norm, at channel `n`. -/
def gating (x g : Fin 1024 → EReal) (W : Fin 1024 → Fin 2048 → EReal) (vg vb : Fin 512 → EReal) (n : Fin 512) : EReal :=
  ln (fun j => gelu (proj x g fun k => W k ⟨512 + j.val, by omega⟩)) vg vb n

/-- The gated linear unit of the token, at channel `n`: one projected half times the logistic of the other. -/
def glu (x g : Fin 1024 → EReal) (W : Fin 1024 → Fin 2048 → EReal) (n : Fin 512) : EReal :=
  proj x g (fun k => W k ⟨1024 + n.val, by omega⟩) * Ideal.logistic (proj x g fun k => W k ⟨1536 + n.val, by omega⟩)

/-- The spatial gating at one token and channel: the gated value `u` times the weighted sum of the chunk's 128 gating
    values, plus the position's bias. -/
def mix (u : EReal) (w v : Fin 128 → EReal) (b : EReal) : EReal := u * (∑ p, w p * v p + b)

/-- The first result at token `r` and channel `n`: head `n / 128` mixes the 128 tokens of `r`'s chunk. -/
def outA (X : Fin 16384 → Fin 1024 → EReal) (g : Fin 1024 → EReal) (W : Fin 1024 → Fin 2048 → EReal)
    (vg vb : Fin 512 → EReal) (ws : Fin 4 → Fin 128 → Fin 128 → EReal) (bs : Fin 4 → Fin 128 → EReal)
    (r : Fin 16384) (n : Fin 512) : EReal :=
  mix (gated (X r) g W n) (ws ⟨n.val / 128, by omega⟩ ⟨r.val % 128, by omega⟩)
    (fun p => gating (X ⟨r.val / 128 * 128 + p.val, by omega⟩) g W vg vb n)
    (bs ⟨n.val / 128, by omega⟩ ⟨r.val % 128, by omega⟩)

/-- The first result as an array of the call's seven arguments. -/
def G0 (x : FVec Ideal ⟨3, ![1, 16384, 1024]⟩ .f32) (g : FVec Ideal ⟨2, ![2, 1024]⟩ .f32)
    (W : FVec Ideal ⟨3, ![1, 1024, 2048]⟩ .f32) (vg vb : FVec Ideal ⟨2, ![1, 512]⟩ .f32)
    (ws : FVec Ideal ⟨4, ![1, 4, 128, 128]⟩ .f32) (bs : FVec Ideal ⟨3, ![1, 4, 128]⟩ .f32) :
    FVec Ideal ⟨2, ![16384, 512]⟩ .bf16 := fun j =>
  outA (fun r k => x (ix3 0 r k)) (fun k => g (ix2 0 k)) (fun k n => W (ix3 0 k n)) (fun n => vg (ix2 0 n))
    (fun n => vb (ix2 0 n)) (fun h q p => ws (ix4 0 h q p)) (fun h q => bs (ix3 0 h q)) (j 0) (j 1)

/-- The second result as an array of the call's arguments. -/
def G1 (x : FVec Ideal ⟨3, ![1, 16384, 1024]⟩ .f32) (g : FVec Ideal ⟨2, ![2, 1024]⟩ .f32)
    (W : FVec Ideal ⟨3, ![1, 1024, 2048]⟩ .f32) : FVec Ideal ⟨2, ![16384, 512]⟩ .f32 := fun j =>
  glu (fun k => x (ix3 0 (j 0) k)) (fun k => g (ix2 0 k)) (fun k n => W (ix3 0 k n)) (j 1)

end Cert.Front
-- ==== Proof.Front.Payloads.lean ====
/- The kernel's body at one grid point, read index by index. -/
module

public import proofs.«01_k».proof.Proof.Front.Spec
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Front

open Cert.KernelIdeal Cert.KernelIdeal.Gen Idealize.ShloMosaic Idealize.ShloMosaic.TcCoe

/-- The body's normed tokens. -/
theorem pay2_at (v0 : Vec Ideal S512x1024 .f32) (v2 : Vec Ideal S1x1024 .f32) (r : Fin 512) (k : Fin 1024) :
    k0_pay2 v0 v2 (ix2 r k) = rms (fun j => v0 (ix2 r j)) (fun j => v2 (ix2 0 j)) k := by
  pointwise [k0_pay2]; rfl

/-- The body's projection onto 512 columns, before the gating half's GELU. -/
theorem pay4_at (v0 : Vec Ideal S512x1024 .f32) (v2 : Vec Ideal S1x1024 .f32) (w : Vec Ideal S1024x512 .bf16)
    (r n : Fin 512) : k0_pay4 v0 v2 w (ix2 r n)
      = proj (fun j => v0 (ix2 r j)) (fun j => v2 (ix2 0 j)) fun k => w (ix2 k n) := by
  pointwise [k0_pay4]; simp only [pay2_at]; rfl

/-- The body's gated half. -/
theorem pay3_at (v0 : Vec Ideal S512x1024 .f32) (v2 : Vec Ideal S1x1024 .f32) (w : Vec Ideal S1024x512 .bf16)
    (r n : Fin 512) : k0_pay3 v0 v2 w (ix2 r n)
      = gelu (proj (fun j => v0 (ix2 r j)) (fun j => v2 (ix2 0 j)) fun k => w (ix2 k n)) := by
  pointwise [k0_pay3]; simp only [pay2_at]; rfl

/-- The body's gating half after its layer norm. -/
theorem pay7_at (v0 : Vec Ideal S512x1024 .f32) (v2 : Vec Ideal S1x1024 .f32) (w : Vec Ideal S1024x512 .bf16)
    (g b : Vec Ideal S1x512 .f32) (r n : Fin 512) :
    k0_pay7 (k0_pay5 v0 v2 w) (k0_pay6 v0 v2 w) g b (ix2 r n)
      = ln (fun j => gelu (proj (fun i => v0 (ix2 r i)) (fun i => v2 (ix2 0 i)) fun k => w (ix2 k j)))
          (fun j => g (ix2 0 j)) (fun j => b (ix2 0 j)) n := by
  have h5 : ∀ n, k0_pay5 v0 v2 w (ix2 r n) = Ideal.ofBits .f32 1056964608#32
      * (proj (fun i => v0 (ix2 r i)) (fun i => v2 (ix2 0 i)) fun k => w (ix2 k n)) := fun n => by
    pointwise [k0_pay5]; rw [pay4_at]
  have h6 : ∀ n, k0_pay6 v0 v2 w (ix2 r n)
      = (proj (fun i => v0 (ix2 r i)) (fun i => v2 (ix2 0 i)) fun k => w (ix2 k n)) * Ideal.ofBits .f32 1060439283#32 := fun n => by
    pointwise [k0_pay6]; rw [pay4_at]
  pointwise [k0_pay7]; simp only [h5, h6]; rfl

/-- The body's gated linear unit. -/
theorem pay8_at (v0 : Vec Ideal S512x1024 .f32) (v2 : Vec Ideal S1x1024 .f32) (a b : Vec Ideal S1024x512 .bf16)
    (r n : Fin 512) : k0_pay8 (k0_pay2 v0 v2) a b (ix2 r n)
      = proj (fun j => v0 (ix2 r j)) (fun j => v2 (ix2 0 j)) (fun k => a (ix2 k n))
        * Ideal.logistic (proj (fun j => v0 (ix2 r j)) (fun j => v2 (ix2 0 j)) fun k => b (ix2 k n)) := by
  pointwise [k0_pay8]; simp only [pay2_at]; rfl

variable (m : (ℓ : Loc nD τ sig) → Buf (Elt Ideal) ℓ)

set_option maxHeartbeats 4000000 in
/-- One grid point's block of the first result, from the blocks it reads: the 16 stored tiles, head by head and chunk by
    chunk, are one formula. -/
theorem block7 (c : Dev nD) (t : Fin cfg0.N) (r n : Fin 512) : (outsAt0 m c t).1 (ix2 r n)
    = mix (gelu (proj (fun j => iblk m c 0 t (ix2 r j)) (fun j => iblk m c 1 t (ix2 0 j))
          fun k => iblk m c 2 t (ix2 k ⟨n.val, by omega⟩)))
        (fun p => iblk m c 5 t (ix3 ⟨n.val / 128, by omega⟩ ⟨r.val % 128, by omega⟩ p))
        (fun p => ln (fun j => gelu (proj (fun i => iblk m c 0 t (ix2 ⟨r.val / 128 * 128 + p.val, by omega⟩ i))
            (fun i => iblk m c 1 t (ix2 0 i)) fun k => iblk m c 2 t (ix2 k ⟨512 + j.val, by omega⟩)))
          (fun j => iblk m c 3 t (ix2 0 j)) (fun j => iblk m c 4 t (ix2 0 j)) n)
        (iblk m c 6 t (ix2 ⟨r.val % 128, by omega⟩ n)) := by
  unfold outsAt0
  frame_open
  simp (disch := decide) only [↓ View.readCov_skip, ↓ View.readCov_cons_toLoadRect, ↓ View.readCov_fill]
  frame_out
  canon_tiles x h
  all_goals
    open_payloads
    idx_vars x
    pointwise
    simp only [mix, gelu, proj, ln, mean, rms]
    reads_congr
  all_goals
    refine congrArg _ ?_
    congr 1 <;> (apply Fin.ext; first | rfl | (dsimp only; omega) | (show 0 = n.val / 128; omega) | (show 1 = n.val / 128; omega))

/-- One grid point's block of the second result, from the blocks it reads. -/
theorem block8 (c : Dev nD) (t : Fin cfg0.N) (r n : Fin 512) : (outsAt0 m c t).2 (ix2 r n)
    = proj (fun j => iblk m c 0 t (ix2 r j)) (fun j => iblk m c 1 t (ix2 0 j))
        (fun k => iblk m c 2 t (ix2 k ⟨1024 + n.val, by omega⟩))
      * Ideal.logistic (proj (fun j => iblk m c 0 t (ix2 r j)) (fun j => iblk m c 1 t (ix2 0 j))
        (fun k => iblk m c 2 t (ix2 k ⟨1536 + n.val, by omega⟩))) := by
  unfold outsAt0
  frame_out
  rw [pay8_at]
  pointwise

end Cert.Front
-- ==== Proof.Front.KernelValue.lean ====
/- The kernel's two result arrays after its run, as the mathematics of Spec.lean. -/
module

public import proofs.«01_k».proof.Proof.Front.Payloads

@[expose] public section

set_option maxRecDepth 16384

noncomputable section

namespace Cert.Front

open Cert.KernelIdeal Cert.KernelIdeal.Gen Idealize.ShloMosaic Idealize.ShloMosaic.TcCoe

variable (m : (ℓ : Loc nD τ sig) → Buf (Elt Ideal) ℓ)

/-- Where each window stands at grid point `t`: the token windows at block `t`, the weights at their only block. -/
theorem index_facts : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0, 0]
    ∧ win0_6.index t = ![0, 0] ∧ win0_7.index t = ![t.val, 0] ∧ win0_8.index t = ![t.val, 0] :=
  (by decide +kernel : ∀ t : Fin grid0.N, _)

/-- The kernel's first result array is the spatially gated half. -/
theorem arr7 (c : Dev nD) : (dats m 0 c).arrAt 7 cfg0.N
    = G0 (m (c.tc.loc main_arg0)) (m (c.tc.loc main_arg1)) (m (c.tc.loc main_arg2)) (m (c.tc.loc main_arg3))
          (m (c.tc.loc main_arg4)) (m (c.tc.loc main_arg5)) (m (c.tc.loc main_arg6)) := by
  refine (dats m 0 c).arrAt_eq_of_covers 7 _ (by decide +kernel) fun t hf y => ?_
  blk_simp
  rw [after0_7]
  obtain ⟨h0, h1, h2, h3, h4, h5, h6, h7, h8⟩ := index_facts t
  have key : ∀ y : S512x512.Idx, (outsAt0 m c t).1 y
      = G0 (m (c.tc.loc main_arg0)) (m (c.tc.loc main_arg1)) (m (c.tc.loc main_arg2)) (m (c.tc.loc main_arg3))
          (m (c.tc.loc main_arg4)) (m (c.tc.loc main_arg5)) (m (c.tc.loc main_arg6)) ((win0_7.blk t).view.emb y) := by
    intro y
    idx_vars y
    rw [block7]
    simp only [G0, outA, mix, gated, gating, gelu, ln, mean, proj, rms]
    blk_point [iblk, h0, h1, h2, h3, h4, h5, h6, h7]
  exact key y

/-- The kernel's second result array is the gated linear unit. -/
theorem arr8 (c : Dev nD) : (dats m 0 c).arrAt 8 cfg0.N
    = G1 (m (c.tc.loc main_arg0)) (m (c.tc.loc main_arg1)) (m (c.tc.loc main_arg2)) := by
  refine (dats m 0 c).arrAt_eq_of_covers 8 _ (by decide +kernel) fun t hf y => ?_
  blk_simp
  rw [after0_8]
  obtain ⟨h0, h1, h2, h3, h4, h5, h6, h7, h8⟩ := index_facts t
  have key : ∀ y : S512x512.Idx, (outsAt0 m c t).2 y
      = G1 (m (c.tc.loc main_arg0)) (m (c.tc.loc main_arg1)) (m (c.tc.loc main_arg2)) ((win0_8.blk t).view.emb y) := by
    intro y
    idx_vars y
    rw [block8]
    simp only [G1, glu, proj, rms]
    blk_point [iblk, h0, h1, h2, h8]
  exact key y

end Cert.Front
-- ==== Proof.Front.Ref.lean ====
/- The reference's two results, index by index, as the mathematics of Spec.lean. -/
module

public import proofs.«01_k».proof.Proof.Front.Spec
public import proofs.«01_k».proof.Proof.Gen.ReferenceIdeal.Run
public import Idealize.ShloMosaic.Lib.Tactic.CleanTypes
public import Idealize.ShloMosaic.PureOps.Ideal.Laws

@[expose] public section

set_option maxRecDepth 16384

noncomputable section

namespace Cert.Front

open Cert.ReferenceIdeal Cert.ReferenceIdeal.Gen Idealize.ShloMosaic Idealize.ShloMosaic.TcCoe

/-- The exact GELU spelled with the complementary error function. -/
theorem gelu_erfc (y : EReal) :
    Ideal.ofBits .f32 1056964608#32 * y * Ideal.erfc (-y * Ideal.ofBits .f32 1060439283#32) = gelu y := by
  rw [neg_mul, Ideal.erfc_neg]; rfl

variable (m : (ℓ : Loc nD τ sig) → Buf (Elt Ideal) ℓ)

/-- The reference's first result: the spatially gated half. -/
theorem ref0_at (c : Dev nD) (r : Fin 16384) (n : Fin 512) : Value.res_main_v74 m c (ix2 r n)
    = outA (fun r k => m (c.tc.loc main_arg0) (ix3 0 r k)) (fun k => m (c.tc.loc main_arg1) (ix2 0 k))
        (fun k n => m (c.tc.loc main_arg2) (ix3 0 k n)) (fun n => m (c.tc.loc main_arg3) (ix2 0 n))
        (fun n => m (c.tc.loc main_arg4) (ix2 0 n)) (fun h q p => m (c.tc.loc main_arg5) (ix4 0 h q p))
        (fun h q => m (c.tc.loc main_arg6) (ix3 0 h q)) r n := by
  unfold Value.res_main_v74
  clean_types
  pointwise
  simp only [gelu_erfc]
  unfold outA mix
  refine congrArg₂ _ ?_ (congrArg₂ _ (Finset.sum_congr rfl fun p _ => ?_) rfl)
  · rfl
  · rw [mul_comm]
    rfl

/-- The reference's run: both results as the mathematics, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v74) = G0 (m (c.tc.loc main_arg0)) (m (c.tc.loc main_arg1)) (m (c.tc.loc main_arg2))
          (m (c.tc.loc main_arg3)) (m (c.tc.loc main_arg4)) (m (c.tc.loc main_arg5)) (m (c.tc.loc main_arg6))
      ∧ r.2.mem (c.tc.loc main_v75) = G1 (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun _ h c => ⟨(h c).1.trans (by
      funext j
      idx_vars j
      exact ref0_at m c _ _), (h c).2.1.trans (by
      funext j
      idx_vars j
      clean_types
      pointwise
      rfl), (h c).2.2⟩) (Value.run m ρ)

end Cert.Front
-- ==== Proof.Ffn.Rows.lean ====
/-
  The expert layer's row gather: the views one row copy names (a row of the token array in HBM, the row's place in
  a slot of the gather buffer), the elements they cover, what a slot holds once its copies have landed, and what one
  copy delivers.
-/
module

public import proofs.«01_k».proof.Proof.Gen.Kernel2Ideal.Frame
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.ValueIdx (ix2 ix3 reshapeEquiv_ix2_1ab)

variable {F : FTy → Type} [FloatOps F]

local notation "𝕄" => MT nD τ sig Unit (Elt F) ℕ (Pipeline.UD sig nD τ) ℕ

/-! ## The two ends of a row copy -/

theorem inb_dst (s : Fin 2) (r : Fin 512) :
    ∀ a, (![s.val, 8 * r.val, 0] : Fin 3 → Nat) a + S1x8x128.size a ≤ S2x4096x128.size a := by
  intro a; fin_cases a
  · show s.val + 1 ≤ 2; omega
  · show 8 * r.val + 8 ≤ 4096; omega
  · show 0 + 128 ≤ 128; omega

theorem inb_src (n : Fin 16384) : ∀ a, (![n.val, 0, 0] : Fin 3 → Nat) a + S1x8x128.size a ≤ S16384x8x128.size a := by
  intro a; fin_cases a
  · show n.val + 1 ≤ 16384; omega
  · show 0 + 8 ≤ 8; omega
  · show 0 + 128 ≤ 128; omega

/-- Row `r`'s place in slot `s` of the gather buffer. -/
def rowDst (s : Fin 2) (r : Fin 512) : Memref sig .tc .vmem S8x128 .f32 :=
  ((Memref.whole cc0_scratch0 : Memref sig .tc .vmem S2x4096x128 .f32).slice (Rect.unit (s := S2x4096x128) ![s.val, 8 * r.val, 0] S1x8x128.size (inb_dst s r))
    (fun _ => rfl)).squeeze S8x128 squeezes_S1x8x128_S8x128

/-- Token row `n` of the activations in HBM. -/
def rowSrc (n : Fin 16384) : Memref sig .tc .hbm S8x128 .f32 :=
  ((Memref.whole main_v6 : Memref sig .tc .hbm S16384x8x128 .f32).slice (Rect.unit (s := S16384x8x128) ![n.val, 0, 0] S1x8x128.size (inb_src n))
    (fun _ => rfl)).squeeze S8x128 squeezes_S1x8x128_S8x128

theorem rowDst_set (s : Fin 2) (r : Fin 512) :
    (rowDst s r).view.set = (Rect.unit (s := S2x4096x128) ![s.val, 8 * r.val, 0] S1x8x128.size (inb_dst s r)).set := by
  unfold rowDst; exact (View.set_reshape _ _).trans (View.set_slice_whole _ _)

/-- The elements of row `r`'s place: the slot's, eight sublanes from `8 r` on. -/
abbrev rowSet (s : Fin 2) (r : Fin 512) : Finset S2x4096x128.Idx :=
  (Rect.unit (s := S2x4096x128) ![s.val, 8 * r.val, 0] S1x8x128.size (inb_dst s r)).set

theorem mem_rowSet (s : Fin 2) (r : Fin 512) (y : S2x4096x128.Idx) :
    y ∈ rowSet s r ↔ (y 0).val = s.val ∧ (y 1).val / 8 = r.val := by
  rw [Rect.mem_set_unit]
  have h2 : (y 2).val < 128 := (y 2).isLt
  constructor
  · intro H
    have a0 : s.val ≤ (y 0).val ∧ (y 0).val < s.val + 1 := H 0
    have a1 : 8 * r.val ≤ (y 1).val ∧ (y 1).val < 8 * r.val + 8 := H 1
    omega
  · intro H a; fin_cases a
    · show s.val ≤ (y 0).val ∧ (y 0).val < s.val + 1; omega
    · show 8 * r.val ≤ (y 1).val ∧ (y 1).val < 8 * r.val + 8; omega
    · show 0 ≤ (y 2).val ∧ (y 2).val < 0 + 128; omega

/-- Slot `s`'s elements. -/
def slotSet (s : Fin 2) : Finset S2x4096x128.Idx := Finset.univ.filter fun y => (y 0).val = s.val

theorem mem_slotSet (s : Fin 2) (y : S2x4096x128.Idx) : y ∈ slotSet s ↔ (y 0).val = s.val := by
  unfold slotSet; simp

theorem rowSet_disjoint (s : Fin 2) : ∀ r r' : Fin 512, r ≠ r' → Disjoint (rowSet s r) (rowSet s r') := fun r r' hne => by
  rw [Finset.disjoint_left]; intro y hy hy'; rw [mem_rowSet] at hy hy'; exact hne (Fin.ext (by omega))

theorem rowSet_cover (s : Fin 2) : Finset.univ.biUnion (rowSet s) = slotSet s := by
  ext y
  simp only [Finset.mem_biUnion, Finset.mem_univ, true_and, mem_slotSet]
  have h1 : (y 1).val < 4096 := (y 1).isLt
  constructor
  · rintro ⟨r, hr⟩; exact ((mem_rowSet _ _ _).mp hr).1
  · intro h; exact ⟨⟨(y 1).val / 8, by omega⟩, (mem_rowSet _ _ _).mpr ⟨h, rfl⟩⟩

/-! ## What a slot holds once its copies have landed -/

/-- Sublane `8 r + a` of a slot holds sublane `a` of the token row the index list names for row `r`. -/
def landed (xa : S16384x8x128.Idx → Elt F .f32) (ix : Fin 512 → Fin 16384) : S2x4096x128.Idx → Elt F .f32 := fun y =>
  xa (ix3 (ix ⟨(y 1).val / 8, by have h : (y 1).val < 4096 := (y 1).isLt; omega⟩) (⟨(y 1).val % 8, by omega⟩ : Fin 8) (⟨(y 2).val, (y 2).isLt⟩ : Fin 128))

/-- Where the view of row `r`'s place puts its index `(a, b)`: sublane `8 r + a`, lane `b` of slot `s`. -/
theorem rowDst_emb (s : Fin 2) (r : Fin 512) (y : S8x128.Idx) :
    (rowDst s r).view.emb y = (ix3 s (⟨8 * r.val + (y 0).val, by have h : (y 0).val < 8 := (y 0).isLt; omega⟩ : Fin 4096) (⟨(y 1).val, (y 1).isLt⟩ : Fin 128) : S2x4096x128.Idx) := by
  obtain ⟨a, b, rfl⟩ : ∃ (a : Fin 8) (b : Fin 128), y = ix2 a b := ⟨y 0, y 1, by funext i; fin_cases i <;> rfl⟩
  have h := reshapeEquiv_ix2_1ab (a := 8) (b := 128) (squeezes_S1x8x128_S8x128).numel_eq a b
  show (Rect.unit (s := S2x4096x128) ![s.val, 8 * r.val, 0] S1x8x128.size (inb_dst s r)).emb (Shape.reshapeEquiv _ (ix2 a b)) = _
  rw [h]
  funext i
  apply Fin.ext
  rw [Rect.emb_apply]
  fin_cases i
  · show s.val + 1 * 0 = s.val; omega
  · show 8 * r.val + 1 * a.val = 8 * r.val + a.val; omega
  · show 0 + 1 * b.val = b.val; omega

/-- Where the view of token row `n` puts its index `(a, b)`. -/
theorem rowSrc_emb (n : Fin 16384) (y : S8x128.Idx) :
    (rowSrc n).view.emb y = (ix3 n (⟨(y 0).val, (y 0).isLt⟩ : Fin 8) (⟨(y 1).val, (y 1).isLt⟩ : Fin 128) : S16384x8x128.Idx) := by
  obtain ⟨a, b, rfl⟩ : ∃ (a : Fin 8) (b : Fin 128), y = ix2 a b := ⟨y 0, y 1, by funext i; fin_cases i <;> rfl⟩
  have h := reshapeEquiv_ix2_1ab (a := 8) (b := 128) (squeezes_S1x8x128_S8x128).numel_eq a b
  show (Rect.unit (s := S16384x8x128) ![n.val, 0, 0] S1x8x128.size (inb_src n)).emb (Shape.reshapeEquiv _ (ix2 a b)) = _
  rw [h]
  funext i
  apply Fin.ext
  rw [Rect.emb_apply]
  fin_cases i
  · show n.val + 1 * 0 = n.val; omega
  · show 0 + 1 * a.val = a.val; omega
  · show 0 + 1 * b.val = b.val; omega

/-- A row copy leaves its place of the slot at what `landed` says. -/
theorem landed_write (c : Dev nD) (s : Fin 2) (r : Fin 512) (xa : S16384x8x128.Idx → Elt F .f32) (ix : Fin 512 → Fin 16384)
    (g : Buf (Elt F) ((rowDst s r).view.loc (c : Thread nD τ))) :
    ∀ i ∈ (rowDst s r).view.set,
      (rowDst s r).view.write (Elt F) g (ReadAs.same.apply ((rowSrc (ix r)).view.read (Elt F) xa)) Finset.univ i = landed xa ix i := by
  intro i hi
  obtain ⟨y, -, rfl⟩ := Finset.mem_map.mp hi
  rw [View.write_emb_of_mem _ _ (Finset.mem_univ y)]
  refine Eq.trans (b := xa ((rowSrc (ix r)).view.emb y)) rfl ?_
  rw [rowSrc_emb, rowDst_emb]
  have h0 : (y 0).val < 8 := (y 0).isLt
  unfold landed
  congr 1
  have e1 : (8 * r.val + (y 0).val) / 8 = r.val := by omega
  have e2 : (8 * r.val + (y 0).val) % 8 = (y 0).val := by omega
  refine congr (congr (congr rfl ?_) ?_) ?_
  · congr 1; exact Fin.ext e1.symm
  · exact Fin.ext e2.symm
  · rfl

/-! ## The gather's two cells, its copies' amount, what one copy delivers -/

/-- The slot's semaphore. -/
def cellAt (s : Fin 2) : DmaSem sig := ⟨9 + s.val, by have := s.isLt; show 9 + s.val < 14; omega⟩

/-- The part of the token array's share slot `s`'s copies read under: half of it each. -/
def halfShare (s : Fin 2) : PosShare TreeShare := if s.val = 0 then fullShare.left else fullShare.right

/-- Row `r`'s share of its slot's half. -/
abbrev tok (s : Fin 2) (r : Fin 512) : PosShare TreeShare := Transfers.shareTok (halfShare s) 512 r

/-- A piece of an allocation may be kept in a batch. -/
theorem storable_piece (ℓ : Loc nD τ sig) (I : Finset (Idx ℓ)) (q : PosShare TreeShare) (f : Buf (Elt F) ℓ) :
    Storable (upEmb : UEmb _ 𝕄) (ℓ ↦[I]{q} f : sProp 𝕄) := inferInstance

/-- Row `r`'s place in slot `s` at contents `g`. -/
def dstAt (c : Dev nD) (s : Fin 2) (r : Fin 512) (g : S2x4096x128.Idx → Elt F .f32) : sProp 𝕄 :=
  ((rowDst s r).view.loc (c : Thread nD τ) ↦[(rowDst s r).view.set]{fullShare} g)

/-- The token row that row `r` of the index list names, at row `r`'s share. -/
def srcAt (c : Dev nD) (s : Fin 2) (xa : S16384x8x128.Idx → Elt F .f32) (ix : Fin 512 → Fin 16384) (r : Fin 512) : sProp 𝕄 :=
  ((rowSrc (ix r)).view.loc (c : Thread nD τ) ↦[(rowSrc (ix r)).view.set]{tok s r} xa)

/-- What the copy of row `r` into slot `s` delivers: its place at what `landed` says, and the read share of its source. -/
def delivered (c : Dev nD) (s : Fin 2) (xa : S16384x8x128.Idx → Elt F .f32) (ix : Fin 512 → Fin 16384) (r : Fin 512) : sProp 𝕄 :=
  iprop(dstAt c s r (landed xa ix) ∗ srcAt c s xa ix r)

instance delivered_storable (c : Dev nD) (s : Fin 2) (xa : S16384x8x128.Idx → Elt F .f32) (ix : Fin 512 → Fin 16384) (r : Fin 512) :
    Storable (upEmb : UEmb _ 𝕄) (delivered c s xa ix r) := by
  unfold delivered dstAt srcAt
  exact @Storable.sep _ _ _ _ _ _ _ _ (storable_piece _ _ _ _) (storable_piece _ _ _ _)

theorem amount_row (s : Fin 2) (r : Fin 512) (d : DmaSem sig) : (rowDst s r).view.amount (.dma d) = 128 := by
  rfl

/-- What the core holds of the token array while slot `s`'s row `r` is on its way: the row's share of all but its source. -/
def srcRest (c : Dev nD) (s : Fin 2) (xa : S16384x8x128.Idx → Elt F .f32) (ix : Fin 512 → Fin 16384) (r : Fin 512) : sProp 𝕄 :=
  ((Memref.whole main_v6 : Memref sig .tc .hbm S16384x8x128 .f32).view.loc (c : Thread nD τ) ↦[Finset.univ \ (rowSrc (ix r)).view.set]{tok s r} xa)

/-- Row `r`'s share of the token array, whole. -/
def srcTok (c : Dev nD) (s : Fin 2) (xa : S16384x8x128.Idx → Elt F .f32) (r : Fin 512) : sProp 𝕄 :=
  ((Memref.whole main_v6 : Memref sig .tc .hbm S16384x8x128 .f32).view.loc (c : Thread nD τ) ↦{tok s r} xa)

/-- Slot `s`'s batch of 512 row copies, `k` issued. -/
abbrev batch (c : Dev nD) (s : Fin 2) (xa : S16384x8x128.Idx → Elt F .f32) (ix : Fin 512 → Fin 16384) (k : ℕ) : sProp 𝕄 :=
  Transfers.Batch (countersEmb (U := Pipeline.UD sig nD τ)) (c : Thread nD τ) (.dma (cellAt s)) () 128 (delivered c s xa ix) k 0

/-- One row copy issued: the row's place and its share of the token array go into the batch. -/
theorem wp_issue (c : Dev nD) (s : Fin 2) (xa : S16384x8x128.Idx → Elt F .f32) (ix : Fin 512 → Fin 16384) (r : Fin 512)
    (g : S2x4096x128.Idx → Elt F .f32) {α : Type} {k : PUnit.{1} → Prog (TpuEff nD τ sig (Elt F) Λ₀ .tc) α} {Q : α → sProp 𝕄}
    {hsrc : (rowSrc (ix r)).view.WordExact} {hdst : (rowDst s r).view.WordExact}
    {hsem : (DmaTarget.here (rowDst s r) : DmaTarget nD τ sig .tc .vmem S8x128 .f32).Typed .hbm (.dma (cellAt s))} :
    iprop(srcTok c s xa r ∗ dstAt c s r g ∗ batch c s xa ix r.val)
      ⊢ iprop((iprop(batch c s xa ix (r.val + 1) ∗ srcRest c s xa ix r) -∗ wp frame (wpE (defs₀ (F := F)) Variants.none c none) Set.univ (k ⟨⟩) Q)
          -∗ wp frame (wpE (defs₀ (F := F)) Variants.none c none) Set.univ
            (.op (.enqueueDmaAs (rowSrc (ix r)) (.here (rowDst s r)) .same (.dma (cellAt s)) hsrc hdst hsem) k) Q) := by
  iintro ⟨Hs, Hd, HB⟩ Hk
  ihave Hs' := (show srcTok c s xa r ⊢ iprop(srcAt c s xa ix r ∗ srcRest c s xa ix r)
    from (pointsTo_split_subset (Finset.subset_univ _)).1) $$ Hs
  icases Hs' with ⟨Hs, Hrest⟩
  unfold dstAt srcAt
  iapply (Transfers.wp_dmaBatch (countersEmb (U := Pipeline.UD sig nD τ)) Variants.none (c : Thread nD τ) none (src := rowSrc (ix r)) (dst := rowDst s r)
    (via := .same) (sm := .dma (cellAt s)) (Sd := (rowDst s r).view.set) (fd := g) (fs := xa) (q := tok s r) (D := delivered c s xa ix) (j := r.val) (u := 0)
    () 128 (amount_row s r _) subset_rfl r.isLt (Nat.zero_le _) (by
      unfold delivered dstAt srcAt
      rw [pointsTo_congr (landed_write c s r xa ix g)])) $$ [Hs Hd HB]
  · isplitl [Hs]; · iexact Hs
    isplitl [Hd]; · iexact Hd
    iexact HB
  iintro HB
  iapply Hk
  isplitl [HB] <;> iassumption

/-- The same of a copy whose source is spelt another way. -/
theorem wp_issue_of (c : Dev nD) (s : Fin 2) (xa : S16384x8x128.Idx → Elt F .f32) (ix : Fin 512 → Fin 16384) (r : Fin 512)
    (g : S2x4096x128.Idx → Elt F .f32) (src : Memref sig .tc .hbm S8x128 .f32) (hs : src = rowSrc (ix r))
    {α : Type} {k : PUnit.{1} → Prog (TpuEff nD τ sig (Elt F) Λ₀ .tc) α} {Q : α → sProp 𝕄}
    {hsrc : src.view.WordExact} {hdst : (rowDst s r).view.WordExact}
    {hsem : (DmaTarget.here (rowDst s r) : DmaTarget nD τ sig .tc .vmem S8x128 .f32).Typed .hbm (.dma (cellAt s))} :
    iprop(srcTok c s xa r ∗ dstAt c s r g ∗ batch c s xa ix r.val)
      ⊢ iprop((iprop(batch c s xa ix (r.val + 1) ∗ srcRest c s xa ix r) -∗ wp frame (wpE (defs₀ (F := F)) Variants.none c none) Set.univ (k ⟨⟩) Q)
          -∗ wp frame (wpE (defs₀ (F := F)) Variants.none c none) Set.univ
            (.op (.enqueueDma src (.here (rowDst s r)) (.dma (cellAt s)) hsrc hdst hsem) k) Q) := by
  subst hs; exact wp_issue c s xa ix r g

end Cert.Kernel2Ideal.Ffn

end
-- ==== Proof.Ffn.Issue.lean ====
/-
  Issuing the 512 row copies of one step's gather into a slot of the buffer, and waiting for all of them: the loop
  that reads one index per trip and starts one copy, and the one wait that consumes every copy's credit.
-/
module

public import proofs.«01_k».proof.Proof.Ffn.Rows
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.ValueIdx (ix2 ix3 reshapeEquiv_ix2_1ab)

variable {F : FTy → Type} [FloatOps F]

local notation "𝕄" => MT nD τ sig Unit (Elt F) ℕ (Pipeline.UD sig nD τ) ℕ

/-- One trip of the issue loop, over the memrefs it names: read an index, start the copy of the row it names. -/
def trip (sm : Memref sig .tc .smem S1x1x512 .i32) (o : Fin 3 → Nat) (ho : ∀ a, o a + S1x1x1.size a ≤ S1x1x512.size a)
    (P : BitVec 32 → Prop) (dec : ∀ v, Decidable (P v)) (d : DmaSem sig) (dst : Memref sig .tc .vmem S8x128 .f32) (hd : dst.view.WordExact)
    (os : BitVec 32 → Fin 3 → Nat) (hos : ∀ v, P v → ∀ a, (os v) a + S1x8x128.size a ≤ S16384x8x128.size a) :
    Prog (TpuEff nD τ sig (Elt F) Λ₀ .tc) Unit :=
  smemLoadElt sm (Rect.unit (s := S1x1x512) o S1x1x1.size ho) (View.loads_smem_one rfl numel1_S1x1x1) (Shape.Idx.first (numel1_S1x1x1.symm ▸ Nat.one_pos)) fun v =>
    .op (.assume (P v) (dec v)) fun h =>
      .op (.enqueueDma (((Memref.whole main_v6).slice (Rect.unit (s := S16384x8x128) (os v) S1x8x128.size (hos v h.down)) (fun _ => rfl)).squeeze S8x128 squeezes_S1x8x128_S8x128)
        (.here dst) (.dma d) ((View.wordExact_bits rfl).reshape _ _) hd ⟨Or.inl rfl, trivial⟩) fun _ => .ret ⟨⟩

/-- The source slice of a trip is the token row its word names. -/
theorem src_eq (o : Fin 3 → Nat) (h : ∀ a, o a + S1x8x128.size a ≤ S16384x8x128.size a) (n : Fin 16384) (e : o = ![n.val, 0, 0]) :
    ((Memref.whole main_v6 : Memref sig .tc .hbm S16384x8x128 .f32).slice (Rect.unit (s := S16384x8x128) o S1x8x128.size h) (fun _ => rfl)).squeeze S8x128 squeezes_S1x8x128_S8x128
      = rowSrc n := by
  subst e; rfl

theorem dst_eq (o : Fin 3 → Nat) (h : ∀ a, o a + S1x8x128.size a ≤ S2x4096x128.size a) (s : Fin 2) (r : Fin 512) (e : o = ![s.val, 8 * r.val, 0]) :
    ((Memref.whole cc0_scratch0 : Memref sig .tc .vmem S2x4096x128 .f32).slice (Rect.unit (s := S2x4096x128) o S1x8x128.size h) (fun _ => rfl)).squeeze S8x128 squeezes_S1x8x128_S8x128
      = rowDst s r := by
  subst e; rfl

/-- The semaphore a slot's offset names. -/
theorem sem_eq (o : Fin 1 → Nat) (h : ∀ a, o a + S1.size a ≤ S2.size a) (s : Fin 2) (e : o = ![s.val]) :
    ((cc0_scratch3.slice (Rect.unit (s := S2) o S1.size h)).squeeze S_ squeezes_S1_S_).sem = cellAt s := by
  subst e
  exact (by decide +kernel : ∀ (s : Fin 2) (h : ∀ a, (![s.val] : Fin 1 → Nat) a + S1.size a ≤ S2.size a),
    ((cc0_scratch3.slice (Rect.unit (s := S2) ![s.val] S1.size h)).squeeze S_ squeezes_S1_S_).sem = cellAt s) s h

/-- One trip, from its index word, its place in the slot, its share of the token array and the batch so far. -/
theorem wp_trip (c : Dev nD) (s : Fin 2) (r : Fin 512) (xa : S16384x8x128.Idx → Elt F .f32) (ix : Fin 512 → Fin 16384)
    (X : S1x1x512.Idx → Elt F .i32) (hX : ∀ r : Fin 512, (X (ix3 (0 : Fin 1) (0 : Fin 1) r) : BitVec 32).toNat = (ix r).val)
    (g : S2x4096x128.Idx → Elt F .f32)
    (sm : Memref sig .tc .smem S1x1x512 .i32) (o : Fin 3 → Nat) (ho : ∀ a, o a + S1x1x1.size a ≤ S1x1x512.size a)
    (P : BitVec 32 → Prop) (dec : ∀ v, Decidable (P v)) (d : DmaSem sig) (dst : Memref sig .tc .vmem S8x128 .f32) (hd : dst.view.WordExact)
    (os : BitVec 32 → Fin 3 → Nat) (hos : ∀ v, P v → ∀ a, (os v) a + S1x8x128.size a ≤ S16384x8x128.size a)
    (eo : o = ![0, 0, r.val]) (ed : d = cellAt s) (et : dst = rowDst s r) (es : ∀ v, os v = ![v.toNat, 0, 0])
    (hP : ∀ v, v.toNat < 16384 → P v) :
    iprop(owns (c : Thread nD τ) sm fullShare X ∗ srcTok c s xa r ∗ dstAt c s r g ∗ batch c s xa ix r.val)
      ⊢ wp frame (wpE (defs₀ (F := F)) Variants.none (c : Thread nD τ) none) Set.univ (trip sm o ho P dec d dst hd os hos)
        (fun _ => iprop(owns (c : Thread nD τ) sm fullShare X ∗ batch c s xa ix (r.val + 1) ∗ srcRest c s xa ix r)) := by
  subst eo ed et
  iintro ⟨Hsm, Hs, Hd, HB⟩
  unfold trip owns
  icases Hsm with ⟨%f, %hf, Hsm⟩
  iapply (wp_smemLoadElt_named Variants.none (c : Thread nD τ) none Set.univ (m := sm) (S := sm.view.set) (q := fullShare) (f := f) (View.set_slice_subset _ _)) $$ Hsm
  iintro Hsm %w %hw
  have hw' : w = X (ix3 (0 : Fin 1) (0 : Fin 1) r) := by
    rw [hw, ← hf]
    have hemb : (Rect.unit (s := S1x1x512) ![0, 0, r.val] S1x1x1.size ho).emb (Shape.Idx.first (numel1_S1x1x1.symm ▸ Nat.one_pos)) = (ix3 (0 : Fin 1) (0 : Fin 1) r : S1x1x512.Idx) := by
      funext i
      apply Fin.ext
      rw [Rect.emb_apply]
      fin_cases i
      · rfl
      · rfl
      · show r.val + 1 * 0 = r.val; omega
    rw [← hemb]
    rfl
  have hn : (w : BitVec 32).toNat = (ix r).val := by rw [hw']; exact hX r
  iapply (wp_assume Variants.none (c : Thread nD τ) none Set.univ (hP w (by rw [hn]; exact (ix r).isLt)))
  iapply (wp_issue_of c s xa ix r g _ (src_eq _ _ _ (by rw [es, hn]))) $$ [Hs Hd HB]
  · isplitl [Hs]; · iexact Hs
    isplitl [Hd] <;> iassumption
  iintro ⟨HB, Hr⟩
  rw [wp_ret]
  imodintro
  isplitl [Hsm]
  · iexists f; isplitr
    · ipureintro; exact hf
    · iexact Hsm
  isplitl [HB] <;> iassumption

/-! ## A slot between its copies and the step that reads it -/

/-- Slot `s` of the gather buffer at contents `g`. -/
abbrev slotAt (c : Dev nD) (s : Fin 2) (g : S2x4096x128.Idx → Elt F .f32) : sProp 𝕄 :=
  ((Memref.whole cc0_scratch0 : Memref sig .tc .vmem S2x4096x128 .f32).view.loc (c : Thread nD τ) ↦[slotSet s]{fullShare} g)

/-- The token array at share `q`. -/
abbrev tokens (c : Dev nD) (q : PosShare TreeShare) (xa : S16384x8x128.Idx → Elt F .f32) : sProp 𝕄 :=
  ((Memref.whole main_v6 : Memref sig .tc .hbm S16384x8x128 .f32).view.loc (c : Thread nD τ) ↦{q} xa)

/-- Slot `s` with no copy on its way: its elements at some contents, its semaphore at zero, its half of the token array. -/
def slotFree (c : Dev nD) (s : Fin 2) (xa : S16384x8x128.Idx → Elt F .f32) : sProp 𝕄 :=
  iprop((∃ g, slotAt c s g) ∗ semVal (c, .dma (cellAt s)) 0 ∗ tokens c (halfShare s) xa)

/-- Slot `s` with all its copies on their way: the batch, and what of the token array's half the copies do not read under. -/
def slotFull (c : Dev nD) (s : Fin 2) (xa : S16384x8x128.Idx → Elt F .f32) (ix : Fin 512 → Fin 16384) : sProp 𝕄 :=
  iprop(batch c s xa ix 512 ∗ tokens c (Transfers.shareDrop (halfShare s) 512) xa ∗ bigSep Finset.univ (srcRest c s xa ix))

/-- A separating product over a set with one more index. -/
theorem bigSep_ins {I : Type} [DecidableEq I] {s : Finset I} {i : I} (hi : i ∉ s) (Φ : I → sProp 𝕄) :
    bigSep (insert i s) Φ = iprop(Φ i ∗ bigSep s Φ) := BI.bigSep_insert hi

/-- The gather buffer's location. -/
abbrev slotLoc (c : Dev nD) : Loc nD τ sig := (Memref.whole cc0_scratch0 : Memref sig .tc .vmem S2x4096x128 .f32).view.loc (c : Thread nD τ)

/-- A row's place is its elements of the slot. -/
theorem dstAt_eq (c : Dev nD) (s : Fin 2) (r : Fin 512) (g : S2x4096x128.Idx → Elt F .f32) :
    (slotLoc c ↦[(rowSet s r : Finset (Idx (slotLoc c)))]{fullShare} g : sProp 𝕄) = dstAt c s r g := by
  unfold dstAt; rw [rowDst_set]; rfl

/-- A slot's elements are its rows'. -/
theorem slot_rows (c : Dev nD) (s : Fin 2) (g : S2x4096x128.Idx → Elt F .f32) :
    slotAt c s g = bigSep Finset.univ fun r => dstAt c s r g := by
  have hS : (Finset.univ.biUnion fun r => (rowSet s r : Finset (Idx (slotLoc c)))) = (slotSet s : Finset (Idx (slotLoc c))) := by
    refine Finset.ext fun y => ?_
    rw [← rowSet_cover s]
  refine (Ring.pointsTo_sub_blocks (ℓ := slotLoc c) (fun r => (rowSet s r : Finset (Idx (slotLoc c)))) (rowSet_disjoint s) _ hS g).trans ?_
  exact congrArg (bigSep Finset.univ) (funext fun r => dstAt_eq c s r g)

/-- What the loop holds before trip `k`. -/
def issueInv (c : Dev nD) (s : Fin 2) (xa : S16384x8x128.Idx → Elt F .f32) (ix : Fin 512 → Fin 16384) (sm : Memref sig .tc .smem S1x1x512 .i32)
    (X : S1x1x512.Idx → Elt F .i32) (g : S2x4096x128.Idx → Elt F .f32) (k : ℕ) : sProp 𝕄 :=
  iprop(owns (c : Thread nD τ) sm fullShare X ∗ batch c s xa ix k
    ∗ bigSep (Transfers.pending k) (fun r : Fin 512 => iprop(srcTok c s xa r ∗ dstAt c s r g))
    ∗ bigSep (Transfers.issued k) (srcRest c s xa ix))

/-- The whole issue loop: a free slot becomes a full one. -/
theorem wp_issueLoop (c : Dev nD) (s : Fin 2) (xa : S16384x8x128.Idx → Elt F .f32) (ix : Fin 512 → Fin 16384) (sm : Memref sig .tc .smem S1x1x512 .i32)
    (X : S1x1x512.Idx → Elt F .i32) (L : Scf.Loop 32) (hok : L.OK) (hL : L.trips = 512)
    (body : Fin L.trips → Unit → Prog (TpuEff nD τ sig (Elt F) Λ₀ .tc) Unit)
    (hbody : ∀ (k : Fin L.trips) (acc : Unit) (r : Fin 512) (g : S2x4096x128.Idx → Elt F .f32), r.val = k.val →
      iprop(owns (c : Thread nD τ) sm fullShare X ∗ srcTok c s xa r ∗ dstAt c s r g ∗ batch c s xa ix r.val)
        ⊢ wp frame (wpE (defs₀ (F := F)) Variants.none (c : Thread nD τ) none) Set.univ (body k acc)
          (fun _ => iprop(owns (c : Thread nD τ) sm fullShare X ∗ batch c s xa ix (r.val + 1) ∗ srcRest c s xa ix r)))
    {α : Type} {kk : Unit → Prog (TpuEff nD τ sig (Elt F) Λ₀ .tc) α} {Q : α → sProp 𝕄} :
    iprop(owns (c : Thread nD τ) sm fullShare X ∗ slotFree c s xa)
      ⊢ iprop((iprop(owns (c : Thread nD τ) sm fullShare X ∗ slotFull c s xa ix) -∗ wp frame (wpE (defs₀ (F := F)) Variants.none (c : Thread nD τ) none) Set.univ (kk ⟨⟩) Q)
          -∗ wp frame (wpE (defs₀ (F := F)) Variants.none (c : Thread nD τ) none) Set.univ (Scf.Loop.for L hok ⟨⟩ body >>= kk) Q) := by
  unfold slotFree slotFull
  iintro ⟨Hsm, ⟨%g, Hd⟩, Hc, Ht⟩ Hk
  imod (Transfers.batch_alloc' (Lvl := ℕ) (countersEmb (U := Pipeline.UD sig nD τ)) (c : Thread nD τ) () 128 (delivered c s xa ix) (sm := .dma (cellAt s)) (E := Set.univ)) $$ Hc with HB
  ihave Ht' := (Transfers.pointsTo_toks_split (halfShare s) 512) $$ Ht
  icases Ht' with ⟨Hdrop, Htok⟩
  ihave Hd' := (show slotAt c s g ⊢ _ from (slot_rows c s g).le) $$ Hd
  iapply (Scf.wp_for_bind _ _ _ L.lb L.ub L.st hok ⟨⟩ body (fun k _ => issueInv c s xa ix sm X g k) (fun k acc => ?_)) $$ [Hsm HB Htok Hd']
  · unfold issueInv
    have hk : k.val < 512 := lt_of_lt_of_eq k.isLt hL
    rw [Transfers.pending_succ hk, bigSep_ins (Transfers.not_mem_pending_succ hk), Transfers.issued_succ hk, bigSep_ins (Transfers.not_mem_issued hk)]
    iintro ⟨Hsm, HB, ⟨⟨Ht, Hd⟩, Hp⟩, Hi⟩
    iapply (wp_wand) $$ [Hsm HB Ht Hd]
    · iapply (hbody k acc ⟨k.val, hk⟩ g rfl)
      isplitl [Hsm]; · iexact Hsm
      isplitl [Ht]; · iexact Ht
      isplitl [Hd] <;> iassumption
    iintro %_ ⟨Hsm, HB, Hr⟩
    isplitl [Hsm]; · iexact Hsm
    isplitl [HB]; · iexact HB
    isplitl [Hp]; · iexact Hp
    isplitl [Hr] <;> iassumption
  · unfold issueInv
    rw [Transfers.pending_zero, Transfers.issued_zero, bigSep_empty, BI.bigSep_sep']
    isplitl [Hsm]; · iexact Hsm
    isplitl [HB]; · iexact HB
    isplitl [Htok Hd']
    · isplitl [Htok]
      · iexact Htok
      · iexact Hd'
    iempintro
  iintro %_ HI
  iapply Hk
  unfold issueInv
  rw [show Scf.trips L.lb L.ub L.st = 512 from hL, Transfers.issued_all rfl]
  icases HI with ⟨Hsm, HB, -, Hr⟩
  isplitl [Hsm]; · iexact Hsm
  isplitl [HB]; · iexact HB
  isplitl [Hdrop] <;> iassumption

/-- The wait for all of a slot's copies: the slot holds what they brought. -/
theorem wp_drain (c : Dev nD) (s : Fin 2) (xa : S16384x8x128.Idx → Elt F .f32) (ix : Fin 512 → Fin 16384)
    {srcw : Memref sig .tc .hbm S4096x128 .f32} {dstw : Memref sig .tc .vmem S4096x128 .f32} {hsrc : srcw.view.WordExact} {hdst : dstw.view.WordExact}
    {d : DmaSem sig} (hd : d = cellAt s) {W : Waits sig Unit}
    {α : Type} {kk : PUnit.{1} → Prog (TpuEff nD τ sig (Elt F) Λ₀ .tc) α} {Q : α → sProp 𝕄} :
    iprop(slotFull c s xa ix ∗ owes (c : Thread nD τ) 0 W)
      ⊢ iprop((iprop(slotAt c s (landed xa ix) ∗ semVal (c, .dma (cellAt s)) 0 ∗ tokens c (halfShare s) xa ∗ (∃ W', owes (c : Thread nD τ) 0 W'))
            -∗ wp frame (wpE (defs₀ (F := F)) Variants.none (c : Thread nD τ) none) Set.univ (kk ⟨⟩) Q)
          -∗ wp frame (wpE (defs₀ (F := F)) Variants.none (c : Thread nD τ) none) Set.univ (.op (.waitDma2 d srcw dstw hsrc hdst) kk) Q) := by
  subst hd
  unfold slotFull
  iintro ⟨⟨HB, Hdrop, Hr⟩, HO⟩ Hk
  iapply (Transfers.wp_waitBatchAll (countersEmb (U := Pipeline.UD sig nD τ)) Variants.none (c : Thread nD τ) none () (N := 128) (J := 65536) (by rfl) (by decide)
    (D := delivered c s xa ix) (u := 0) (by decide)) $$ [HB HO]
  · isplitl [HB] <;> iassumption
  iintro ⟨HD, Hc, HO⟩
  ihave HD' := (show bigSep Finset.univ (delivered c s xa ix) ⊢ iprop(slotAt c s (landed xa ix)
      ∗ bigSep Finset.univ (srcAt c s xa ix)) from by
    rw [slot_rows, ← BI.bigSep_sep']; exact BI.bigSep_mono fun _ _ => BI.Entails.refl _) $$ HD
  icases HD' with ⟨Hd, Hs⟩
  ihave Ht := (show iprop(bigSep Finset.univ (srcAt c s xa ix)
      ∗ bigSep Finset.univ (srcRest c s xa ix)) ⊢ bigSep Finset.univ (srcTok c s xa) from by
    rw [← BI.bigSep_sep']; exact BI.bigSep_mono fun r _ => (show iprop(srcAt c s xa ix r ∗ srcRest c s xa ix r) ⊢ srcTok c s xa r from (pointsTo_split_subset (Finset.subset_univ _)).2)) $$ [Hs Hr]
  · isplitl [Hs] <;> iassumption
  iapply Hk
  isplitl [Hd]; · iexact Hd
  isplitl [Hc]; · iexact Hc
  isplitl [Hdrop Ht]
  · iapply (Transfers.pointsTo_toks_join (halfShare s) 512)
    isplitl [Hdrop]
    · iexact Hdrop
    · iexact Ht
  iexists _; iexact HO

end Cert.Kernel2Ideal.Ffn

end
-- ==== Proof.Ffn.Weights.lean ====
/-
  The expert layer's weights: one expert's matrix copied from HBM into its plane of the f32 buffer, waited for, and
  rounded into the same plane of the bf16 buffer.
-/
module

public import proofs.«01_k».proof.Proof.Ffn.Rows
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.ValueIdx (ix2 ix3 ix4 reshapeEquiv_ix2_1ab reshapeEquiv_ix2_11ab)

variable {F : FTy → Type} [FloatOps F]

local notation "𝕄" => MT nD τ sig Unit (Elt F) ℕ (Pipeline.UD sig nD τ) ℕ

abbrev WArr := Memref sig .tc .hbm S2x16x1024x1024 .f32

theorem inb_wsrc (e : Fin 16) : ∀ a, (![0, e.val, 0, 0] : Fin 4 → Nat) a + S1x1x1024x1024.size a ≤ S2x16x1024x1024.size a := by
  intro a; fin_cases a
  · show 0 + 1 ≤ 2; omega
  · show e.val + 1 ≤ 16; omega
  · show 0 + 1024 ≤ 1024; omega
  · show 0 + 1024 ≤ 1024; omega

theorem inb_plane (m : Fin 3) : ∀ a, (![m.val, 0, 0] : Fin 3 → Nat) a + S1x1024x1024.size a ≤ S3x1024x1024.size a := by
  intro a; fin_cases a
  · show m.val + 1 ≤ 3; omega
  · show 0 + 1024 ≤ 1024; omega
  · show 0 + 1024 ≤ 1024; omega

/-- Expert `e`'s matrix in a weight array, in the layer the kernel takes. -/
def wSrc (A : WArr) (e : Fin 16) : Memref sig .tc .hbm S1024x1024 .f32 :=
  (A.slice (Rect.unit (s := S2x16x1024x1024) ![0, e.val, 0, 0] S1x1x1024x1024.size (inb_wsrc e)) (fun _ => rfl)).squeeze S1024x1024 squeezes_S1x1x1024x1024_S1024x1024

/-- Plane `m` of a buffer of three matrices. -/
abbrev plane (m : Fin 3) : Rect S3x1024x1024 := Rect.unit (s := S3x1024x1024) ![m.val, 0, 0] S1x1024x1024.size (inb_plane m)

/-- Plane `m` of the f32 buffer, as a copy's destination. -/
def wDst (m : Fin 3) : Memref sig .tc .vmem S1024x1024 .f32 :=
  ((Memref.whole cc0_scratch1 : Memref sig .tc .vmem S3x1024x1024 .f32).slice (plane m) (fun _ => rfl)).squeeze S1024x1024 squeezes_S1x1024x1024_S1024x1024

theorem wDst_set (m : Fin 3) : (wDst m).view.set = (plane m).set := by
  unfold wDst; exact (View.set_reshape _ _).trans (View.set_slice_whole _ _)

theorem wSrc_set (A : WArr) (e : Fin 16) : (wSrc A e).view.set ⊆ A.view.set := by
  unfold wSrc
  exact ((View.set_reshape _ _).le).trans (View.set_slice_subset _ _)

theorem mem_plane (m : Fin 3) (y : S3x1024x1024.Idx) : y ∈ (plane m).set ↔ (y 0).val = m.val := by
  rw [Rect.mem_set_unit]
  have h1 : (y 1).val < 1024 := (y 1).isLt
  have h2 : (y 2).val < 1024 := (y 2).isLt
  constructor
  · intro H
    have a0 : m.val ≤ (y 0).val ∧ (y 0).val < m.val + 1 := H 0
    omega
  · intro H a; fin_cases a
    · show m.val ≤ (y 0).val ∧ (y 0).val < m.val + 1; omega
    · show 0 ≤ (y 1).val ∧ (y 1).val < 0 + 1024; omega
    · show 0 ≤ (y 2).val ∧ (y 2).val < 0 + 1024; omega

/-- The three planes are the whole buffer. -/
theorem plane_disjoint : ∀ m m' : Fin 3, m ≠ m' → Disjoint (plane m).set (plane m').set := fun m m' hne => by
  rw [Finset.disjoint_left]; intro y hy hy'; rw [mem_plane] at hy hy'; exact hne (Fin.ext (by omega))

theorem plane_cover : (Finset.univ.biUnion fun m : Fin 3 => (plane m).set) = Finset.univ := by
  ext y
  simp only [Finset.mem_biUnion, Finset.mem_univ, true_and, iff_true]
  have h0 : (y 0).val < 3 := (y 0).isLt
  exact ⟨⟨(y 0).val, h0⟩, (mem_plane _ _).mpr rfl⟩

/-- The f32 buffer with an expert's matrix `w` in each of its planes. -/
def wLand (w : S2x16x1024x1024.Idx → Elt F .f32) (e : Fin 16) : S3x1024x1024.Idx → Elt F .f32 := fun y =>
  w (ix4 (0 : Fin 2) e (⟨(y 1).val, (y 1).isLt⟩ : Fin 1024) (⟨(y 2).val, (y 2).isLt⟩ : Fin 1024))

/-- What a plane's load reads of it. -/
def wMat (w : S2x16x1024x1024.Idx → Elt F .f32) (e : Fin 16) : S1x1024x1024.Idx → Elt F .f32 := fun z =>
  w (ix4 (0 : Fin 2) e (⟨(z 1).val, (z 1).isLt⟩ : Fin 1024) (⟨(z 2).val, (z 2).isLt⟩ : Fin 1024))

/-- The bf16 buffer with the rounded matrix in each of its planes. -/
def bLand (p : S1x1024x1024.Idx → Elt F .bf16) : S3x1024x1024.Idx → Elt F .bf16 := fun y =>
  p (ix3 (0 : Fin 1) (⟨(y 1).val, (y 1).isLt⟩ : Fin 1024) (⟨(y 2).val, (y 2).isLt⟩ : Fin 1024))

theorem plane_emb (m : Fin 3) (z : S1x1024x1024.Idx) :
    (plane m).emb z = (ix3 m (⟨(z 1).val, (z 1).isLt⟩ : Fin 1024) (⟨(z 2).val, (z 2).isLt⟩ : Fin 1024) : S3x1024x1024.Idx) := by
  have h0 : (z 0).val < 1 := (z 0).isLt
  funext i
  apply Fin.ext
  rw [Rect.emb_apply]
  fin_cases i
  · show m.val + 1 * (z 0).val = m.val; omega
  · show 0 + 1 * (z 1).val = (z 1).val; omega
  · show 0 + 1 * (z 2).val = (z 2).val; omega

theorem wDst_emb (m : Fin 3) (y : S1024x1024.Idx) :
    (wDst m).view.emb y = (ix3 m (⟨(y 0).val, (y 0).isLt⟩ : Fin 1024) (⟨(y 1).val, (y 1).isLt⟩ : Fin 1024) : S3x1024x1024.Idx) := by
  obtain ⟨a, b, rfl⟩ : ∃ (a : Fin 1024) (b : Fin 1024), y = ix2 a b := ⟨y 0, y 1, by funext i; fin_cases i <;> rfl⟩
  have h := reshapeEquiv_ix2_1ab (a := 1024) (b := 1024) (squeezes_S1x1024x1024_S1024x1024).numel_eq a b
  show (plane m).emb (Shape.reshapeEquiv _ (ix2 a b)) = _
  rw [h, plane_emb]

theorem wSrc_read (A : WArr) (e : Fin 16) (c : Dev nD) (f : Buf (Elt F) (A.view.loc (c : Thread nD τ))) (y : S1024x1024.Idx) :
    (wSrc A e).view.read (Elt F) f y
      = A.view.read (Elt F) f (ix4 (0 : Fin 2) e (⟨(y 0).val, (y 0).isLt⟩ : Fin 1024) (⟨(y 1).val, (y 1).isLt⟩ : Fin 1024)) := by
  obtain ⟨a, b, rfl⟩ : ∃ (a : Fin 1024) (b : Fin 1024), y = ix2 a b := ⟨y 0, y 1, by funext i; fin_cases i <;> rfl⟩
  have h := reshapeEquiv_ix2_11ab (a := 1024) (b := 1024) (squeezes_S1x1x1024x1024_S1024x1024).numel_eq a b
  show A.view.read (Elt F) f ((Rect.unit (s := S2x16x1024x1024) ![0, e.val, 0, 0] S1x1x1024x1024.size (inb_wsrc e)).emb (Shape.reshapeEquiv _ (ix2 a b))) = _
  rw [h]
  congr 1
  funext i
  apply Fin.ext
  rw [Rect.emb_apply]
  fin_cases i
  · rfl
  · show e.val + 1 * 0 = e.val; omega
  · show 0 + 1 * a.val = a.val; omega
  · show 0 + 1 * b.val = b.val; omega

/-! ## One matrix on its way, arrived, rounded -/

abbrev stLoc (c : Dev nD) : Loc nD τ sig := (Memref.whole cc0_scratch1 : Memref sig .tc .vmem S3x1024x1024 .f32).view.loc (c : Thread nD τ)
abbrev bfLoc (c : Dev nD) : Loc nD τ sig := (Memref.whole cc0_scratch2 : Memref sig .tc .vmem S3x1024x1024 .bf16).view.loc (c : Thread nD τ)

/-- Plane `m` of the f32 buffer at contents `g`. -/
def wstAt (c : Dev nD) (m : Fin 3) (g : S3x1024x1024.Idx → Elt F .f32) : sProp 𝕄 :=
  (stLoc c ↦[((plane m).set : Finset (Idx (stLoc c)))]{fullShare} g)

/-- Plane `m` of the bf16 buffer at contents `g`. -/
def wbfAt (c : Dev nD) (m : Fin 3) (g : S3x1024x1024.Idx → Elt F .bf16) : sProp 𝕄 :=
  (bfLoc c ↦[((plane m).set : Finset (Idx (bfLoc c)))]{fullShare} g)

theorem wstAt_dst (c : Dev nD) (m : Fin 3) (g : S3x1024x1024.Idx → Elt F .f32) :
    wstAt c m g = ((wDst m).view.loc (c : Thread nD τ) ↦[(wDst m).view.set]{fullShare} g : sProp 𝕄) := by
  unfold wstAt; rw [wDst_set]; rfl

/-- Plane `m`'s semaphore. -/
def wCell (m : Fin 3) : DmaSem sig := ⟨11 + m.val, by have := m.isLt; show 11 + m.val < 14; omega⟩

theorem wsem_eq (o : Fin 1 → Nat) (h : ∀ a, o a + S1.size a ≤ S3.size a) (m : Fin 3) (e : o = ![m.val]) :
    ((cc0_scratch4.slice (Rect.unit (s := S3) o S1.size h)).squeeze S_ squeezes_S1_S_).sem = wCell m := by
  subst e
  exact (by decide +kernel : ∀ (m : Fin 3) (h : ∀ a, (![m.val] : Fin 1 → Nat) a + S1.size a ≤ S3.size a),
    ((cc0_scratch4.slice (Rect.unit (s := S3) ![m.val] S1.size h)).squeeze S_ squeezes_S1_S_).sem = wCell m) m h

variable (A : WArr)

/-- What the copy of expert `e`'s matrix delivers. -/
def wDeliv (c : Dev nD) (m : Fin 3) (f : Buf (Elt F) (A.view.loc (c : Thread nD τ))) (e : Fin 16) (_ : Fin 1) : sProp 𝕄 :=
  iprop(wstAt c m (wLand (A.view.read (Elt F) f) e) ∗ (A.view.loc (c : Thread nD τ) ↦[(wSrc A e).view.set]{fullShare} f))

instance wDeliv_storable (c : Dev nD) (m : Fin 3) (f : Buf (Elt F) (A.view.loc (c : Thread nD τ))) (e : Fin 16) (t : Fin 1) :
    Storable (upEmb : UEmb _ 𝕄) (wDeliv A c m f e t) := by
  unfold wDeliv wstAt
  exact @Storable.sep _ _ _ _ _ _ _ _ (storable_piece _ _ _ _) (storable_piece _ _ _ _)

/-- No copy on its way: the plane at some contents, its semaphore at zero, the weight array. -/
def wFree (c : Dev nD) (m : Fin 3) (f : Buf (Elt F) (A.view.loc (c : Thread nD τ))) : sProp 𝕄 :=
  iprop((∃ g, wstAt c m g) ∗ semVal (c, .dma (wCell m)) 0 ∗ (A.view.loc (c : Thread nD τ) ↦[A.view.set]{fullShare} f))

/-- Expert `e`'s matrix on its way: the one copy, and the rest of the weight array. -/
def wFly (c : Dev nD) (m : Fin 3) (f : Buf (Elt F) (A.view.loc (c : Thread nD τ))) (e : Fin 16) : sProp 𝕄 :=
  iprop(Transfers.Batch (countersEmb (U := Pipeline.UD sig nD τ)) (c : Thread nD τ) (.dma (wCell m)) () 131072 (wDeliv A c m f e) 1 0
    ∗ (A.view.loc (c : Thread nD τ) ↦[A.view.set \ (wSrc A e).view.set]{fullShare} f))

theorem wLand_write (c : Dev nD) (m : Fin 3) (f : Buf (Elt F) (A.view.loc (c : Thread nD τ))) (e : Fin 16)
    (g : Buf (Elt F) ((wDst m).view.loc (c : Thread nD τ))) :
    ∀ i ∈ (wDst m).view.set,
      (wDst m).view.write (Elt F) g (ReadAs.same.apply ((wSrc A e).view.read (Elt F) f)) Finset.univ i = wLand (A.view.read (Elt F) f) e i := by
  intro i hi
  obtain ⟨y, -, rfl⟩ := Finset.mem_map.mp hi
  rw [View.write_emb_of_mem _ _ (Finset.mem_univ y)]
  refine Eq.trans (b := (wSrc A e).view.read (Elt F) f y) rfl ?_
  rw [wSrc_read, wDst_emb]
  rfl

/-- The copy of one expert's matrix started. -/
theorem wp_wIssue_at (c : Dev nD) (m : Fin 3) (f : Buf (Elt F) (A.view.loc (c : Thread nD τ))) (e : Fin 16)
    {α : Type} {k : PUnit.{1} → Prog (TpuEff nD τ sig (Elt F) Λ₀ .tc) α} {Q : α → sProp 𝕄}
    {hsrc : (wSrc A e).view.WordExact} {hdst : (wDst m).view.WordExact}
    {hsem : (DmaTarget.here (wDst m) : DmaTarget nD τ sig .tc .vmem S1024x1024 .f32).Typed .hbm (.dma (wCell m))} :
    wFree A c m f
      ⊢ iprop((wFly A c m f e -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs (wSrc A e) (.here (wDst m)) .same (.dma (wCell m)) hsrc hdst hsem) k) Q) := by
  unfold wFree wFly
  iintro ⟨⟨%g, Hd⟩, Hc, Hs⟩ Hk
  imod (Transfers.batch_alloc' (Lvl := ℕ) (countersEmb (U := Pipeline.UD sig nD τ)) (c : Thread nD τ) () 131072 (wDeliv A c m f e) (sm := .dma (wCell m)) (E := Set.univ)) $$ Hc with HB
  ihave Hs' := (show (A.view.loc (c : Thread nD τ) ↦[A.view.set]{fullShare} f : sProp 𝕄) ⊢ _ from (pointsTo_split_subset (wSrc_set A e)).1) $$ Hs
  icases Hs' with ⟨Hs, Hr⟩
  ihave Hd := (Entails.of_eq (wstAt_dst c m g)) $$ Hd
  have hamt : (wDst m).view.amount (.dma (wCell m) : SemLoc sig) = 131072 := rfl
  have hD : iprop(((wDst m).view.loc (c : Thread nD τ) ↦[(wDst m).view.set]{fullShare} ((wDst m).view.write (Elt F) g (ReadAs.same.apply ((wSrc A e).view.read (Elt F) f)) Finset.univ))
      ∗ ((wSrc A e).view.loc (c : Thread nD τ) ↦[(wSrc A e).view.set]{fullShare} f)) ⊢ wDeliv A c m f e ⟨0, Nat.one_pos⟩ := by
    unfold wDeliv
    rw [wstAt_dst, pointsTo_congr (wLand_write A c m f e g)]
    exact BI.Entails.refl _
  iapply (Transfers.wp_dmaBatch (countersEmb (U := Pipeline.UD sig nD τ)) Variants.none (c : Thread nD τ) none (src := wSrc A e) (dst := wDst m)
    (via := .same) (sm := .dma (wCell m)) (Sd := (wDst m).view.set) (fd := g) (fs := f) (q := fullShare) (D := wDeliv A c m f e) (j := 0) (u := 0)
    () 131072 hamt subset_rfl Nat.one_pos (Nat.zero_le _) hD) $$ [Hs Hd HB]
  · isplitl [Hs]; · iexact Hs
    isplitl [Hd]; · iexact Hd
    iexact HB
  iintro HB
  iapply Hk
  isplitl [HB]
  · iexact HB
  · iexact Hr

/-- The copy of one expert's matrix started, its operands spelt another way. -/
theorem wp_wIssue (c : Dev nD) (m : Fin 3) (f : Buf (Elt F) (A.view.loc (c : Thread nD τ))) (e : Fin 16)
    (src : Memref sig .tc .hbm S1024x1024 .f32) (dst : Memref sig .tc .vmem S1024x1024 .f32) (d : DmaSem sig)
    (es : src = wSrc A e) (et : dst = wDst m) (ed : d = wCell m)
    {α : Type} {k : PUnit.{1} → Prog (TpuEff nD τ sig (Elt F) Λ₀ .tc) α} {Q : α → sProp 𝕄}
    {hsrc : src.view.WordExact} {hdst : dst.view.WordExact}
    {hsem : (DmaTarget.here dst : DmaTarget nD τ sig .tc .vmem S1024x1024 .f32).Typed .hbm (.dma d)} :
    wFree A c m f
      ⊢ iprop((wFly A c m f e -∗ wp frame (wpE (defs₀ (F := F)) Variants.none (c : Thread nD τ) none) Set.univ (k ⟨⟩) Q)
          -∗ wp frame (wpE (defs₀ (F := F)) Variants.none (c : Thread nD τ) none) Set.univ
            (.op (.enqueueDma src (.here dst) (.dma d) hsrc hdst hsem) k) Q) := by
  subst es et ed
  exact wp_wIssue_at A c m f e

/-- The wait for an expert's matrix, and its rounding into the bf16 buffer. -/
theorem wp_wTurn (c : Dev nD) (m : Fin 3) (f : Buf (Elt F) (A.view.loc (c : Thread nD τ))) (e : Fin 16)
    (p : (S1x1024x1024.Idx → Elt F .f32) → S1x1024x1024.Idx → Elt F .bf16)
    {srcw : Memref sig .tc .hbm S1024x1024 .f32} {dstw : Memref sig .tc .vmem S1024x1024 .f32} {hsrc : srcw.view.WordExact} {hdst : dstw.view.WordExact}
    (d : DmaSem sig) (ed : d = wCell m) (o : Fin 3 → Nat) (ho : ∀ a, o a + S1x1024x1024.size a ≤ S3x1024x1024.size a) (eo : o = ![m.val, 0, 0])
    {hl1 hl2 hx hm} {W : Waits sig Unit}
    {α : Type} {k : PUnit.{1} → Prog (TpuEff nD τ sig (Elt F) Λ₀ .tc) α} {Q : α → sProp 𝕄} :
    iprop(wFly A c m f e ∗ (∃ g, wbfAt c m g) ∗ owes (c : Thread nD τ) 0 W)
      ⊢ iprop((iprop(wFree A c m f ∗ wbfAt c m (bLand (p (wMat (A.view.read (Elt F) f) e))) ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 d srcw dstw hsrc hdst) fun _ =>
              .op (.load (Memref.whole cc0_scratch1 : Memref sig .tc .vmem S3x1024x1024 .f32) (Rect.unit (s := S3x1024x1024) o S1x1024x1024.size ho).toLoadRect hl1) fun v =>
              .op (.load (Memref.whole cc0_scratch2 : Memref sig .tc .vmem S3x1024x1024 .bf16) (Rect.unit (s := S3x1024x1024) o S1x1024x1024.size ho).toLoadRect hl2) fun _ =>
              .op (.store (Memref.whole cc0_scratch2 : Memref sig .tc .vmem S3x1024x1024 .bf16) (Rect.unit (s := S3x1024x1024) o S1x1024x1024.size ho) (p v) Finset.univ hx hm) k) Q) := by
  subst ed eo
  unfold wFly
  iintro ⟨⟨HB, Hr⟩, ⟨%g, Hb⟩, HO⟩ Hk
  iapply (Transfers.wp_waitBatchAll (countersEmb (U := Pipeline.UD sig nD τ)) Variants.none (c : Thread nD τ) none () (N := 131072) (J := 131072) (by rfl) (by decide)
    (D := wDeliv A c m f e) (u := 0) (by decide)) $$ [HB HO]
  · isplitl [HB] <;> iassumption
  iintro ⟨HD, Hc, HO⟩
  ihave HD' := (show bigSep Finset.univ (wDeliv A c m f e) ⊢ wDeliv A c m f e 0 from by
    rw [Idealize.SL.BI.bigSep_univ_eq_bigSepL [0] (by decide) (by decide) _]; exact BI.Entails.refl _) $$ HD
  unfold wDeliv
  icases HD' with ⟨Hd, Hs⟩
  ihave Hs' := (show iprop((A.view.loc (c : Thread nD τ) ↦[(wSrc A e).view.set]{fullShare} f) ∗ (A.view.loc (c : Thread nD τ) ↦[A.view.set \ (wSrc A e).view.set]{fullShare} f))
    ⊢ (A.view.loc (c : Thread nD τ) ↦[A.view.set]{fullShare} f : sProp 𝕄) from (pointsTo_split_subset (wSrc_set A e)).2) $$ [Hs Hr]
  · isplitl [Hs] <;> iassumption
  unfold wstAt wbfAt
  have hset1 : ((Memref.whole cc0_scratch1 : Memref sig .tc .vmem S3x1024x1024 .f32).access (plane m)).set ⊆ (plane m).set := (View.set_slice_whole _ _).le
  have hset2 : ((Memref.whole cc0_scratch2 : Memref sig .tc .vmem S3x1024x1024 .bf16).access (plane m)).set ⊆ (plane m).set := (View.set_slice_whole _ _).le
  iapply (wp_load_rect Variants.none (c : Thread nD τ) none Set.univ (m := (Memref.whole cc0_scratch1 : Memref sig .tc .vmem S3x1024x1024 .f32)) (r := plane m) hset1) $$ Hd
  iintro Hd
  have hv : ((Memref.whole cc0_scratch1 : Memref sig .tc .vmem S3x1024x1024 .f32).access (plane m)).read (Elt F) (wLand (A.view.read (Elt F) f) e) = wMat (A.view.read (Elt F) f) e := by
    funext z
    refine Eq.trans (b := wLand (A.view.read (Elt F) f) e ((plane m).emb z)) rfl ?_
    rw [plane_emb]; rfl
  rw [hv]
  iapply (wp_load_rect Variants.none (c : Thread nD τ) none Set.univ (m := (Memref.whole cc0_scratch2 : Memref sig .tc .vmem S3x1024x1024 .bf16)) (r := plane m) hset2) $$ Hb
  iintro Hb
  iapply (wp_store Variants.none (c : Thread nD τ) none Set.univ (m := (Memref.whole cc0_scratch2 : Memref sig .tc .vmem S3x1024x1024 .bf16)) (r := plane m) (f := g) (View.set_slice_whole _ _).le) $$ Hb
  iintro Hb
  iapply Hk
  unfold wFree wstAt
  isplitl [Hd Hc Hs']
  · isplitl [Hd]
    · iexists _; iexact Hd
    isplitl [Hc]
    · iexact Hc
    · iexact Hs'
  isplitl [Hb]
  · have hw : ∀ i ∈ (plane m).set, ((Memref.whole cc0_scratch2 : Memref sig .tc .vmem S3x1024x1024 .bf16).access (plane m)).write (Elt F) g (p (wMat (A.view.read (Elt F) f) e)) Finset.univ i
        = bLand (p (wMat (A.view.read (Elt F) f) e)) i := by
      intro i hi
      obtain ⟨z, hz⟩ := (plane m).exists_idx_of_mem hi
      have hz' : (plane m).emb z = i := hz
      subst hz'
      refine Eq.trans (View.write_emb_of_mem (v := (Memref.whole cc0_scratch2 : Memref sig .tc .vmem S3x1024x1024 .bf16).access (plane m)) _ _ (Finset.mem_univ z)) ?_
      rw [plane_emb]
      refine congrArg (p (wMat (A.view.read (Elt F) f) e)) ?_
      have h0 : (z 0).val < 1 := (z 0).isLt
      funext a; fin_cases a
      · exact Fin.ext (by show (z 0).val = 0; omega)
      · rfl
      · rfl
    iapply (Entails.of_eq (pointsTo_congr (ℓ := bfLoc c) (q := fullShare) (I := ((plane m).set : Finset (Idx (bfLoc c)))) hw)) $$ Hb
  iexists _; iexact HO

end Cert.Kernel2Ideal.Ffn

end
-- ==== Proof.Ffn.Stages.lean ====
/-
  The stages of one grid step before its arithmetic: at the first step the first rows and the first expert's matrices
  are started, at an expert's first step its matrices are awaited, rounded, and the next expert's started, and every
  step starts the next step's rows and awaits its own.
-/
module

public import proofs.«01_k».proof.Proof.Ffn.Issue
public import proofs.«01_k».proof.Proof.Ffn.Weights

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.ValueIdx (ix2 ix3 reshapeEquiv_ix2_1ab)

variable {F : FTy → Type} [FloatOps F]

local notation "𝕄" => MT nD τ sig Unit (Elt F) ℕ (Pipeline.UD sig nD τ) ℕ

/-! ## The grid's points -/

theorem coords_eq : ∀ t : Fin grid0.N, ((grid0.coords t) 0).val = t.val / 4 ∧ ((grid0.coords t) 1).val = t.val % 4 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 4 = 0 := by decide +kernel
theorem cond3_iff : ∀ t : Fin grid0.N, k0_cond3 (grid0.coords t) = 1#1 ↔ t.val / 4 + 1 < 16 := by decide +kernel
theorem cond4_iff : ∀ t : Fin grid0.N, k0_cond4 (grid0.coords t) = 1#1 ↔ t.val = 63 := by decide +kernel

theorem t_lt (t : Fin grid0.N) : t.val < 64 := lt_of_lt_of_eq t.isLt N_0

/-- The slot step `t` reads, and the other one. -/
def cur (t : ℕ) : Fin 2 := ⟨t % 2, by omega⟩
def oth (t : ℕ) : Fin 2 := ⟨1 - t % 2, by omega⟩
/-- The expert of step `t`. -/
def expert (t : Fin grid0.N) : Fin 16 := ⟨t.val / 4, by have := t_lt t; omega⟩

theorem step_eq (t : Fin grid0.N) : 4 * ((grid0.coords t) 0).val + ((grid0.coords t) 1).val = t.val := by
  rw [(coords_eq t).1, (coords_eq t).2]; omega

/-! ## The three matrices together -/

abbrev M4 : WArr := Memref.whole main_arg4
abbrev M5 : WArr := Memref.whole main_arg5
abbrev M6 : WArr := Memref.whole main_arg6

section
variable (c : Dev nD) (w4 w5 w6 : S2x16x1024x1024.Idx → Elt F .f32)

def frees : sProp 𝕄 := iprop(wFree M4 c 0 w4 ∗ wFree M5 c 1 w5 ∗ wFree M6 c 2 w6)
def flies (e : Fin 16) : sProp 𝕄 := iprop(wFly M4 c 0 w4 e ∗ wFly M5 c 1 w5 e ∗ wFly M6 c 2 w6 e)
/-- The next expert's matrices on their way, if there is a next expert. -/
def nextW (e : ℕ) : sProp 𝕄 := if h : e + 1 < 16 then flies c w4 w5 w6 ⟨e + 1, h⟩ else frees c w4 w5 w6
/-- Expert `e`'s matrices rounded in the bf16 buffer. -/
def rounded (e : Fin 16) : sProp 𝕄 :=
  iprop(wbfAt c 0 (bLand (k0_pay1 (wMat w4 e))) ∗ wbfAt c 1 (bLand (k0_pay2 (wMat w5 e))) ∗ wbfAt c 2 (bLand (k0_pay3 (wMat w6 e))))
/-- The bf16 buffer at some contents. -/
def roundedAny (c : Dev nD) : sProp 𝕄 := iprop((∃ g, wbfAt (F := F) c 0 g) ∗ (∃ g, wbfAt (F := F) c 1 g) ∗ (∃ g, wbfAt (F := F) c 2 g))
end

/-- One matrix's copy as the body spells it. -/
def start1 {α : Type} (A : WArr) (o4 : Fin 4 → Nat) (h4 : ∀ a, o4 a + S1x1x1024x1024.size a ≤ S2x16x1024x1024.size a)
    (o1 : Fin 1 → Nat) (h1 : ∀ a, o1 a + S1.size a ≤ S3.size a) (o3 : Fin 3 → Nat) (h3 : ∀ a, o3 a + S1x1024x1024.size a ≤ S3x1024x1024.size a)
    (k : PUnit.{1} → Prog (TpuEff nD τ sig (Elt F) Λ₀ .tc) α) : Prog (TpuEff nD τ sig (Elt F) Λ₀ .tc) α :=
  .op (.enqueueDma ((A.slice (Rect.unit (s := S2x16x1024x1024) o4 S1x1x1024x1024.size h4) (fun _ => rfl)).squeeze S1024x1024 squeezes_S1x1x1024x1024_S1024x1024)
    (.here (((Memref.whole cc0_scratch1 : Memref sig .tc .vmem S3x1024x1024 .f32).slice (Rect.unit (s := S3x1024x1024) o3 S1x1024x1024.size h3) (fun _ => rfl)).squeeze S1024x1024 squeezes_S1x1024x1024_S1024x1024))
    (.dma ((cc0_scratch4.slice (Rect.unit (s := S3) o1 S1.size h1)).squeeze S_ squeezes_S1_S_).sem)
    ((View.wordExact_bits rfl).reshape _ _) ((View.wordExact_bits rfl).reshape _ _) ⟨Or.inl rfl, trivial⟩) k

theorem wSrc_eq (A : WArr) (o : Fin 4 → Nat) (h : ∀ a, o a + S1x1x1024x1024.size a ≤ S2x16x1024x1024.size a) (e : Fin 16) (he : o = ![0, e.val, 0, 0]) :
    (A.slice (Rect.unit (s := S2x16x1024x1024) o S1x1x1024x1024.size h) (fun _ => rfl)).squeeze S1024x1024 squeezes_S1x1x1024x1024_S1024x1024 = wSrc A e := by
  subst he; rfl

theorem wDst_eq (o : Fin 3 → Nat) (h : ∀ a, o a + S1x1024x1024.size a ≤ S3x1024x1024.size a) (m : Fin 3) (he : o = ![m.val, 0, 0]) :
    ((Memref.whole cc0_scratch1 : Memref sig .tc .vmem S3x1024x1024 .f32).slice (Rect.unit (s := S3x1024x1024) o S1x1024x1024.size h) (fun _ => rfl)).squeeze S1024x1024 squeezes_S1x1024x1024_S1024x1024
      = wDst m := by
  subst he; rfl

/-- One matrix's copy started. -/
theorem wp_start1 (A : WArr) (c : Dev nD) (m : Fin 3) (f : Buf (Elt F) (A.view.loc (c : Thread nD τ))) (e : Fin 16) {α : Type}
    {o4 : Fin 4 → Nat} {h4 : ∀ a, o4 a + S1x1x1024x1024.size a ≤ S2x16x1024x1024.size a}
    {o1 : Fin 1 → Nat} {h1 : ∀ a, o1 a + S1.size a ≤ S3.size a} {o3 : Fin 3 → Nat} {h3 : ∀ a, o3 a + S1x1024x1024.size a ≤ S3x1024x1024.size a}
    (e4 : o4 = ![0, e.val, 0, 0]) (e1 : o1 = ![m.val]) (e3 : o3 = ![m.val, 0, 0])
    {k : PUnit.{1} → Prog (TpuEff nD τ sig (Elt F) Λ₀ .tc) α} {Q : α → sProp 𝕄} :
    wFree A c m f
      ⊢ iprop((wFly A c m f e -∗ wp frame (wpE (defs₀ (F := F)) Variants.none (c : Thread nD τ) none) Set.univ (k ⟨⟩) Q)
          -∗ wp frame (wpE (defs₀ (F := F)) Variants.none (c : Thread nD τ) none) Set.univ (start1 A o4 h4 o1 h1 o3 h3 k) Q) :=
  wp_wIssue A c m f e _ _ _ (wSrc_eq A o4 h4 e e4) (wDst_eq o3 h3 m e3) (wsem_eq o1 h1 m e1)

/-- One expert's three copies as the body spells them. -/
def start3 {α : Type} (o4 : Fin 4 → Nat) (h4 : ∀ a, o4 a + S1x1x1024x1024.size a ≤ S2x16x1024x1024.size a)
    (k : PUnit.{1} → Prog (TpuEff nD τ sig (Elt F) Λ₀ .tc) α) : Prog (TpuEff nD τ sig (Elt F) Λ₀ .tc) α :=
  start1 M4 o4 h4 ![0] inb_S3_S1_0 ![0, 0, 0] inb_S3x1024x1024_S1x1024x1024_0_0_0 fun _ =>
  start1 M5 o4 h4 ![1] inb_S3_S1_1 ![1, 0, 0] inb_S3x1024x1024_S1x1024x1024_1_0_0 fun _ =>
  start1 M6 o4 h4 ![2] inb_S3_S1_2 ![2, 0, 0] inb_S3x1024x1024_S1x1024x1024_2_0_0 k

/-- The three copies of an expert's matrices started. -/
theorem wp_start3 (c : Dev nD) (w4 w5 w6 : S2x16x1024x1024.Idx → Elt F .f32) (e : Fin 16) {α : Type}
    {o4 : Fin 4 → Nat} {h4 : ∀ a, o4 a + S1x1x1024x1024.size a ≤ S2x16x1024x1024.size a} (e4 : o4 = ![0, e.val, 0, 0])
    {k : PUnit.{1} → Prog (TpuEff nD τ sig (Elt F) Λ₀ .tc) α} {Q : α → sProp 𝕄} :
    frees c w4 w5 w6
      ⊢ iprop((flies c w4 w5 w6 e -∗ wp frame (wpE (defs₀ (F := F)) Variants.none (c : Thread nD τ) none) Set.univ (k ⟨⟩) Q)
          -∗ wp frame (wpE (defs₀ (F := F)) Variants.none (c : Thread nD τ) none) Set.univ (start3 o4 h4 k) Q) := by
  unfold frees flies start3
  iintro ⟨H0, H1, H2⟩ Hk
  iapply (wp_start1 M4 c 0 w4 e e4 rfl rfl) $$ H0
  iintro H0
  iapply (wp_start1 M5 c 1 w5 e e4 rfl rfl) $$ H1
  iintro H1
  iapply (wp_start1 M6 c 2 w6 e e4 rfl rfl) $$ H2
  iintro H2
  iapply Hk
  isplitl [H0]; · iexact H0
  isplitl [H1]; · iexact H1
  iexact H2

/-- One matrix awaited and rounded, as the body spells it. -/
def turn1 {α : Type} (A : WArr) (o4 : Fin 4 → Nat) (h4 : ∀ a, o4 a + S1x1x1024x1024.size a ≤ S2x16x1024x1024.size a)
    (o1 : Fin 1 → Nat) (h1 : ∀ a, o1 a + S1.size a ≤ S3.size a) (o3 : Fin 3 → Nat) (h3 : ∀ a, o3 a + S1x1024x1024.size a ≤ S3x1024x1024.size a)
    (p : (S1x1024x1024.Idx → Elt F .f32) → S1x1024x1024.Idx → Elt F .bf16)
    (hx : ((Memref.whole cc0_scratch2 : Memref sig .tc .vmem S3x1024x1024 .bf16).access (Rect.unit (s := S3x1024x1024) o3 S1x1024x1024.size h3)).Stores Finset.univ)
    (k : PUnit.{1} → Prog (TpuEff nD τ sig (Elt F) Λ₀ .tc) α) : Prog (TpuEff nD τ sig (Elt F) Λ₀ .tc) α :=
  .op (.waitDma2 ((cc0_scratch4.slice (Rect.unit (s := S3) o1 S1.size h1)).squeeze S_ squeezes_S1_S_).sem
    ((A.slice (Rect.unit (s := S2x16x1024x1024) o4 S1x1x1024x1024.size h4) (fun _ => rfl)).squeeze S1024x1024 squeezes_S1x1x1024x1024_S1024x1024)
    (((Memref.whole cc0_scratch1 : Memref sig .tc .vmem S3x1024x1024 .f32).slice (Rect.unit (s := S3x1024x1024) o3 S1x1024x1024.size h3) (fun _ => rfl)).squeeze S1024x1024 squeezes_S1x1024x1024_S1024x1024)
    ((View.wordExact_bits rfl).reshape _ _) ((View.wordExact_bits rfl).reshape _ _)) fun _ =>
  .op (.load (Memref.whole cc0_scratch1 : Memref sig .tc .vmem S3x1024x1024 .f32) (Rect.unit (s := S3x1024x1024) o3 S1x1024x1024.size h3).toLoadRect (View.loadsAt_vmem h_S1x1024x1024)) fun v =>
  .op (.load (Memref.whole cc0_scratch2 : Memref sig .tc .vmem S3x1024x1024 .bf16) (Rect.unit (s := S3x1024x1024) o3 S1x1024x1024.size h3).toLoadRect (View.loadsAt_vmem h_S1x1024x1024)) fun _ =>
  .op (.store (Memref.whole cc0_scratch2 : Memref sig .tc .vmem S3x1024x1024 .bf16) (Rect.unit (s := S3x1024x1024) o3 S1x1024x1024.size h3) (p v) Finset.univ hx (.inl rfl)) k

/-- One matrix awaited and rounded. -/
theorem wp_turn1 (A : WArr) (c : Dev nD) (m : Fin 3) (f : Buf (Elt F) (A.view.loc (c : Thread nD τ))) (e : Fin 16) {α : Type}
    {o4 : Fin 4 → Nat} {h4 : ∀ a, o4 a + S1x1x1024x1024.size a ≤ S2x16x1024x1024.size a}
    {o1 : Fin 1 → Nat} {h1 : ∀ a, o1 a + S1.size a ≤ S3.size a} {o3 : Fin 3 → Nat} {h3 : ∀ a, o3 a + S1x1024x1024.size a ≤ S3x1024x1024.size a}
    {p : (S1x1024x1024.Idx → Elt F .f32) → S1x1024x1024.Idx → Elt F .bf16} {hx} (e1 : o1 = ![m.val]) (e3 : o3 = ![m.val, 0, 0])
    {k : PUnit.{1} → Prog (TpuEff nD τ sig (Elt F) Λ₀ .tc) α} {Q : α → sProp 𝕄} :
    iprop(wFly A c m f e ∗ (∃ g, wbfAt c m g) ∗ (∃ W, owes (c : Thread nD τ) 0 W))
      ⊢ iprop((iprop(wFree A c m f ∗ wbfAt c m (bLand (p (wMat (A.view.read (Elt F) f) e))) ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ (turn1 A o4 h4 o1 h1 o3 h3 p hx k) Q) := by
  iintro ⟨HF, HB, ⟨%W, HO⟩⟩ Hk
  unfold turn1
  iapply (wp_wTurn A c m f e p _ (wsem_eq o1 h1 m e1) o3 h3 e3) $$ [HF HB HO]
  · isplitl [HF]; · iexact HF
    isplitl [HB] <;> iassumption
  iexact Hk

/-- One expert's three matrices awaited and rounded, as the body spells it. -/
def turn3 {α : Type} (o4 : Fin 4 → Nat) (h4 : ∀ a, o4 a + S1x1x1024x1024.size a ≤ S2x16x1024x1024.size a)
    (k : PUnit.{1} → Prog (TpuEff nD τ sig (Elt F) Λ₀ .tc) α) : Prog (TpuEff nD τ sig (Elt F) Λ₀ .tc) α :=
  turn1 M4 o4 h4 ![0] inb_S3_S1_0 ![0, 0, 0] inb_S3x1024x1024_S1x1024x1024_0_0_0 k0_pay1
    (View.stores_vmem h_S1x1024x1024 ((Memref.isWhole_whole _).storeExact_slice rfl _ packedbf16_S3x1024x1024_S1x1024x1024_0_0_0) (fun _ => rfl)) fun _ =>
  turn1 M5 o4 h4 ![1] inb_S3_S1_1 ![1, 0, 0] inb_S3x1024x1024_S1x1024x1024_1_0_0 k0_pay2
    (View.stores_vmem h_S1x1024x1024 ((Memref.isWhole_whole _).storeExact_slice rfl _ packedbf16_S3x1024x1024_S1x1024x1024_1_0_0) (fun _ => rfl)) fun _ =>
  turn1 M6 o4 h4 ![2] inb_S3_S1_2 ![2, 0, 0] inb_S3x1024x1024_S1x1024x1024_2_0_0 k0_pay3
    (View.stores_vmem h_S1x1024x1024 ((Memref.isWhole_whole _).storeExact_slice rfl _ packedbf16_S3x1024x1024_S1x1024x1024_2_0_0) (fun _ => rfl)) k

/-- One expert's three matrices awaited and rounded. -/
theorem wp_turn3 (c : Dev nD) (w4 w5 w6 : S2x16x1024x1024.Idx → Elt F .f32) (e : Fin 16) {α : Type}
    {o4 : Fin 4 → Nat} {h4 : ∀ a, o4 a + S1x1x1024x1024.size a ≤ S2x16x1024x1024.size a}
    {k : PUnit.{1} → Prog (TpuEff nD τ sig (Elt F) Λ₀ .tc) α} {Q : α → sProp 𝕄} :
    iprop(flies c w4 w5 w6 e ∗ roundedAny c ∗ (∃ W, owes (c : Thread nD τ) 0 W))
      ⊢ iprop((iprop(frees c w4 w5 w6 ∗ rounded c w4 w5 w6 e ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ (turn3 o4 h4 k) Q) := by
  unfold flies roundedAny frees rounded turn3
  iintro ⟨⟨H0, H1, H2⟩, ⟨B0, B1, B2⟩, HO⟩ Hk
  iapply (wp_turn1 M4 c 0 w4 e rfl rfl) $$ [H0 B0 HO]
  · isplitl [H0]; · iexact H0
    isplitl [B0] <;> iassumption
  iintro ⟨H0, B0, HO⟩
  iapply (wp_turn1 M5 c 1 w5 e rfl rfl) $$ [H1 B1 HO]
  · isplitl [H1]; · iexact H1
    isplitl [B1] <;> iassumption
  iintro ⟨H1, B1, HO⟩
  iapply (wp_turn1 M6 c 2 w6 e rfl rfl) $$ [H2 B2 HO]
  · isplitl [H2]; · iexact H2
    isplitl [B2] <;> iassumption
  iintro ⟨H2, B2, HO⟩
  iapply Hk
  isplitl [H0 H1 H2]
  · isplitl [H0]; · iexact H0
    isplitl [H1] <;> iassumption
  isplitl [B0 B1 B2]
  · isplitl [B0]; · iexact B0
    isplitl [B1]; · iexact B1
    iexact B2
  iexact HO

end Cert.Kernel2Ideal.Ffn

end
-- ==== Proof.Ffn.Body.lean ====
/-
  The first part of one grid step: its copies started and awaited, and the first rows read.
-/
module

public import proofs.«01_k».proof.Proof.Ffn.Stages

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.ValueIdx (ix2 ix3 reshapeEquiv_ix2_1ab)

variable {F : FTy → Type} [FloatOps F]

local notation "𝕄" => MT nD τ sig Unit (Elt F) ℕ (Pipeline.UD sig nD τ) ℕ

variable (a2 : Memref sig .tc .smem S1x1x512 .i32) (h2 : a2.IsWhole) (a3 : Memref sig .tc .smem S1x1x512 .i32) (h3 : a3.IsWhole)
  (a4 : Memref sig .tc .vmem S1x1x512 .f32) (h4 : a4.IsWhole) (a7 : Memref sig .tc .vmem S1x1024 .f32) (h7 : a7.IsWhole)
  (a11 : Memref sig .tc .vmem S512x1024 .bf16) (h11 : a11.IsWhole)

/-- The two loops' bodies on this call's buffers. -/
abbrev loop1 (i : grid0.Coords) (hc : k0_cond1 i = 1#1) : Fin k0_t1_loop.trips → Unit → Prog (TpuEff nD τ sig (Elt F) Λ₀ .tc) Unit :=
  k0_t1_body i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4 hc
abbrev loop2 (i : grid0.Coords) : Fin k0_t2_loop.trips → Unit → Prog (TpuEff nD τ sig (Elt F) Λ₀ .tc) Unit :=
  k0_t2_body i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4

theorem loop1_eq (i : grid0.Coords) (hc : k0_cond1 i = 1#1) (k : Fin k0_t1_loop.trips) (acc : Unit) :
    loop1 (F := F) a2 h2 a3 h3 a4 h4 a7 h7 a11 h11 i hc k acc
      = trip a2 (k0_off1 k) (k0_off1_inb i k hc) (k0_chk1 i) (k0_chk1.dec i) ((cc0_scratch3.slice (Rect.unit (s := S2) ![0] S1.size inb_S2_S1_0)).squeeze S_ squeezes_S1_S_).sem
        (((Memref.whole cc0_scratch0 : Memref sig .tc .vmem S2x4096x128 .f32).slice (Rect.unit (s := S2x4096x128) (k0_off2 k) S1x8x128.size (k0_off2_inb i k hc)) (fun _ => rfl)).squeeze S8x128 squeezes_S1x8x128_S8x128)
        ((View.wordExact_bits rfl).reshape _ _) k0_off3 (fun v h => k0_off3_inb i v h hc) := rfl

theorem loop2_eq (i : grid0.Coords) (k : Fin k0_t2_loop.trips) (acc : Unit) :
    loop2 (F := F) a2 h2 a3 h3 a4 h4 a7 h7 a11 h11 i k acc
      = trip a3 (k0_off6 k) (k0_off6_inb k) k0_chk2 k0_chk2.dec ((cc0_scratch3.slice (Rect.unit (s := S2) (k0_off7 i) S1.size (k0_off7_inb i))).squeeze S_ squeezes_S1_S_).sem
        (((Memref.whole cc0_scratch0 : Memref sig .tc .vmem S2x4096x128 .f32).slice (Rect.unit (s := S2x4096x128) (k0_off8 i k) S1x8x128.size (k0_off8_inb i k)) (fun _ => rfl)).squeeze S8x128 squeezes_S1x8x128_S8x128)
        ((View.wordExact_bits rfl).reshape _ _) k0_off9 (fun v h => k0_off9_inb v h) := rfl

theorem inb_row (v : BitVec 32) (hv : v.toNat < 16384) : ∀ a, (![v.toNat, 0, 0] : Fin 3 → Nat) a + S1x8x128.size a ≤ S16384x8x128.size a := by
  intro a; fin_cases a
  · show v.toNat + 1 ≤ 16384; omega
  · show 0 + 8 ≤ 8; omega
  · show 0 + 128 ≤ 128; omega

section
variable (c : Dev nD) (xa : S16384x8x128.Idx → Elt F .f32) (ix : Fin 512 → Fin 16384)
  (X : S1x1x512.Idx → Elt F .i32) (hX : ∀ r : Fin 512, (X (ix3 (0 : Fin 1) (0 : Fin 1) r) : BitVec 32).toNat = (ix r).val)
include hX

/-- The first step's own rows started. -/
theorem wp_loop1 (t : Fin grid0.N) (hc : k0_cond1 (grid0.coords t) = 1#1) {α : Type} {kk : Unit → Prog (TpuEff nD τ sig (Elt F) Λ₀ .tc) α} {Q : α → sProp 𝕄} :
    iprop(owns (c : Thread nD τ) a2 fullShare X ∗ slotFree c 0 xa)
      ⊢ iprop((iprop(owns (c : Thread nD τ) a2 fullShare X ∗ slotFull c 0 xa ix) -∗ wp frame (wpE (defs₀ (F := F)) Variants.none (c : Thread nD τ) none) Set.univ (kk ⟨⟩) Q)
          -∗ wp frame (wpE (defs₀ (F := F)) Variants.none (c : Thread nD τ) none) Set.univ (Scf.Loop.for k0_t1_loop (k0_t1_ok (grid0.coords t) hc) ⟨⟩ (loop1 a2 h2 a3 h3 a4 h4 a7 h7 a11 h11 (grid0.coords t) hc) >>= kk) Q) := by
  refine wp_issueLoop c 0 xa ix a2 X k0_t1_loop _ (by decide) _ fun k acc r g hr => ?_
  rw [loop1_eq]
  exact wp_trip c 0 r xa ix X hX g a2 _ _ _ _ _ _ _ _ _ ((k0_off1_eq k).trans (by rw [hr])) (sem_eq _ _ 0 rfl)
    (dst_eq _ _ 0 r ((k0_off2_eq k).trans (by rw [hr]; rfl))) (fun v => rfl) (fun v hv h1 => inb_row v hv)

/-- The next step's rows started. -/
theorem wp_loop2 (t : Fin grid0.N) {α : Type} {kk : Unit → Prog (TpuEff nD τ sig (Elt F) Λ₀ .tc) α} {Q : α → sProp 𝕄} :
    iprop(owns (c : Thread nD τ) a3 fullShare X ∗ slotFree c (oth t.val) xa)
      ⊢ iprop((iprop(owns (c : Thread nD τ) a3 fullShare X ∗ slotFull c (oth t.val) xa ix) -∗ wp frame (wpE (defs₀ (F := F)) Variants.none (c : Thread nD τ) none) Set.univ (kk ⟨⟩) Q)
          -∗ wp frame (wpE (defs₀ (F := F)) Variants.none (c : Thread nD τ) none) Set.univ (Scf.Loop.for k0_t2_loop k0_t2_ok ⟨⟩ (loop2 a2 h2 a3 h3 a4 h4 a7 h7 a11 h11 (grid0.coords t)) >>= kk) Q) := by
  refine wp_issueLoop c (oth t.val) xa ix a3 X k0_t2_loop _ (by decide) _ fun k acc r g hr => ?_
  rw [loop2_eq]
  exact wp_trip c (oth t.val) r xa ix X hX g a3 _ _ _ _ _ _ _ _ _ ((k0_off6_eq k).trans (by rw [hr])) (sem_eq _ _ _ ((k0_off7_eq _).trans (by rw [step_eq]; rfl)))
    (dst_eq _ _ _ r ((k0_off8_eq _ k).trans (by rw [step_eq, hr]; rfl))) (fun v => rfl) (fun v hv => inb_row v hv)
end

/-! ## The stages -/

/-- The first step's start. -/
def stage1 {α : Type} (i : grid0.Coords) (kk : PUnit.{1} → Prog (TpuEff nD τ sig (Elt F) Λ₀ .tc) α) : Prog (TpuEff nD τ sig (Elt F) Λ₀ .tc) α :=
  if hc : k0_cond1 i = 1#1 then
    start3 ![0, 0, 0, 0] inb_S2x16x1024x1024_S1x1x1024x1024_0_0_0_0 fun _ =>
      Scf.Loop.for k0_t1_loop (k0_t1_ok i hc) ⟨⟩ (loop1 a2 h2 a3 h3 a4 h4 a7 h7 a11 h11 i hc) >>= fun _ => kk ⟨⟩
  else kk ⟨⟩

/-- An expert's first step. -/
def stage2 {α : Type} (i : grid0.Coords) (kk : PUnit.{1} → Prog (TpuEff nD τ sig (Elt F) Λ₀ .tc) α) : Prog (TpuEff nD τ sig (Elt F) Λ₀ .tc) α :=
  if hc : k0_cond2 i = 1#1 then
    turn3 (k0_off4 i) (k0_off4_inb i hc) fun _ =>
      if hn : k0_cond3 i = 1#1 then start3 (k0_off5 i) (k0_off5_inb i hc hn) kk else kk ⟨⟩
  else kk ⟨⟩

/-- The wait for the step's own rows. -/
def stage4 {α : Type} (i : grid0.Coords) (kk : PUnit.{1} → Prog (TpuEff nD τ sig (Elt F) Λ₀ .tc) α) : Prog (TpuEff nD τ sig (Elt F) Λ₀ .tc) α :=
  .op (.waitDma2 ((cc0_scratch3.slice (Rect.unit (s := S2) (k0_off10 i) S1.size (k0_off10_inb i))).squeeze S_ squeezes_S1_S_).sem
    ((Memref.whole main_v0 : Memref sig .tc .hbm S131072x128 .f32).slice (Rect.unit (s := S131072x128) ![0, 0] S4096x128.size inb_S131072x128_S4096x128_0_0) (fun _ => rfl))
    (((Memref.whole cc0_scratch0 : Memref sig .tc .vmem S2x4096x128 .f32).slice (Rect.unit (s := S2x4096x128) (k0_off11 i) S1x4096x128.size (k0_off11_inb i)) (fun _ => rfl)).squeeze S4096x128 squeezes_S1x4096x128_S4096x128)
    (View.wordExact_bits rfl) ((View.wordExact_bits rfl).reshape _ _)) kk

/-- One sublane of every row read. -/
def rowsAt {α : Type} (o : Fin 3 → Nat) (ho : ∀ a : Fin 3, S1x512x128.size a = 0 ∨ o a + (![1, 8, 1] : Fin 3 → Nat) a * (S1x512x128.size a - 1) < S2x4096x128.size a)
    (kk : (S1x512x128.Idx → Elt F .f32) → Prog (TpuEff nD τ sig (Elt F) Λ₀ .tc) α) : Prog (TpuEff nD τ sig (Elt F) Λ₀ .tc) α :=
  .op (.load (Memref.whole cc0_scratch0 : Memref sig .tc .vmem S2x4096x128 .f32) (⟨o, S1x512x128.size, ![1, 8, 1], ho⟩ : LoadRect S2x4096x128) (View.loadsAt_vmem h_S1x512x128)) kk

/-- The step's number as the body computes it, and its slot. -/
def stepWord (i : grid0.Coords) : BitVec 32 := Scalar.addi (Scalar.muli (BitVec.ofNat 32 (i 0).val) 4#32) (BitVec.ofNat 32 (i 1).val)

set_option maxRecDepth 65536 in
/-- The body's first part is its stages. -/
theorem part2_eq (i : grid0.Coords) :
    k0_part2 (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4
      = stage1 a2 h2 a3 h3 a4 h4 a7 h7 a11 h11 i fun _ => stage2 i fun _ =>
        Scf.Loop.for k0_t2_loop k0_t2_ok ⟨⟩ (loop2 a2 h2 a3 h3 a4 h4 a7 h7 a11 h11 i) >>= fun _ => stage4 i fun _ =>
        rowsAt (k0_off12 i) (k0_off12_inb i) fun v17 => rowsAt (k0_off13 i) (k0_off13_inb i) fun v20 =>
        rowsAt (k0_off14 i) (k0_off14_inb i) fun v23 => rowsAt (k0_off15 i) (k0_off15_inb i) fun v26 =>
        .ret ⟨stepWord i, Scalar.remsi (stepWord i) 2#32, k0_pay4 v17, k0_pay5 v20, k0_pay6 v23, k0_pay7 v26⟩ := rfl

/-! ## What the step holds between the stages -/

section
variable (c : Dev nD) (xa : S16384x8x128.Idx → Elt F .f32) (ix : ℕ → Fin 512 → Fin 16384)
  (w4 w5 w6 : S2x16x1024x1024.Idx → Elt F .f32)

/-- The two slots before step `t`: the step's own full, the other free; both free before the first step and after the last. -/
def slotsPhi (t : ℕ) : sProp 𝕄 :=
  if t = 0 ∨ t = 64 then iprop(slotFree c 0 xa ∗ slotFree c 1 xa)
  else iprop(slotFull c (cur t) xa (ix t) ∗ slotFree c (oth t) xa)

/-- The weights before step `t`: before an expert's first step its matrices on their way and nothing in the bf16 buffer,
    before its other steps the next expert's on their way and its own rounded. -/
def weightsPhi (t : ℕ) : sProp 𝕄 :=
  if t = 0 ∨ t = 64 then iprop(frees c w4 w5 w6 ∗ roundedAny c)
  else if t % 4 = 0 then iprop(flies c w4 w5 w6 (Fin.ofNat 16 (t / 4)) ∗ roundedAny c)
  else iprop(nextW c w4 w5 w6 (t / 4) ∗ rounded c w4 w5 w6 (Fin.ofNat 16 (t / 4)))

/-- The slots and the weights once the first step's copies are started. -/
def slotsMid (t : ℕ) : sProp 𝕄 := iprop(slotFull c (cur t) xa (ix t) ∗ slotFree c (oth t) xa)
def weightsMid (t : ℕ) : sProp 𝕄 :=
  if t % 4 = 0 then iprop(flies c w4 w5 w6 (Fin.ofNat 16 (t / 4)) ∗ roundedAny c)
  else iprop(nextW c w4 w5 w6 (t / 4) ∗ rounded c w4 w5 w6 (Fin.ofNat 16 (t / 4)))
/-- The weights once the expert's matrices are rounded. -/
def weightsPost (t : ℕ) : sProp 𝕄 := iprop(nextW c w4 w5 w6 (t / 4) ∗ rounded c w4 w5 w6 (Fin.ofNat 16 (t / 4)))

/-- The first stage. -/
theorem wp_stage1 (t : Fin grid0.N) (X : S1x1x512.Idx → Elt F .i32)
    (hX : ∀ r : Fin 512, (X (ix3 (0 : Fin 1) (0 : Fin 1) r) : BitVec 32).toNat = (ix t.val r).val)
    {α : Type} {kk : PUnit.{1} → Prog (TpuEff nD τ sig (Elt F) Λ₀ .tc) α} {Q : α → sProp 𝕄} :
    iprop(owns (c : Thread nD τ) a2 fullShare X ∗ slotsPhi c xa ix t.val ∗ weightsPhi c w4 w5 w6 t.val)
      ⊢ iprop((iprop(owns (c : Thread nD τ) a2 fullShare X ∗ slotsMid c xa ix t.val ∗ weightsMid c w4 w5 w6 t.val) -∗ wp frame (wpE (defs₀ (F := F)) Variants.none (c : Thread nD τ) none) Set.univ (kk ⟨⟩) Q)
          -∗ wp frame (wpE (defs₀ (F := F)) Variants.none (c : Thread nD τ) none) Set.univ (stage1 a2 h2 a3 h3 a4 h4 a7 h7 a11 h11 (grid0.coords t) kk) Q) := by
  have h64 : t.val < 64 := t_lt t
  by_cases h0 : t.val = 0
  · have hc := (cond1_iff t).mpr h0
    unfold stage1
    rw [dif_pos hc]
    have e1 : slotsPhi c xa ix t.val = iprop(slotFree c 0 xa ∗ slotFree c 1 xa) := if_pos (Or.inl h0)
    have e2 : weightsPhi c w4 w5 w6 t.val = iprop(frees c w4 w5 w6 ∗ roundedAny c) := if_pos (Or.inl h0)
    have e3 : slotsMid c xa ix t.val = iprop(slotFull c 0 xa (ix t.val) ∗ slotFree c 1 xa) := by
      unfold slotsMid; rw [show cur t.val = 0 from by rw [h0]; rfl, show oth t.val = 1 from by rw [h0]; rfl]
    have e4 : weightsMid c w4 w5 w6 t.val = iprop(flies c w4 w5 w6 0 ∗ roundedAny c) := by
      unfold weightsMid; rw [if_pos (by rw [h0]), show Fin.ofNat 16 (t.val / 4) = 0 from by rw [h0]; rfl]
    rw [e1, e2, e3, e4]
    iintro ⟨Hx, ⟨S0, S1⟩, ⟨HF, HR⟩⟩ Hk
    iapply (wp_start3 c w4 w5 w6 0 rfl) $$ HF
    iintro HF
    iapply (wp_loop1 a2 h2 a3 h3 a4 h4 a7 h7 a11 h11 c xa (ix t.val) X hX t hc) $$ [Hx S0]
    · isplitl [Hx] <;> iassumption
    iintro ⟨Hx, S0⟩
    iapply Hk
    isplitl [Hx]; · iexact Hx
    isplitl [S0 S1]
    · isplitl [S0] <;> iassumption
    isplitl [HF] <;> iassumption
  · have hc : ¬ k0_cond1 (grid0.coords t) = 1#1 := fun h => h0 ((cond1_iff t).mp h)
    unfold stage1
    rw [dif_neg hc]
    have hn : ¬ (t.val = 0 ∨ t.val = 64) := by omega
    rw [show slotsPhi c xa ix t.val = slotsMid c xa ix t.val from if_neg hn,
      show weightsPhi c w4 w5 w6 t.val = weightsMid c w4 w5 w6 t.val from if_neg hn]
    iintro H Hk
    iapply Hk
    iexact H

/-- The second stage. -/
theorem wp_stage2 (t : Fin grid0.N) {α : Type} {kk : PUnit.{1} → Prog (TpuEff nD τ sig (Elt F) Λ₀ .tc) α} {Q : α → sProp 𝕄} :
    iprop(weightsMid c w4 w5 w6 t.val ∗ (∃ W, owes (c : Thread nD τ) 0 W))
      ⊢ iprop((iprop(weightsPost c w4 w5 w6 t.val ∗ (∃ W, owes (c : Thread nD τ) 0 W)) -∗ wp frame (wpE (defs₀ (F := F)) Variants.none (c : Thread nD τ) none) Set.univ (kk ⟨⟩) Q)
          -∗ wp frame (wpE (defs₀ (F := F)) Variants.none (c : Thread nD τ) none) Set.univ (stage2 (grid0.coords t) kk) Q) := by
  have h64 : t.val < 64 := t_lt t
  by_cases h0 : t.val % 4 = 0
  · have hc := (cond2_iff t).mpr h0
    unfold stage2
    rw [dif_pos hc]
    rw [show weightsMid c w4 w5 w6 t.val = iprop(flies c w4 w5 w6 (Fin.ofNat 16 (t.val / 4)) ∗ roundedAny c) from if_pos h0]
    unfold weightsPost nextW
    iintro ⟨⟨HF, HR⟩, HO⟩ Hk
    iapply (wp_turn3 c w4 w5 w6 (Fin.ofNat 16 (t.val / 4))) $$ [HF HR HO]
    · isplitl [HF]; · iexact HF
      isplitl [HR] <;> iassumption
    iintro ⟨HF, HR, HO⟩
    by_cases h3 : t.val / 4 + 1 < 16
    · rw [dif_pos ((cond3_iff t).mpr h3), dif_pos h3]
      iapply (wp_start3 c w4 w5 w6 ⟨t.val / 4 + 1, h3⟩ ((k0_off5_eq _).trans (by rw [(coords_eq t).1]))) $$ HF
      iintro HF
      iapply Hk
      isplitl [HF HR]
      · isplitl [HF] <;> iassumption
      iexact HO
    · rw [dif_neg (fun h => h3 ((cond3_iff t).mp h)), dif_neg h3]
      iapply Hk
      isplitl [HF HR]
      · isplitl [HF] <;> iassumption
      iexact HO
  · have hc : ¬ k0_cond2 (grid0.coords t) = 1#1 := fun h => h0 ((cond2_iff t).mp h)
    unfold stage2
    rw [dif_neg hc, show weightsMid c w4 w5 w6 t.val = weightsPost c w4 w5 w6 t.val from if_neg h0]
    iintro H Hk
    iapply Hk
    iexact H

/-- The wait for the step's rows. -/
theorem wp_stage4 (t : Fin grid0.N) {α : Type} {kk : PUnit.{1} → Prog (TpuEff nD τ sig (Elt F) Λ₀ .tc) α} {Q : α → sProp 𝕄} :
    iprop(slotFull c (cur t.val) xa (ix t.val) ∗ (∃ W, owes (c : Thread nD τ) 0 W))
      ⊢ iprop((iprop(slotAt c (cur t.val) (landed xa (ix t.val)) ∗ semVal (c, .dma (cellAt (cur t.val))) 0 ∗ tokens c (halfShare (cur t.val)) xa
            ∗ (∃ W, owes (c : Thread nD τ) 0 W)) -∗ wp frame (wpE (defs₀ (F := F)) Variants.none (c : Thread nD τ) none) Set.univ (kk ⟨⟩) Q)
          -∗ wp frame (wpE (defs₀ (F := F)) Variants.none (c : Thread nD τ) none) Set.univ (stage4 (grid0.coords t) kk) Q) := by
  unfold stage4
  iintro ⟨HS, ⟨%W, HO⟩⟩ Hk
  iapply (wp_drain c (cur t.val) xa (ix t.val) (sem_eq _ _ _ ((k0_off10_eq _).trans (by rw [step_eq]; rfl)))) $$ [HS HO]
  · isplitl [HS] <;> iassumption
  iexact Hk

/-- What a read of one sublane of every row reads. -/
abbrev rowsRead (o : Fin 3 → Nat) (ho : ∀ a : Fin 3, S1x512x128.size a = 0 ∨ o a + (![1, 8, 1] : Fin 3 → Nat) a * (S1x512x128.size a - 1) < S2x4096x128.size a)
    (L : S2x4096x128.Idx → Elt F .f32) : S1x512x128.Idx → Elt F .f32 :=
  (Memref.whole cc0_scratch0 : Memref sig .tc .vmem S2x4096x128 .f32).view.readAt (Elt F) (⟨o, S1x512x128.size, ![1, 8, 1], ho⟩ : LoadRect S2x4096x128) L

/-- One sublane of every row of the step's slot read. -/
theorem wp_rowsAt (s : Fin 2) (L : S2x4096x128.Idx → Elt F .f32) {o : Fin 3 → Nat}
    {ho : ∀ a : Fin 3, S1x512x128.size a = 0 ∨ o a + (![1, 8, 1] : Fin 3 → Nat) a * (S1x512x128.size a - 1) < S2x4096x128.size a}
    (j : ℕ) (e : o = ![s.val, j, 0]) {α : Type} {kk : (S1x512x128.Idx → Elt F .f32) → Prog (TpuEff nD τ sig (Elt F) Λ₀ .tc) α} {Q : α → sProp 𝕄} :
    slotAt c s L ⊢ iprop((slotAt c s L -∗ wp frame (wpE (defs₀ (F := F)) Variants.none (c : Thread nD τ) none) Set.univ (kk (rowsRead o ho L)) Q) -∗ wp frame (wpE (defs₀ (F := F)) Variants.none (c : Thread nD τ) none) Set.univ (rowsAt o ho kk) Q) := by
  unfold rowsAt
  refine wp_load Variants.none (c : Thread nD τ) none Set.univ (m := (Memref.whole cc0_scratch0 : Memref sig .tc .vmem S2x4096x128 .f32))
    (r := (⟨o, S1x512x128.size, ![1, 8, 1], ho⟩ : LoadRect S2x4096x128)) ?_
  intro y hy
  obtain ⟨z, hz, rfl⟩ := Finset.mem_map.mp hy
  obtain ⟨k, hk, h0⟩ := (LoadRect.mem_set _).mp hz 0
  refine (mem_slotSet s _).mpr ?_
  have hk0 : k = 0 := by have : k < 1 := hk; omega
  subst hk0
  have h0' : (z 0 : Nat) = o 0 + 1 * 0 := h0
  rw [e] at h0'
  exact h0'
end

end Cert.Kernel2Ideal.Ffn

end
-- ==== Proof.Ffn.Step.lean ====
/-
  One whole grid step: its copies, its reads, its store, and what it leaves for the next step.
-/
module

public import proofs.«01_k».proof.Proof.Ffn.Body

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.ValueIdx (ix2 ix3 reshapeEquiv_ix2_1ab)

variable {F : FTy → Type} [FloatOps F]

local notation "𝕄" => MT nD τ sig Unit (Elt F) ℕ (Pipeline.UD sig nD τ) ℕ

variable (a2 : Memref sig .tc .smem S1x1x512 .i32) (h2 : a2.IsWhole) (a3 : Memref sig .tc .smem S1x1x512 .i32) (h3 : a3.IsWhole)
  (a4 : Memref sig .tc .vmem S1x1x512 .f32) (h4 : a4.IsWhole) (a7 : Memref sig .tc .vmem S1x1024 .f32) (h7 : a7.IsWhole)
  (a11 : Memref sig .tc .vmem S512x1024 .bf16) (h11 : a11.IsWhole)

/-! ## Reads and the store of whole windows and planes -/

/-- A rectangle of the whole shape places every index at itself. -/
theorem emb_unit {s : Shape} {o : Fin s.rank → Nat} {h : ∀ a, o a + s.size a ≤ s.size a} (ho : ∀ a, o a = 0) (z : s.Idx) :
    (Rect.unit (s := s) o s.size h).emb z = z := by
  funext a
  refine Fin.ext ?_
  show o a + 1 * (z a).val = (z a).val
  rw [ho a]; omega

/-- A read of a whole window. -/
theorem wp_readWin (c : Dev nD) {s : Shape} {e : EltTy} (a : Memref sig .tc .vmem s e) (X : s.Idx → Elt F e) {o : Fin s.rank → Nat}
    {h : ∀ a, o a + s.size a ≤ s.size a} (ho : ∀ a, o a = 0) {hl : a.view.LoadsAt (Rect.unit (s := s) o s.size h).toLoadRect}
    {α : Type} {kk : (s.Idx → Elt F e) → Prog (TpuEff nD τ sig (Elt F) Λ₀ .tc) α} {Q : α → sProp 𝕄} :
    owns (c : Thread nD τ) a fullShare X
      ⊢ iprop((owns (c : Thread nD τ) a fullShare X -∗ wp frame (wpE (defs₀ (F := F)) Variants.none (c : Thread nD τ) none) Set.univ (kk X) Q)
          -∗ wp frame (wpE (defs₀ (F := F)) Variants.none (c : Thread nD τ) none) Set.univ (.op (.load a (Rect.unit (s := s) o s.size h).toLoadRect hl) kk) Q) := by
  unfold owns
  iintro ⟨%f, %hf, Hp⟩ Hk
  iapply (wp_load_rect Variants.none (c : Thread nD τ) none Set.univ (m := a) (r := Rect.unit (s := s) o s.size h) (S := a.view.set) (View.set_slice_subset _ _)) $$ Hp
  iintro Hp
  have hv : (a.access (Rect.unit (s := s) o s.size h)).read (Elt F) f = X := by
    rw [← hf]
    funext z
    refine Eq.trans (b := a.view.read (Elt F) f ((Rect.unit (s := s) o s.size h).emb z)) rfl ?_
    rw [emb_unit ho]
  rw [hv]
  iapply Hk
  iexists f; isplitr
  · ipureintro; exact hf
  · iexact Hp

/-- A store of a whole window. -/
theorem wp_writeWin (c : Dev nD) {s : Shape} {e : EltTy} (a : Memref sig .tc .vmem s e) (X w : s.Idx → Elt F e) {o : Fin s.rank → Nat}
    {h : ∀ a, o a + s.size a ≤ s.size a} (ho : ∀ a, o a = 0) {hx hm}
    {α : Type} {kk : PUnit.{1} → Prog (TpuEff nD τ sig (Elt F) Λ₀ .tc) α} {Q : α → sProp 𝕄} :
    owns (c : Thread nD τ) a fullShare X
      ⊢ iprop((owns (c : Thread nD τ) a fullShare w -∗ wp frame (wpE (defs₀ (F := F)) Variants.none (c : Thread nD τ) none) Set.univ (kk ⟨⟩) Q)
          -∗ wp frame (wpE (defs₀ (F := F)) Variants.none (c : Thread nD τ) none) Set.univ (.op (.store a (Rect.unit (s := s) o s.size h) w Finset.univ hx hm) kk) Q) := by
  unfold owns
  iintro ⟨%f, %hf, Hp⟩ Hk
  iapply (wp_store Variants.none (c : Thread nD τ) none Set.univ (m := a) (r := Rect.unit (s := s) o s.size h) (S := a.view.set) (View.set_slice_subset _ _)) $$ Hp
  iintro Hp
  iapply Hk
  iexists _; isplitr
  · ipureintro
    funext z
    refine Eq.trans (b := (a.access (Rect.unit (s := s) o s.size h)).read (Elt F) ((a.access (Rect.unit (s := s) o s.size h)).write (Elt F) f w Finset.univ) z) ?_ ?_
    · refine Eq.trans ?_ (b := a.view.read (Elt F) ((a.access (Rect.unit (s := s) o s.size h)).write (Elt F) f w Finset.univ) ((Rect.unit (s := s) o s.size h).emb z)) rfl
      rw [emb_unit ho]
    · rw [View.read_write_univ]
  · iexact Hp

/-- A read of one plane of the bf16 buffer. -/
theorem wp_readPlane (c : Dev nD) (m : Fin 3) (p : S1x1024x1024.Idx → Elt F .bf16) {o : Fin 3 → Nat}
    {ho : ∀ a, o a + S1x1024x1024.size a ≤ S3x1024x1024.size a} (eo : o = ![m.val, 0, 0]) {hl}
    {α : Type} {kk : (S1x1024x1024.Idx → Elt F .bf16) → Prog (TpuEff nD τ sig (Elt F) Λ₀ .tc) α} {Q : α → sProp 𝕄} :
    wbfAt c m (bLand p)
      ⊢ iprop((wbfAt c m (bLand p) -∗ wp frame (wpE (defs₀ (F := F)) Variants.none (c : Thread nD τ) none) Set.univ (kk p) Q)
          -∗ wp frame (wpE (defs₀ (F := F)) Variants.none (c : Thread nD τ) none) Set.univ (.op (.load (Memref.whole cc0_scratch2 : Memref sig .tc .vmem S3x1024x1024 .bf16) (Rect.unit (s := S3x1024x1024) o S1x1024x1024.size ho).toLoadRect hl) kk) Q) := by
  subst eo
  have hset : ((Memref.whole cc0_scratch2 : Memref sig .tc .vmem S3x1024x1024 .bf16).access (plane m)).set ⊆ (plane m).set := (View.set_slice_whole _ _).le
  unfold wbfAt
  iintro Hp Hk
  iapply (wp_load_rect Variants.none (c : Thread nD τ) none Set.univ (m := (Memref.whole cc0_scratch2 : Memref sig .tc .vmem S3x1024x1024 .bf16)) (r := plane m) hset) $$ Hp
  iintro Hp
  have hv : ((Memref.whole cc0_scratch2 : Memref sig .tc .vmem S3x1024x1024 .bf16).access (plane m)).read (Elt F) (bLand p) = p := by
    funext z
    refine Eq.trans (b := bLand p ((plane m).emb z)) rfl ?_
    rw [plane_emb]
    refine congrArg p ?_
    have h0 : (z 0).val < 1 := (z 0).isLt
    funext a; fin_cases a
    · exact Fin.ext (by show 0 = (z 0).val; omega)
    · rfl
    · rfl
  rw [hv]
  iapply Hk
  iexact Hp

/-! ## The step -/

/-- What a step computes from its slot, the gain, the rounded matrices and the gates. -/
def stepOut (i : grid0.Coords) (L : S2x4096x128.Idx → Elt F .f32) (G : S1x1024.Idx → Elt F .f32)
    (b0 b1 b2 : S1x1024x1024.Idx → Elt F .bf16) (g : S1x1x512.Idx → Elt F .f32) : S512x1024.Idx → Elt F .bf16 :=
  k0_pay9 (k0_pay8 (k0_pay4 (rowsRead (k0_off12 i) (k0_off12_inb i) L)) (k0_pay5 (rowsRead (k0_off13 i) (k0_off13_inb i) L))
    (k0_pay6 (rowsRead (k0_off14 i) (k0_off14_inb i) L)) (k0_pay7 (rowsRead (k0_off15 i) (k0_off15_inb i) L))
    (rowsRead (k0_off16 i) (k0_off16_inb i) L) (rowsRead (k0_off17 i) (k0_off17_inb i) L)
    (rowsRead (k0_off18 i) (k0_off18_inb i) L) (rowsRead (k0_off19 i) (k0_off19_inb i) L) G b0 b1) b2 g

set_option maxRecDepth 65536 in
/-- The body's second part. -/
theorem part3_eq (i : grid0.Coords) (v2 : BitVec 32) (v18 v21 v24 v27 : FVec F S512x128 .f32) :
    k0_part3 (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4 v2 v18 v21 v24 v27
      = rowsAt (k0_off16 i) (k0_off16_inb i) fun v29 => rowsAt (k0_off17 i) (k0_off17_inb i) fun v32 =>
        rowsAt (k0_off18 i) (k0_off18_inb i) fun v35 => rowsAt (k0_off19 i) (k0_off19_inb i) fun v38 =>
        .op (.load a7 (Rect.unit (s := S1x1024) ![0, 0] S1x1024.size inb_S1x1024_S1x1024_0_0).toLoadRect (View.loadsAt_vmem h_S1x1024)) fun v41 =>
        .op (.load (Memref.whole cc0_scratch2 : Memref sig .tc .vmem S3x1024x1024 .bf16) (Rect.unit (s := S3x1024x1024) ![0, 0, 0] S1x1024x1024.size inb_S3x1024x1024_S1x1024x1024_0_0_0).toLoadRect (View.loadsAt_vmem h_S1x1024x1024)) fun v56 =>
        .op (.load (Memref.whole cc0_scratch2 : Memref sig .tc .vmem S3x1024x1024 .bf16) (Rect.unit (s := S3x1024x1024) ![1, 0, 0] S1x1024x1024.size inb_S3x1024x1024_S1x1024x1024_1_0_0).toLoadRect (View.loadsAt_vmem h_S1x1024x1024)) fun v61 =>
        .op (.load (Memref.whole cc0_scratch2 : Memref sig .tc .vmem S3x1024x1024 .bf16) (Rect.unit (s := S3x1024x1024) ![2, 0, 0] S1x1024x1024.size inb_S3x1024x1024_S1x1024x1024_2_0_0).toLoadRect (View.loadsAt_vmem h_S1x1024x1024)) fun v66 =>
        .ret ⟨k0_pay8 v18 v21 v24 v27 v29 v32 v35 v38 v41 v56 v61, v66⟩ := rfl

/-- The body's last part before the final wait. -/
theorem part4_eq (i : grid0.Coords) (v1 : BitVec 32) (v65 : FVec F S512x1024 .bf16) (v66 : Vec F S1x1024x1024 .bf16) :
    k0_part4 (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4 v1 v65 v66
      = .op (.load a4 (Rect.unit (s := S1x1x512) ![0, 0, 0] S1x1x512.size inb_S1x1x512_S1x1x512_0_0_0).toLoadRect (View.loadsAt_vmem h_S1x1x512)) fun v71 =>
        .op (.load a11 (Rect.unit (s := S512x1024) ![0, 0] S512x1024.size inb_S512x1024_S512x1024_0_0).toLoadRect (View.loadsAt_vmem h_S512x1024)) fun _ =>
        .op (.store a11 (Rect.unit (s := S512x1024) ![0, 0] S512x1024.size inb_S512x1024_S512x1024_0_0) (k0_pay9 v65 v66 v71) Finset.univ
          (View.stores_vmem h_S512x1024 (h11.storeExact_slice rfl _ packedbf16_S512x1024_S512x1024_0_0) (fun _ => rfl)) (.inl rfl)) fun _ =>
        .ret (Scalar.cmpi .eq v1 63#32) := rfl

/-- The last step's wait for the rows nothing reads. -/
def stage6 {α : Type} (i : grid0.Coords) (kk : PUnit.{1} → Prog (TpuEff nD τ sig (Elt F) Λ₀ .tc) α) : Prog (TpuEff nD τ sig (Elt F) Λ₀ .tc) α :=
  if hc : k0_cond4 i = 1#1 then
    .op (.waitDma2 ((cc0_scratch3.slice (Rect.unit (s := S2) (k0_off20 i) S1.size (k0_off20_inb i hc))).squeeze S_ squeezes_S1_S_).sem
      ((Memref.whole main_v0 : Memref sig .tc .hbm S131072x128 .f32).slice (Rect.unit (s := S131072x128) ![0, 0] S4096x128.size inb_S131072x128_S4096x128_0_0) (fun _ => rfl))
      (((Memref.whole cc0_scratch0 : Memref sig .tc .vmem S2x4096x128 .f32).slice (Rect.unit (s := S2x4096x128) (k0_off21 i) S1x4096x128.size (k0_off21_inb i hc)) (fun _ => rfl)).squeeze S4096x128 squeezes_S1x4096x128_S4096x128)
      (View.wordExact_bits rfl) ((View.wordExact_bits rfl).reshape _ _)) kk
  else kk ⟨⟩

/-- The body is its parts and the last wait. -/
theorem ffn_eq (i : grid0.Coords) :
    cc0_ffn (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4
      = k0_part2 (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4 >>= fun r =>
        k0_part3 (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4 r.2.1 r.2.2.1 r.2.2.2.1 r.2.2.2.2.1 r.2.2.2.2.2 >>= fun q =>
        k0_part4 (F := F) i a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4 r.1 q.1 q.2 >>= fun _ => stage6 i fun _ => .ret ⟨⟩ := rfl

section
variable (c : Dev nD) (xa : S16384x8x128.Idx → Elt F .f32) (ix : ℕ → Fin 512 → Fin 16384)
  (w4 w5 w6 : S2x16x1024x1024.Idx → Elt F .f32)

/-- What the step's slot holds once awaited. -/
def slotsPost (t : ℕ) : sProp 𝕄 :=
  iprop((∃ g, slotAt c (cur t) g) ∗ semVal (c, .dma (cellAt (cur t))) 0 ∗ tokens c (halfShare (cur t)) xa ∗ slotFull c (oth t) xa (ix (t + 1)))

/-- The bf16 buffer's matrices need not be named any more. -/
theorem rounded_any (e : Fin 16) : rounded c w4 w5 w6 e ⊢ roundedAny c := by
  unfold rounded roundedAny
  iintro ⟨H0, H1, H2⟩
  isplitl [H0]; · iexists _; iexact H0
  isplitl [H1]; · iexists _; iexact H1
  iexists _; iexact H2

/-- After an expert's step the weights stand as the next step finds them. -/
theorem weights_step (t : ℕ) (ht : t < 64) : weightsPost c w4 w5 w6 t ⊢ weightsPhi c w4 w5 w6 (t + 1) := by
  unfold weightsPost weightsPhi
  by_cases h : (t + 1) % 4 = 0
  · by_cases h' : t = 63
    · rw [if_pos (by omega)]
      unfold nextW
      rw [dif_neg (by omega)]
      iintro ⟨HF, HR⟩
      isplitl [HF]; · iexact HF
      iapply (rounded_any c w4 w5 w6 _) $$ HR
    · rw [if_neg (by omega), if_pos h]
      unfold nextW
      rw [dif_pos (by omega), show (Fin.ofNat 16 ((t + 1) / 4) : Fin 16) = ⟨t / 4 + 1, by omega⟩ from Fin.ext (by show (t + 1) / 4 % 16 = t / 4 + 1; omega)]
      iintro ⟨HF, HR⟩
      isplitl [HF]; · iexact HF
      iapply (rounded_any c w4 w5 w6 _) $$ HR
  · rw [if_neg (by omega), if_neg h, show (t + 1) / 4 = t / 4 by omega]

/-- The last stage, and the slots as the next step finds them. -/
theorem wp_stage6 (t : Fin grid0.N) {α : Type} {kk : PUnit.{1} → Prog (TpuEff nD τ sig (Elt F) Λ₀ .tc) α} {Q : α → sProp 𝕄} :
    iprop(slotsPost c xa ix t.val ∗ (∃ W, owes (c : Thread nD τ) 0 W))
      ⊢ iprop((iprop(slotsPhi c xa ix (t.val + 1) ∗ (∃ W, owes (c : Thread nD τ) 0 W)) -∗ wp frame (wpE (defs₀ (F := F)) Variants.none (c : Thread nD τ) none) Set.univ (kk ⟨⟩) Q)
          -∗ wp frame (wpE (defs₀ (F := F)) Variants.none (c : Thread nD τ) none) Set.univ (stage6 (grid0.coords t) kk) Q) := by
  have h64 : t.val < 64 := t_lt t
  unfold stage6 slotsPost slotsPhi
  by_cases h : t.val = 63
  · rw [dif_pos ((cond4_iff t).mpr h), if_pos (by omega), show cur t.val = 1 from by rw [h]; rfl, show oth t.val = 0 from by rw [h]; rfl]
    iintro ⟨⟨HG, Hc, Ht, HS⟩, ⟨%W, HO⟩⟩ Hk
    iapply (wp_drain c 0 xa (ix (t.val + 1)) (sem_eq _ _ _ ((k0_off20_eq _).trans (by rw [step_eq, h]; rfl)))) $$ [HS HO]
    · isplitl [HS] <;> iassumption
    iintro ⟨HG0, Hc0, Ht0, HO⟩
    iapply Hk
    unfold slotFree
    isplitr [HO]
    · isplitl [HG0 Hc0 Ht0]
      · isplitl [HG0]; · iexists _; iexact HG0
        isplitl [Hc0] <;> iassumption
      isplitl [HG]; · iexact HG
      isplitl [Hc] <;> iassumption
    iexact HO
  · rw [dif_neg (fun hc => h ((cond4_iff t).mp hc)), if_neg (by omega), show cur (t.val + 1) = oth t.val from Fin.ext (by show (t.val + 1) % 2 = 1 - t.val % 2; omega),
      show oth (t.val + 1) = cur t.val from Fin.ext (by show 1 - (t.val + 1) % 2 = t.val % 2; omega)]
    iintro ⟨⟨HG, Hc, Ht, HS⟩, HO⟩ Hk
    iapply Hk
    unfold slotFree
    isplitr [HO]
    · isplitl [HS]; · iexact HS
      isplitl [HG]; · iexact HG
      isplitl [Hc] <;> iassumption
    iexact HO

/-- What a step of the given contents computes. -/
def outAt (t : Fin grid0.N) (G : S1x1024.Idx → Elt F .f32) (g : S1x1x512.Idx → Elt F .f32) : S512x1024.Idx → Elt F .bf16 :=
  stepOut (grid0.coords t) (landed xa (ix t.val)) G (k0_pay1 (wMat w4 (Fin.ofNat 16 (t.val / 4)))) (k0_pay2 (wMat w5 (Fin.ofNat 16 (t.val / 4))))
    (k0_pay3 (wMat w6 (Fin.ofNat 16 (t.val / 4)))) g

/-- One whole step. -/
theorem wp_step (t : Fin grid0.N) (X2 X3 : S1x1x512.Idx → Elt F .i32)
    (hX2 : ∀ r : Fin 512, (X2 (ix3 (0 : Fin 1) (0 : Fin 1) r) : BitVec 32).toNat = (ix t.val r).val)
    (hX3 : ∀ r : Fin 512, (X3 (ix3 (0 : Fin 1) (0 : Fin 1) r) : BitVec 32).toNat = (ix (t.val + 1) r).val)
    (g : S1x1x512.Idx → Elt F .f32) (G : S1x1024.Idx → Elt F .f32) :
    iprop(slotsPhi c xa ix t.val ∗ weightsPhi c w4 w5 w6 t.val ∗ (∃ W, owes (c : Thread nD τ) 0 W)
        ∗ owns (c : Thread nD τ) a2 fullShare X2 ∗ owns (c : Thread nD τ) a3 fullShare X3 ∗ owns (c : Thread nD τ) a4 fullShare g
        ∗ owns (c : Thread nD τ) a7 fullShare G ∗ (∃ d, owns (c : Thread nD τ) a11 fullShare d))
      ⊢ wp frame (wpE (defs₀ (F := F)) Variants.none (c : Thread nD τ) none) Set.univ (cc0_ffn (F := F) (grid0.coords t) a2 h2 a3 h3 a4 h4 (Memref.whole main_v6) (Memref.isWhole_whole _) (Memref.whole main_v0) (Memref.isWhole_whole _) a7 h7 M4 (Memref.isWhole_whole _) M5 (Memref.isWhole_whole _) M6 (Memref.isWhole_whole _) a11 h11 (Memref.whole cc0_scratch0) (Memref.isWhole_whole _) (Memref.whole cc0_scratch1) (Memref.isWhole_whole _) (Memref.whole cc0_scratch2) (Memref.isWhole_whole _) cc0_scratch3 cc0_scratch4)
          (fun _ => iprop(slotsPhi c xa ix (t.val + 1) ∗ weightsPhi c w4 w5 w6 (t.val + 1) ∗ (∃ W, owes (c : Thread nD τ) 0 W)
        ∗ owns (c : Thread nD τ) a2 fullShare X2 ∗ owns (c : Thread nD τ) a3 fullShare X3 ∗ owns (c : Thread nD τ) a4 fullShare g
        ∗ owns (c : Thread nD τ) a7 fullShare G ∗ owns (c : Thread nD τ) a11 fullShare (outAt xa ix w4 w5 w6 t G g))) := by
  have h64 : t.val < 64 := t_lt t
  have hoff : ∀ j : ℕ, (![((4 * ((grid0.coords t) 0).val + ((grid0.coords t) 1).val) % 2), j, 0] : Fin 3 → Nat) = ![(cur t.val).val, j, 0] := fun j => by
    rw [step_eq]; rfl
  rw [ffn_eq, wp_bind, part2_eq]
  iintro ⟨HS, HW, HO, H2, H3, H4, H7, ⟨%d, H11⟩⟩
  iapply (wp_stage1 a2 h2 a3 h3 a4 h4 a7 h7 a11 h11 c xa ix w4 w5 w6 t X2 hX2) $$ [H2 HS HW]
  · isplitl [H2]; · iexact H2
    isplitl [HS] <;> iassumption
  unfold slotsMid
  iintro ⟨H2, ⟨HS, HS'⟩, HW⟩
  iapply (wp_stage2 c w4 w5 w6 t) $$ [HW HO]
  · isplitl [HW] <;> iassumption
  iintro ⟨HW, HO⟩
  iapply (wp_loop2 a2 h2 a3 h3 a4 h4 a7 h7 a11 h11 c xa (ix (t.val + 1)) X3 hX3 t) $$ [H3 HS']
  · isplitl [H3] <;> iassumption
  iintro ⟨H3, HS'⟩
  iapply (wp_stage4 c xa ix t) $$ [HS HO]
  · isplitl [HS] <;> iassumption
  iintro ⟨HG, Hc, Ht, HO⟩
  iapply (wp_rowsAt c (cur t.val) _ 0 ((k0_off12_eq _).trans (hoff 0))) $$ HG
  iintro HG
  iapply (wp_rowsAt c (cur t.val) _ 1 ((k0_off13_eq _).trans (hoff 1))) $$ HG
  iintro HG
  iapply (wp_rowsAt c (cur t.val) _ 2 ((k0_off14_eq _).trans (hoff 2))) $$ HG
  iintro HG
  iapply (wp_rowsAt c (cur t.val) _ 3 ((k0_off15_eq _).trans (hoff 3))) $$ HG
  iintro HG
  rw [wp_ret]
  imodintro
  rw [wp_bind, part3_eq]
  unfold weightsPost rounded
  icases HW with ⟨HN, B0, B1, B2⟩
  iapply (wp_rowsAt c (cur t.val) _ 4 ((k0_off16_eq _).trans (hoff 4))) $$ HG
  iintro HG
  iapply (wp_rowsAt c (cur t.val) _ 5 ((k0_off17_eq _).trans (hoff 5))) $$ HG
  iintro HG
  iapply (wp_rowsAt c (cur t.val) _ 6 ((k0_off18_eq _).trans (hoff 6))) $$ HG
  iintro HG
  iapply (wp_rowsAt c (cur t.val) _ 7 ((k0_off19_eq _).trans (hoff 7))) $$ HG
  iintro HG
  iapply (wp_readWin c a7 G (by decide)) $$ H7
  iintro H7
  iapply (wp_readPlane c 0 _ rfl) $$ B0
  iintro B0
  iapply (wp_readPlane c 1 _ rfl) $$ B1
  iintro B1
  iapply (wp_readPlane c 2 _ rfl) $$ B2
  iintro B2
  rw [wp_ret]
  imodintro
  rw [wp_bind, part4_eq]
  iapply (wp_readWin c a4 g (by decide)) $$ H4
  iintro H4
  iapply (wp_readWin c a11 d (by decide)) $$ H11
  iintro H11
  iapply (wp_writeWin c a11 d _ (by decide)) $$ H11
  iintro H11
  rw [wp_ret]
  imodintro
  iapply (wp_stage6 c xa ix t) $$ [HG Hc Ht HS' HO]
  · unfold slotsPost
    isplitr [HO]
    · isplitl [HG]; · iexists _; iexact HG
      isplitl [Hc]; · iexact Hc
      isplitl [Ht] <;> iassumption
    iexact HO
  iintro ⟨HS, HO⟩
  rw [wp_ret]
  imodintro
  isplitl [HS]; · iexact HS
  isplitl [HN B0 B1 B2]
  · iapply (weights_step c w4 w5 w6 t.val h64)
    unfold weightsPost rounded
    isplitl [HN]; · iexact HN
    isplitl [B0]; · iexact B0
    isplitl [B1] <;> iassumption
  isplitl [HO]; · iexact HO
  isplitl [H2]; · iexact H2
  isplitl [H3]; · iexact H3
  isplitl [H4]; · iexact H4
  isplitl [H7]; · iexact H7
  iexact H11
end

end Cert.Kernel2Ideal.Ffn

end
-- ==== Proof.Ffn.Frame.lean ====
/-
  The ffn kernel's frame: what holds between grid steps, the launch, the run of @main.
-/
module

public import proofs.«01_k».proof.Proof.Ffn.Step
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-! ## Buffers cut into the pieces the steps work on -/

theorem slotSet_disjoint : ∀ s s' : Fin 2, s ≠ s' → Disjoint (slotSet s) (slotSet s') := fun s s' hne => by
  rw [Finset.disjoint_left]; intro y hy hy'; rw [mem_slotSet] at hy hy'; exact hne (Fin.ext (by omega))

theorem slotSet_cover : (Finset.univ.biUnion slotSet) = Finset.univ := by
  ext y
  simp only [Finset.mem_biUnion, Finset.mem_univ, true_and, iff_true]
  have h0 : (y 0).val < 2 := (y 0).isLt
  exact ⟨⟨(y 0).val, h0⟩, (mem_slotSet _ _).mpr rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The gather buffer is its two slots. -/
theorem slots_split (c : Dev nD) (f : Buf (Elt F) (slotLoc c)) :
    (slotLoc c ↦{fullShare} f : sProp 𝕄) = iprop(slotAt c 0 f ∗ slotAt c 1 f) := by
  rw [Ring.pointsTo_blocks (slotSet : Fin 2 → Finset (Idx (slotLoc c))) slotSet_disjoint slotSet_cover f, bigSep_two]

theorem slots_join (c : Dev nD) : iprop((∃ g, slotAt (F := F) c 0 g) ∗ (∃ g, slotAt (F := F) c 1 g)) ⊢ (iprop(∃ g, slotLoc c ↦{fullShare} g) : sProp 𝕄) := by
  iintro ⟨⟨%g, H0⟩, ⟨%g', H1⟩⟩
  iapply (Ring.pointsTo_blocks_join_exists (slotSet : Fin 2 → Finset (Idx (slotLoc c))) slotSet_disjoint slotSet_cover g)
  rw [bigSep_two]
  isplitl [H0]
  · iexists g; iexact H0
  · iexists g'; iexact H1

/-- The f32 matrix buffer is its three planes. -/
theorem stage_split (c : Dev nD) (f : Buf (Elt F) (stLoc c)) :
    (stLoc c ↦{fullShare} f : sProp 𝕄) = iprop(wstAt c 0 f ∗ wstAt c 1 f ∗ wstAt c 2 f) := by
  rw [Ring.pointsTo_blocks (fun m : Fin 3 => ((plane m).set : Finset (Idx (stLoc c)))) plane_disjoint plane_cover f, bigSep_three]
  rfl

theorem stage_join (c : Dev nD) : iprop((∃ g, wstAt (F := F) c 0 g) ∗ (∃ g, wstAt (F := F) c 1 g) ∗ (∃ g, wstAt (F := F) c 2 g))
    ⊢ (iprop(∃ g, stLoc c ↦{fullShare} g) : sProp 𝕄) := by
  unfold wstAt
  iintro ⟨⟨%g, H0⟩, ⟨%g', H1⟩, ⟨%g'', H2⟩⟩
  iapply (Ring.pointsTo_blocks_join_exists (fun m : Fin 3 => ((plane m).set : Finset (Idx (stLoc c)))) plane_disjoint plane_cover g)
  rw [bigSep_three]
  isplitl [H0]
  · iexists g; iexact H0
  isplitl [H1]
  · iexists g'; iexact H1
  · iexists g''; iexact H2

/-- The bf16 matrix buffer is its three planes. -/
theorem bf_split (c : Dev nD) (f : Buf (Elt F) (bfLoc c)) :
    (bfLoc c ↦{fullShare} f : sProp 𝕄) = iprop(wbfAt c 0 f ∗ wbfAt c 1 f ∗ wbfAt c 2 f) := by
  rw [Ring.pointsTo_blocks (fun m : Fin 3 => ((plane m).set : Finset (Idx (bfLoc c)))) plane_disjoint plane_cover f, bigSep_three]
  rfl

theorem bf_join (c : Dev nD) : iprop((∃ g, wbfAt (F := F) c 0 g) ∗ (∃ g, wbfAt (F := F) c 1 g) ∗ (∃ g, wbfAt (F := F) c 2 g))
    ⊢ (iprop(∃ g, bfLoc c ↦{fullShare} g) : sProp 𝕄) := by
  unfold wbfAt
  iintro ⟨⟨%g, H0⟩, ⟨%g', H1⟩, ⟨%g'', H2⟩⟩
  iapply (Ring.pointsTo_blocks_join_exists (fun m : Fin 3 => ((plane m).set : Finset (Idx (bfLoc c)))) plane_disjoint plane_cover g)
  rw [bigSep_three]
  isplitl [H0]
  · iexists g; iexact H0
  isplitl [H1]
  · iexists g'; iexact H1
  · iexists g''; iexact H2

/-- The token array is held in two halves, one for each slot's copies. -/
theorem tokens_split (c : Dev nD) (xa : S16384x8x128.Idx → Elt F .f32) :
    tokens c fullShare xa ⊣⊢ (iprop(tokens c (halfShare 0) xa ∗ tokens c (halfShare 1) xa) : sProp 𝕄) := by
  unfold tokens
  exact pointsTo_share (PosShare.mem_left_op_right _)

/-! ## What holds between steps -/

/-- The token row step `u` puts in row `r` of its slot (past the last step, the last step's). -/
def tokIx (I : S64x1x512.Idx → Elt F .i32) (u : ℕ) (r : Fin 512) : Fin 16384 :=
  Fin.ofNat 16384 (I (ix3 (⟨min u 63, by omega⟩ : Fin 64) (0 : Fin 1) r) : BitVec 32).toNat

variable (m : (ℓ : Loc nD τ sig) → Buf (Elt F) ℓ) (ρ : Dev nD → PrngReg)

/-- The invariant before step `t`. -/
def Phi (c : Dev nD) (t : ℕ) : sProp 𝕄 :=
  iprop((slotsPhi c (V m c main_v6) (tokIx (V m c main_v4)) t ∗ weightsPhi c (V m c main_arg4) (V m c main_arg5) (V m c main_arg6) t)
    ∗ ∃ r, prngReg c r)

/-- The block of the result step `t` writes. -/
def outBlk (c : Dev nD) (t : Fin cfg0.N) : S512x1024.Idx → Elt F .bf16 :=
  outAt (V m c main_v6) (tokIx (V m c main_v4)) (V m c main_arg4) (V m c main_arg5) (V m c main_arg6) t (iblk m c 3 t) (iblk m c 2 t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := Phi m c t.val
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The index windows hold token rows -/

/-- Where each window stands at grid point `t`. -/
theorem index_facts : ∀ t : Fin cfg0.N, win0_0.index t = ![t.val, 0, 0] ∧ win0_1.index t = ![min (t.val + 1) 63, 0, 0]
    ∧ win0_2.index t = ![t.val, 0, 0] ∧ win0_3.index t = ![0, 0] ∧ win0_4.index t = ![t.val, 0] :=
  (by decide +kernel : ∀ t : Fin grid0.N, _)

theorem tokIx_val (c : Dev nD) (hI : ∀ j, ((V m c main_v4 : S64x1x512.Idx → Elt F .i32) j : BitVec 32).toNat < 16384) (u : ℕ) (r : Fin 512) :
    (tokIx (V m c main_v4 : S64x1x512.Idx → Elt F .i32) u r).val
      = ((V m c main_v4 : S64x1x512.Idx → Elt F .i32) (ix3 (⟨min u 63, by omega⟩ : Fin 64) (0 : Fin 1) r) : BitVec 32).toNat :=
  Nat.mod_eq_of_lt (hI _)

theorem win0_rows (c : Dev nD) (hI : ∀ j, ((V m c main_v4 : S64x1x512.Idx → Elt F .i32) j : BitVec 32).toNat < 16384) (t : Fin cfg0.N) (r : Fin 512) :
    ((iblk m c 0 t : S1x1x512.Idx → Elt F .i32) (ix3 (0 : Fin 1) (0 : Fin 1) r) : BitVec 32).toNat = (tokIx (V m c main_v4 : S64x1x512.Idx → Elt F .i32) t.val r).val := by
  rw [tokIx_val m c hI]
  obtain ⟨h0, -⟩ := index_facts t
  have ht : t.val < 64 := t_lt t
  refine congrArg BitVec.toNat ?_
  blk_point [iblk, h0]

theorem win1_rows (c : Dev nD) (hI : ∀ j, ((V m c main_v4 : S64x1x512.Idx → Elt F .i32) j : BitVec 32).toNat < 16384) (t : Fin cfg0.N) (r : Fin 512) :
    ((iblk m c 1 t : S1x1x512.Idx → Elt F .i32) (ix3 (0 : Fin 1) (0 : Fin 1) r) : BitVec 32).toNat = (tokIx (V m c main_v4 : S64x1x512.Idx → Elt F .i32) (t.val + 1) r).val := by
  rw [tokIx_val m c hI]
  obtain ⟨-, h1, -⟩ := index_facts t
  refine congrArg BitVec.toNat ?_
  blk_point [iblk, h1]

/-! ## One grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a grid point, from what the pipeline gives it to what the pipeline expects of it. -/
theorem sound_body (c : Dev nD) (hI : ∀ j, ((V m c main_v4 : S64x1x512.Idx → Elt F .i32) j : BitVec 32).toNat < 16384) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, after0_3, after0_4]
  simp only [before0_0, before0_1, before0_2, before0_3]
  rw [show (dats m 0 c).Φ t.succ = Phi m c (t.val + 1) from rfl, show (dats m 0 c).Φ t.castSucc = Phi m c t.val from rfl]
  unfold Phi
  unfold Dat.owesAt Pipeline.owesWithin
  rw [show (dats m 0 c).owed t.castSucc = 0 from rfl, show (dats m 0 c).owed t.succ = 0 from rfl]
  iintro ⟨⟨⟨HS, HW⟩, Hg⟩, ⟨%W, -, HO⟩, ⟨%d0, H0⟩, ⟨%d1, H1⟩, ⟨%d2, H2⟩, ⟨%d3, H3⟩, ⟨%d4, H4⟩⟩
  iapply (wp_wand frame (wpE (defs₀ (F := F)) Variants.none (c : Thread nD τ) none) Set.univ (Q := fun _ => iprop(slotsPhi c (V m c main_v6) (tokIx (V m c main_v4)) (t.val + 1) ∗ weightsPhi c (V m c main_arg4) (V m c main_arg5) (V m c main_arg6) (t.val + 1)
      ∗ (∃ W, owes (c : Thread nD τ) 0 W)
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (outBlk m c t)))) $$ [HS HW HO H0 H1 H2 H3 H4]
  · iapply (wp_step (st0_0 t) _ (st0_1 t) _ (st0_2 t) _ (st0_3 t) _ (st0_4 t) _ c (V m c main_v6) (tokIx (V m c main_v4)) (V m c main_arg4) (V m c main_arg5) (V m c main_arg6) t
      (iblk m c 0 t) (iblk m c 1 t) (win0_rows m c hI t) (win1_rows m c hI t) (iblk m c 2 t) (iblk m c 3 t))
    isplitl [HS]; · iexact HS
    isplitl [HW]; · iexact HW
    isplitl [HO]; · iexists W; iexact HO
    isplitl [H0]; · iexact H0
    isplitl [H1]; · iexact H1
    isplitl [H2]; · iexact H2
    isplitl [H3]; · iexact H3
    iexists _; iexact H4
  iintro %u ⟨HS, HW, ⟨%W', HO⟩, H0, H1, H2, H3, H4⟩
  isplitl [HS HW Hg]
  · isplitl [HS HW]
    · isplitl [HS] <;> iassumption
    iexact Hg
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) (hI : ∀ j, ((V m c main_v4 : S64x1x512.Idx → Elt F .i32) j : BitVec 32).toNat < 16384) :
    BodyObligation (dats (F := F) m 0 c) (defs₀ (F := F)) Variants.none () Set.univ := fun t => by
  rw [bigSep_W0, bigSep_W0, defs₀_row]
  exact triple_restated (sound_body m c hI t) rfl .rfl fun _ => .rfl

/-! ## The launch -/

/-- The kernel's own semaphores. -/
abbrev osem0 : Fin 5 → SemLoc sig := fun j => (![SemLoc.dma (cellAt 0), SemLoc.dma (cellAt 1), SemLoc.dma (wCell 0), SemLoc.dma (wCell 1), SemLoc.dma (wCell 2)] : Fin 5 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal (c, .dma (cellAt 0)) 0 ∗ semVal (c, .dma (cellAt 1)) 0 ∗ semVal (c, .dma (wCell 0)) 0 ∗ semVal (c, .dma (wCell 1)) 0
          ∗ semVal (c, .dma (wCell 2)) 0) := by
  rw [Pipeline.ownSems0_eq_of_list c osem0 [0, 1, 2, 3, 4] (by decide) (by decide)]; rfl

/-- The arrays the body reads by copies of its own. -/
def H0 : Finset (Ref sig .tc) := {main_v6, main_arg4, main_arg5, main_arg6}
theorem H0_sub : H0 ⊆ Pipeline.restRefs sig spec0 := by decide
theorem H0_pts (c : Dev nD) :
    (bigSep H0 (fun b => ((c : Thread nD τ).loc b) ↦{fullShare} V m c b) : sProp 𝕄)
      = iprop(tokens c fullShare (V m c main_v6) ∗ (M4.view.loc (c : Thread nD τ) ↦{fullShare} V m c main_arg4)
          ∗ (M5.view.loc (c : Thread nD τ) ↦{fullShare} V m c main_arg5) ∗ (M6.view.loc (c : Thread nD τ) ↦{fullShare} V m c main_arg6)) := by
  rw [BI.bigSep_eq_bigSepL_of_eq [main_v6, main_arg4, main_arg5, main_arg6] (by decide) (by decide)]; rfl

/-- What a launch holds for the body. -/
theorem PhiD_eq (c : Dev nD) :
    (Pipeline.ΦD osem0 spec0 H0 (V m) c : sProp 𝕄)
      = iprop(((∃ f, slotLoc c ↦{fullShare} f) ∗ (∃ f, stLoc c ↦{fullShare} f) ∗ (∃ f, bfLoc c ↦{fullShare} f)) ∗ (∃ r, prngReg c r)
        ∗ (semVal (c, .dma (cellAt 0)) 0 ∗ semVal (c, .dma (cellAt 1)) 0 ∗ semVal (c, .dma (wCell 0)) 0 ∗ semVal (c, .dma (wCell 1)) 0
          ∗ semVal (c, .dma (wCell 2)) 0)
        ∗ tokens c fullShare (V m c main_v6) ∗ (M4.view.loc (c : Thread nD τ) ↦{fullShare} V m c main_arg4)
          ∗ (M5.view.loc (c : Thread nD τ) ↦{fullShare} V m c main_arg5) ∗ (M6.view.loc (c : Thread nD τ) ↦{fullShare} V m c main_arg6)) := by
  rw [Pipeline.ΦD_eq, scopedRest0_eq, ownSems0_eq, H0_pts]

/-- Before the first step and after the last one the invariant is the same. -/
theorem Phi_ends (c : Dev nD) (t : ℕ) (ht : t = 0 ∨ t = 64) :
    Phi m c t = iprop(((slotFree c 0 (V m c main_v6) ∗ slotFree c 1 (V m c main_v6))
      ∗ frees c (V m c main_arg4) (V m c main_arg5) (V m c main_arg6) ∗ roundedAny c) ∗ ∃ r, prngReg c r) := by
  unfold Phi slotsPhi weightsPhi
  rw [if_pos ht, if_pos ht]

theorem wfree_eq (A : WArr) (hA : A.view.set = Finset.univ) (c : Dev nD) (k : Fin 3) (f : Buf (Elt F) (A.view.loc (c : Thread nD τ))) :
    wFree A c k f = iprop((∃ g, wstAt c k g) ∗ semVal (c, .dma (wCell k)) 0 ∗ (A.view.loc (c : Thread nD τ) ↦{fullShare} f)) := by
  unfold wFree; rw [hA]

theorem hin (c : Dev nD) : (Pipeline.ΦD osem0 spec0 H0 (V m) c : sProp 𝕄) ⊢ Phi m c 0 := by
  rw [PhiD_eq, Phi_ends m c 0 (.inl rfl)]
  unfold slotFree frees roundedAny
  rw [wfree_eq M4 (View.set_whole _), wfree_eq M5 (View.set_whole _), wfree_eq M6 (View.set_whole _)]
  iintro ⟨⟨⟨%f0, S0⟩, ⟨%f1, S1⟩, ⟨%f2, S2⟩⟩, Hg, ⟨C0, C1, W0, W1, W2⟩, T, A4, A5, A6⟩
  ihave S0 := (Entails.of_eq (slots_split c f0)) $$ S0
  ihave S1 := (Entails.of_eq (stage_split c f1)) $$ S1
  ihave S2 := (Entails.of_eq (bf_split c f2)) $$ S2
  ihave T := (tokens_split c (V m c main_v6)).1 $$ T
  icases S0 with ⟨L0, L1⟩
  icases S1 with ⟨P0, P1, P2⟩
  icases S2 with ⟨B0, B1, B2⟩
  icases T with ⟨T0, T1⟩
  isplitr [Hg]
  swap; · iexact Hg
  isplitl [L0 L1 C0 C1 T0 T1]
  · isplitl [L0 C0 T0]
    · isplitl [L0]; · iexists f0; iexact L0
      isplitl [C0] <;> iassumption
    · isplitl [L1]; · iexists f0; iexact L1
      isplitl [C1] <;> iassumption
  isplitr [B0 B1 B2]
  · isplitl [P0 W0 A4]
    · isplitl [P0]; · iexists f1; iexact P0
      isplitl [W0] <;> iassumption
    isplitl [P1 W1 A5]
    · isplitl [P1]; · iexists f1; iexact P1
      isplitl [W1] <;> iassumption
    · isplitl [P2]; · iexists f1; iexact P2
      isplitl [W2] <;> iassumption
  isplitl [B0]; · iexists f2; iexact B0
  isplitl [B1]; · iexists f2; iexact B1
  iexists f2; iexact B2

theorem hout (c : Dev nD) : Phi m c 64 ⊢ (Pipeline.ΦD osem0 spec0 H0 (V m) c : sProp 𝕄) := by
  rw [PhiD_eq, Phi_ends m c 64 (.inr rfl)]
  unfold slotFree frees roundedAny
  rw [wfree_eq M4 (View.set_whole _), wfree_eq M5 (View.set_whole _), wfree_eq M6 (View.set_whole _)]
  iintro ⟨⟨⟨⟨L0, C0, T0⟩, ⟨L1, C1, T1⟩⟩, ⟨⟨P0, W0, A4⟩, ⟨P1, W1, A5⟩, ⟨P2, W2, A6⟩⟩, B⟩, Hg⟩
  isplitl [L0 L1 P0 P1 P2 B]
  · isplitl [L0 L1]
    · iapply (slots_join c)
      isplitl [L0] <;> iassumption
    isplitl [P0 P1 P2]
    · iapply (stage_join c)
      isplitl [P0]; · iexact P0
      isplitl [P1] <;> iassumption
    iapply (bf_join c) $$ B
  isplitl [Hg]; · iexact Hg
  isplitl [C0 C1 W0 W1 W2]
  · isplitl [C0]; · iexact C0
    isplitl [C1]; · iexact C1
    isplitl [W0]; · iexact W0
    isplitl [W1] <;> iassumption
  isplitl [T0 T1]
  · iapply (tokens_split c (V m c main_v6)).2
    isplitl [T0] <;> iassumption
  isplitl [A4]; · iexact A4
  isplitl [A5] <;> iassumption

set_option maxHeartbeats 800000 in
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run of @main, for token indices in range: the result array as the steps leave it, the semaphores at zero. -/
theorem run_main (hI : ∀ (c : Dev nD) (j), ((V m c main_v4 : S64x1x512.Idx → Elt F .i32) j : BitVec 32).toNat < 16384) :
    θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c (hI c)).loose) (hq := fun _ _ _ => rfl)
    (howed := fun _ _ => rfl) (V := V m) (hmain := hmain m) (hA := A_eq m)
    (hin := hin m) (hout := hout m)

/-- The arguments are unchanged at the end of a run. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have k : ∀ b : Ref sig .tc, b ∈ Pipeline.restRefs sig spec0 → V m c b = m ((c : Thread nD τ).loc b) →
      r.2.mem ((c.tc : Thread nD τ).loc b) = m ((c.tc : Thread nD τ).loc b) := fun b hb hv => ((h c).2 b hb).trans hv
  ⟨k main_arg0 (by decide) (V_main_arg0 m c), k main_arg1 (by decide) (V_main_arg1 m c), k main_arg2 (by decide) (V_main_arg2 m c),
    k main_arg3 (by decide) (V_main_arg3 m c), k main_arg4 (by decide) (V_main_arg4 m c), k main_arg5 (by decide) (V_main_arg5 m c),
    k main_arg6 (by decide) (V_main_arg6 m c)⟩

/-- The frame: the run terminates with the arguments unchanged and every semaphore at zero. -/
theorem frame_run (hI : ∀ (c : Dev nD) (j), ((V m c main_v4 : S64x1x512.Idx → Elt F .i32) j : BitVec 32).toNat < 16384) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m h.1 c, h.2⟩) (run_main m ρ hI)

end Cert.Kernel2Ideal.Ffn
-- ==== Proof.Ffn.Range.lean ====
/-
  What the precondition says: every entry of the token table is a row of the token array; and the frames that follow.
-/
module

public import proofs.«01_k».proof.Defs
public import proofs.«01_k».proof.Proof.Ffn.Frame
public import proofs.«01_k».proof.Proof.Gen.Kernel2
public import proofs.«01_k».proof.Proof.Gen.Pre_tokens
public import Idealize.ShloMosaic.Lib.ReduceAll
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Idealize.SL.Sem
open Cert.Kernel2Ideal Cert.Kernel2Ideal.Gen

variable {F : FTy → Type} [FloatOps F]

/-- A word that is at least zero and below 16384, both read signed, is below 16384 read unsigned. -/
theorem word_range (v : BitVec 32) (h0 : IntOp.cmpi .sge v 0#32 = 1#1) (h1 : IntOp.cmpi .slt v 16384#32 = 1#1) : v.toNat < 16384 := by
  rw [IntOp.cmpi_sge, show (0#32 : BitVec 32).toInt = 0 by decide] at h0
  rw [IntOp.cmpi_slt, show (16384#32 : BitVec 32).toInt = 16384 by decide] at h1
  have h := BitVec.toInt_eq_toNat_cond v
  have := v.isLt
  split at h <;> omega

/-- The precondition at one entry of the token table. -/
theorem tokens_range (a0 : FVec F S1x16384x1024 .f32) (a1 : IVec S16x2048 32) (a2 : FVec F S16x2048 .f32) (a3 : FVec F S2x1024 .f32)
    (a4 a5 a6 : FVec F S2x16x1024x1024 .f32) (h : Cert.Pre_tokens.fn a0 a1 a2 a3 a4 a5 a6 = fun _ => 1#1) (i : S16x2048.Idx) :
    (a1 i : BitVec 32).toNat < 16384 := by
  haveI : Subsingleton Cert.Pre_tokens.S_.Idx := ⟨fun x y => funext fun k => k.elim0⟩
  have h2 := Host.reduce_andi_all _ _ _ _ _ (congrFun h (fun k => k.elim0)) i
  obtain ⟨h3, h4⟩ := IntOp.andi_eq_one.mp h2
  exact word_range _ h3 h4

variable (m : (ℓ : Loc nD τ sig) → Buf (Elt F) ℓ)

/-- The index blocks hold the token table's entries. -/
theorem blocks_range (c : Dev nD) (h : ∀ i, ((m ((c.tc : Thread nD τ).loc main_arg1) : S16x2048.Idx → Elt F .i32) i : BitVec 32).toNat < 16384)
    (j) : ((V m c main_v4 : S64x1x512.Idx → Elt F .i32) j : BitVec 32).toNat < 16384 := by
  entry_read
  exact h _

/-- The kernel's frame, its floats read as extended reals. -/
theorem frame_ideal : Cert.quiescent_Kernel2Ideal := fun m ρ hp =>
  frame_run m ρ fun c => blocks_range m c (tokens_range _ _ _ _ _ _ _ (hp c))

/-- The two programs' body tables are the same. -/
theorem defs₀_bits : @Cert.Kernel2.defs₀ F _ Cert.Kernel2.Gen.facts = @Cert.Kernel2Ideal.defs₀ F _ Cert.Kernel2Ideal.Gen.facts :=
  congrArg Defs.onTc (funext fun l => funext fun a => match l, a with
    | 0, (_, _) => rfl
    | ⟨_ + 1, h⟩, _ => absurd h (Nat.not_lt.2 (Nat.le_add_left _ _)))

theorem defs_bits : @Cert.Kernel2.defs F _ Cert.Kernel2.Gen.facts = @Cert.Kernel2Ideal.defs F _ Cert.Kernel2Ideal.Gen.facts :=
  congrArg (Pipeline.defs Cert.Kernel2Ideal.pcfgs) defs₀_bits

theorem main_bits : @Cert.Kernel2.main F _ = @Cert.Kernel2Ideal.main F _ := rfl

set_option maxHeartbeats 4000000 in
/-- The kernel's frame, its floats read as bits. -/
theorem frame_bits : Cert.quiescent_Kernel2 := fun m ρ hp => by
  rw [show Cert.Kernel2.defs (F := Bits) = Cert.Kernel2Ideal.defs (F := Bits) from defs_bits, main_bits]
  exact frame_run (F := Bits) m ρ fun c => blocks_range (F := Bits) m c (tokens_range _ _ _ _ _ _ _ (hp c))

end Cert.Kernel2Ideal.Ffn
-- ==== Proof.Ffn.Spec.lean ====
/-
  The mathematics of the experts' call, row by row over the extended reals: a token's root-mean-square norm, its gated
  linear unit in one expert, the way back to the model's width, and the gate's weight.
-/
module

public import proofs.«01_k».proof.Proof.Front.Spec

@[expose] public section

noncomputable section

namespace Cert.Ffn

open Idealize.ShloMosaic
open Cert.Front (proj)

/-- The hidden channel `k` of one expert at the token `x`: the gate projection times its logistic, times the up projection. -/
def hid (x g : Fin 1024 → EReal) (Wg Wu : Fin 1024 → Fin 1024 → EReal) (k : Fin 1024) : EReal :=
  proj x g (fun j => Wg j k) * Ideal.logistic (proj x g fun j => Wg j k) * proj x g fun j => Wu j k

/-- One expert's output channel `n` at the token `x`, times the token's weight `q` in that expert. -/
def expert (x g : Fin 1024 → EReal) (Wg Wu Wd : Fin 1024 → Fin 1024 → EReal) (q : EReal) (n : Fin 1024) : EReal :=
  (∑ k, hid x g Wg Wu k * Wd k n) * q

/-- The token that expert `e` takes into its row `r`. -/
def token (I : (⟨2, ![16, 2048]⟩ : Shape).Idx → BitVec 32) (e : Fin 16) (r : Fin 2048) : Fin 16384 :=
  Fin.ofNat 16384 (I (ix2 e r)).toNat

/-- The call's result: row `2048 e + r` is expert `e` at its `r`-th token. -/
def G (x : (⟨3, ![1, 16384, 1024]⟩ : Shape).Idx → EReal) (I : (⟨2, ![16, 2048]⟩ : Shape).Idx → BitVec 32)
    (q : (⟨2, ![16, 2048]⟩ : Shape).Idx → EReal) (g : (⟨2, ![2, 1024]⟩ : Shape).Idx → EReal)
    (Wg Wu Wd : (⟨4, ![2, 16, 1024, 1024]⟩ : Shape).Idx → EReal) (j : (⟨2, ![32768, 1024]⟩ : Shape).Idx) : EReal :=
  have hj : (j 0).val < 32768 := (j 0).isLt
  let e : Fin 16 := ⟨(j 0).val / 2048, by omega⟩
  let r : Fin 2048 := ⟨(j 0).val % 2048, by omega⟩
  expert (fun k => x (ix3 0 (token I e r) k)) (fun k => g (ix2 0 k)) (fun k n => Wg (ix4 0 e k n)) (fun k n => Wu (ix4 0 e k n))
    (fun k n => Wd (ix4 0 e k n)) (q (ix2 e r)) (j 1)

end Cert.Ffn
-- ==== Proof.Ffn.Payloads.lean ====
/- The ffn kernel's body at one grid point, read index by index. -/
module

public import proofs.«01_k».proof.Proof.Ffn.Spec
public import proofs.«01_k».proof.Proof.Ffn.Frame
public import Idealize.ShloMosaic.Lib.Pipeline.ValueKit

@[expose] public section

set_option maxRecDepth 16384

noncomputable section

namespace Cert.Ffn

open Cert.Kernel2Ideal Cert.Kernel2Ideal.Gen Cert.Kernel2Ideal.Ffn Idealize.ShloMosaic Idealize.ShloMosaic.TcCoe
open Cert.Front (rms proj)

/-- A matrix of the weights after its rounding to bf16. -/
theorem round1_at (w : Vec Ideal S1x1024x1024 .f32) (k n : Fin 1024) : k0_pay1 w (ix3 0 k n) = w (ix3 0 k n) := by
  pointwise [k0_pay1]
theorem round2_at (w : Vec Ideal S1x1024x1024 .f32) (k n : Fin 1024) : k0_pay2 w (ix3 0 k n) = w (ix3 0 k n) := by
  pointwise [k0_pay2]
theorem round3_at (w : Vec Ideal S1x1024x1024 .f32) (k n : Fin 1024) : k0_pay3 w (ix3 0 k n) = w (ix3 0 k n) := by
  pointwise [k0_pay3]

/-- The tokens of one step, from the eight pieces of 128 channels each that are read of them. -/
def pieces (p : Fin 8 → Vec Ideal S1x512x128 .f32) (r : Fin 512) (k : Fin 1024) : EReal :=
  p ⟨k.val / 128, by omega⟩ (ix3 0 r ⟨k.val % 128, by omega⟩)

/-- Eight pieces side by side, read at a channel. -/
theorem pieces_eq (p0 p1 p2 p3 p4 p5 p6 p7 : Vec Ideal S1x512x128 .f32) (r : Fin 512) (x : Fin 1024) :
    (if h : x.val < 128 then p0 (ix3 0 r ⟨x.val, h⟩)
      else if h : x.val - 128 < 128 then p1 (ix3 0 r ⟨x.val - 128, h⟩)
      else if h : x.val - 128 - 128 < 128 then p2 (ix3 0 r ⟨x.val - 128 - 128, h⟩)
      else if h : x.val - 128 - 128 - 128 < 128 then p3 (ix3 0 r ⟨x.val - 128 - 128 - 128, h⟩)
      else if h : x.val - 128 - 128 - 128 - 128 < 128 then p4 (ix3 0 r ⟨x.val - 128 - 128 - 128 - 128, h⟩)
      else if h : x.val - 128 - 128 - 128 - 128 - 128 < 128 then p5 (ix3 0 r ⟨x.val - 128 - 128 - 128 - 128 - 128, h⟩)
      else if h : x.val - 128 - 128 - 128 - 128 - 128 - 128 < 128 then p6 (ix3 0 r ⟨x.val - 128 - 128 - 128 - 128 - 128 - 128, h⟩)
      else p7 (ix3 0 r ⟨x.val - 128 - 128 - 128 - 128 - 128 - 128 - 128, by omega⟩))
      = pieces ![p0, p1, p2, p3, p4, p5, p6, p7] r x := by
  have at_ : ∀ (a : Fin 8) (p : Vec Ideal S1x512x128 .f32) (y : Fin 128), x.val / 128 = a.val → x.val % 128 = y.val
      → ![p0, p1, p2, p3, p4, p5, p6, p7] a = p → p (ix3 0 r y) = pieces ![p0, p1, p2, p3, p4, p5, p6, p7] r x := by
    intro a p y ha hy e
    subst e
    unfold pieces
    rw [show (⟨x.val / 128, by omega⟩ : Fin 8) = a from Fin.ext ha, show (⟨x.val % 128, by omega⟩ : Fin 128) = y from Fin.ext hy]
  have hx := x.isLt
  split_ifs
  · exact at_ 0 _ _ (by simp only [Fin.isValue, Fin.val_zero]; omega) (by dsimp only; omega) rfl
  · exact at_ 1 _ _ (by show _ = 1; omega) (by dsimp only; omega) rfl
  · exact at_ 2 _ _ (by show _ = 2; omega) (by dsimp only; omega) rfl
  · exact at_ 3 _ _ (by show _ = 3; omega) (by dsimp only; omega) rfl
  · exact at_ 4 _ _ (by show _ = 4; omega) (by dsimp only; omega) rfl
  · exact at_ 5 _ _ (by show _ = 5; omega) (by dsimp only; omega) rfl
  · exact at_ 6 _ _ (by show _ = 6; omega) (by dsimp only; omega) rfl
  · exact at_ 7 _ _ (by show _ = 7; omega) (by dsimp only; omega) rfl

/-- The hidden channels of one step. -/
theorem pay8_at (p0 p1 p2 p3 p4 p5 p6 p7 : Vec Ideal S1x512x128 .f32) (g : Vec Ideal S1x1024 .f32) (b0 b1 : Vec Ideal S1x1024x1024 .bf16)
    (r : Fin 512) (n : Fin 1024) :
    k0_pay8 (k0_pay4 p0) (k0_pay5 p1) (k0_pay6 p2) (k0_pay7 p3) p4 p5 p6 p7 g b0 b1 (ix2 r n)
      = hid (pieces ![p0, p1, p2, p3, p4, p5, p6, p7] r) (fun k => g (ix2 0 k)) (fun k n => b0 (ix3 0 k n)) (fun k n => b1 (ix3 0 k n)) n := by
  have h4 : ∀ y, k0_pay4 p0 (ix2 r y) = p0 (ix3 0 r y) := fun y => by pointwise [k0_pay4]
  have h5 : ∀ y, k0_pay5 p1 (ix2 r y) = p1 (ix3 0 r y) := fun y => by pointwise [k0_pay5]
  have h6 : ∀ y, k0_pay6 p2 (ix2 r y) = p2 (ix3 0 r y) := fun y => by pointwise [k0_pay6]
  have h7 : ∀ y, k0_pay7 p3 (ix2 r y) = p3 (ix3 0 r y) := fun y => by pointwise [k0_pay7]
  pointwise [k0_pay8]
  simp only [h4, h5, h6, h7]
  unfold hid proj rms
  simp only [← pieces_eq]

/-- The row of 128 gates, spread on a diagonal and summed, gives each its own. -/
theorem diag_sum (f : Fin 128 → EReal) (a : ℕ) (ha : a < 128) :
    (∑ x : Fin 128, Scalar.select (IntOp.cmpi CmpIPredicate.eq (BitVec.ofNat 32 a) (BitVec.ofNat 32 x.val)) (f x) (0 : EReal)) = f ⟨a, ha⟩ := by
  rw [Finset.sum_eq_single (⟨a, ha⟩ : Fin 128)]
  · simp [Scalar.select, IntOp.cmpi]
  · intro x _ hx
    have hne : BitVec.ofNat 32 a ≠ BitVec.ofNat 32 x.val := fun e => hx (Fin.ext (by
      have h := congrArg BitVec.toNat e
      simp only [BitVec.toNat_ofNat] at h
      have hl := x.isLt
      show x.val = a
      omega))
    have hb : (BitVec.ofNat 32 a == BitVec.ofNat 32 x.val) = false := beq_false_of_ne hne
    simp [Scalar.select, IntOp.cmpi, hb]
  · exact fun h => absurd (Finset.mem_univ _) h

/-- The result block of one step from its hidden channels. -/
theorem pay9_at (h : FVec Ideal S512x1024 .bf16) (b2 : Vec Ideal S1x1024x1024 .bf16) (q : Vec Ideal S1x1x512 .f32) (r : Fin 512) (n : Fin 1024) :
    k0_pay9 h b2 q (ix2 r n) = (∑ k, h (ix2 r k) * b2 (ix3 0 k n)) * q (ix3 0 0 r) := by
  have hr := r.isLt
  pointwise [k0_pay9]
  congr 1
  split_ifs
  · exact diag_sum (fun x => q (ix3 0 0 ⟨x.val, by omega⟩)) _ (by omega)
  · refine (diag_sum (fun x => q (ix3 0 0 ⟨128 + x.val, by omega⟩)) _ (by omega)).trans (congrArg (fun z => q (ix3 0 0 z)) (Fin.ext ?_)); dsimp only; omega
  · refine (diag_sum (fun x => q (ix3 0 0 ⟨256 + x.val, by omega⟩)) _ (by omega)).trans (congrArg (fun z => q (ix3 0 0 z)) (Fin.ext ?_)); dsimp only; omega
  · refine (diag_sum (fun x => q (ix3 0 0 ⟨384 + x.val, by omega⟩)) _ (by omega)).trans (congrArg (fun z => q (ix3 0 0 z)) (Fin.ext ?_)); dsimp only; omega

/-- What eight reads of every eighth row give of the gathered tokens. -/
theorem rows_at (xa : S16384x8x128.Idx → EReal) (ix : Fin 512 → Fin 16384) (o : Fin 3 → ℕ) (ho) (s e : ℕ) (he : e < 8) (hs : s < 2) (hoe : o = ![s, e, 0])
    (r : Fin 512) (l : Fin 128) :
    (rowsRead (F := Ideal) o ho (landed (F := Ideal) xa ix) : S1x512x128.Idx → EReal) (ix3 0 r l) = xa (ix3 (ix r) ⟨e, he⟩ l) := by
  subst hoe
  have hr := r.isLt
  unfold rowsRead landed
  refine congrArg xa (show ValueIdx.ix3 (ix ⟨(e + 8 * r.val) / 8, by omega⟩) (⟨(e + 8 * r.val) % 8, by omega⟩ : Fin 8)
    (⟨0 + 1 * l.val, by omega⟩ : Fin 128) = _ from ?_)
  rw [show (⟨(e + 8 * r.val) / 8, by omega⟩ : Fin 512) = r from Fin.ext (by dsimp only; omega),
    show (⟨(e + 8 * r.val) % 8, by omega⟩ : Fin 8) = ⟨e, he⟩ from Fin.ext (by dsimp only; omega),
    show (⟨0 + 1 * l.val, by omega⟩ : Fin 128) = l from Fin.ext (by dsimp only; omega)]
  rfl

/-- The eight reads together: the gathered token at every channel. -/
theorem gathered (xa : S16384x8x128.Idx → EReal) (ix : Fin 512 → Fin 16384) (i : grid0.Coords) (r : Fin 512) (k : Fin 1024) :
    pieces ![rowsRead (F := Ideal) (k0_off12 i) (k0_off12_inb i) (landed xa ix), rowsRead (k0_off13 i) (k0_off13_inb i) (landed xa ix),
        rowsRead (k0_off14 i) (k0_off14_inb i) (landed xa ix), rowsRead (k0_off15 i) (k0_off15_inb i) (landed xa ix),
        rowsRead (k0_off16 i) (k0_off16_inb i) (landed xa ix), rowsRead (k0_off17 i) (k0_off17_inb i) (landed xa ix),
        rowsRead (k0_off18 i) (k0_off18_inb i) (landed xa ix), rowsRead (k0_off19 i) (k0_off19_inb i) (landed xa ix)] r k
      = xa (ix3 (ix r) ⟨k.val / 128, by omega⟩ ⟨k.val % 128, by omega⟩) := by
  unfold pieces
  have hs : (4 * (i 0).val + (i 1).val) % 2 < 2 := Nat.mod_lt _ (by omega)
  generalize (⟨k.val / 128, by omega⟩ : Fin 8) = a
  fin_cases a
  · exact rows_at xa ix _ _ _ 0 (by omega) hs (k0_off12_eq i) r _
  · exact rows_at xa ix _ _ _ 1 (by omega) hs (k0_off13_eq i) r _
  · exact rows_at xa ix _ _ _ 2 (by omega) hs (k0_off14_eq i) r _
  · exact rows_at xa ix _ _ _ 3 (by omega) hs (k0_off15_eq i) r _
  · exact rows_at xa ix _ _ _ 4 (by omega) hs (k0_off16_eq i) r _
  · exact rows_at xa ix _ _ _ 5 (by omega) hs (k0_off17_eq i) r _
  · exact rows_at xa ix _ _ _ 6 (by omega) hs (k0_off18_eq i) r _
  · exact rows_at xa ix _ _ _ 7 (by omega) hs (k0_off19_eq i) r _

/-- One step's block of the result: its expert at its 512 tokens. -/
theorem outAt_at (xa : S16384x8x128.Idx → EReal) (ix : ℕ → Fin 512 → Fin 16384) (w4 w5 w6 : S2x16x1024x1024.Idx → EReal) (t : Fin grid0.N)
    (g : Vec Ideal S1x1024 .f32) (q : Vec Ideal S1x1x512 .f32) (r : Fin 512) (n : Fin 1024) :
    outAt (F := Ideal) xa ix w4 w5 w6 t g q (ix2 r n)
      = expert (fun k => xa (ix3 (ix t.val r) ⟨k.val / 128, by omega⟩ ⟨k.val % 128, by omega⟩)) (fun k => g (ix2 0 k))
          (fun k n => w4 (ix4 0 (Fin.ofNat 16 (t.val / 4)) k n)) (fun k n => w5 (ix4 0 (Fin.ofNat 16 (t.val / 4)) k n))
          (fun k n => w6 (ix4 0 (Fin.ofNat 16 (t.val / 4)) k n)) (q (ix3 0 0 r)) n := by
  unfold outAt stepOut
  rw [pay9_at]
  simp only [pay8_at, round1_at, round2_at, round3_at, funext (gathered xa (ix t.val) (grid0.coords t) r)]
  unfold expert
  rfl

end Cert.Ffn
-- ==== Proof.Ffn.KernelValue.lean ====
/- The ffn kernel's result array after its run, as the mathematics of Spec.lean. -/
module

public import proofs.«01_k».proof.Proof.Ffn.Payloads
public import Idealize.ShloMosaic.Lib.Claim

@[expose] public section

set_option maxRecDepth 16384

noncomputable section

namespace Cert.Ffn

open Cert.Kernel2Ideal Cert.Kernel2Ideal.Gen Cert.Kernel2Ideal.Ffn Idealize.ShloMosaic Idealize.ShloMosaic.TcCoe

variable (m : (ℓ : Loc nD τ sig) → Buf (Elt Ideal) ℓ)

/-- The token table, read through the step's blocks. -/
theorem ids_at (c : Dev nD) (u : Fin 64) (r : Fin 512) : (V m c main_v4 : S64x1x512.Idx → Elt Ideal .i32) (ix3 u 0 r)
    = (m (c.tc.loc main_arg1) : S16x2048.Idx → Elt Ideal .i32) (ix2 ⟨u.val / 4, by omega⟩ ⟨u.val % 4 * 512 + r.val, by omega⟩) := by
  entry_read
  pointwise

/-- The gates, read through the step's blocks. -/
theorem gates_at (c : Dev nD) (t : Fin cfg0.N) (u : Fin 64) (hu : u.val = t.val) (r : Fin 512) : (iblk m c 2 t : S1x1x512.Idx → Elt Ideal .f32) (ix3 0 0 r)
    = (m (c.tc.loc main_arg2) : S16x2048.Idx → Elt Ideal .f32) (ix2 ⟨u.val / 4, by omega⟩ ⟨u.val % 4 * 512 + r.val, by omega⟩) := by
  obtain ⟨h0, h1, h2, h3, h4⟩ := index_facts t
  blk_point [iblk, h2]

/-- The norm's gain. -/
theorem gain_at (c : Dev nD) (t : Fin cfg0.N) (k : Fin 1024) : (iblk m c 3 t : S1x1024.Idx → Elt Ideal .f32) (ix2 0 k)
    = (m (c.tc.loc main_arg3) : S2x1024.Idx → Elt Ideal .f32) (ix2 0 k) := by
  obtain ⟨h0, h1, h2, h3, h4⟩ := index_facts t
  blk_point [iblk, h3]

/-- The tokens, eight rows of 128 channels each. -/
theorem tokens_at (c : Dev nD) (a : Fin 16384) (k : Fin 1024) : (V m c main_v6 : S16384x8x128.Idx → Elt Ideal .f32) (ix3 a ⟨k.val / 128, by omega⟩ ⟨k.val % 128, by omega⟩)
    = (m (c.tc.loc main_arg0) : S1x16384x1024.Idx → Elt Ideal .f32) (ix3 0 a k) := by
  entry_read
  pointwise

/-- The token that step `t` puts in its row `r`. -/
theorem tokIx_at (c : Dev nD) (t : ℕ) (ht : t < 64) (r : Fin 512) : tokIx (V m c main_v4 : S64x1x512.Idx → Elt Ideal .i32) t r
    = token (m (c.tc.loc main_arg1)) ⟨t / 4, by omega⟩ ⟨t % 4 * 512 + r.val, by omega⟩ := by
  unfold tokIx token
  rw [show (⟨min t 63, by omega⟩ : Fin 64) = ⟨t, ht⟩ from Fin.ext (by dsimp only; omega), ids_at]

theorem expert_congr {x x' g g' : Fin 1024 → EReal} {Wg Wg' Wu Wu' Wd Wd' : Fin 1024 → Fin 1024 → EReal} {q q' : EReal} {n : Fin 1024}
    (hx : x = x') (hg : g = g') (h4 : Wg = Wg') (h5 : Wu = Wu') (h6 : Wd = Wd') (hq : q = q') :
    expert x g Wg Wu Wd q n = expert x' g' Wg' Wu' Wd' q' n := by rw [hx, hg, h4, h5, h6, hq]

/-- The kernel's result array is the experts' outputs. -/
theorem arr4 (c : Dev nD) : (dats m 0 c).arrAt 4 cfg0.N
    = G (m (c.tc.loc main_arg0)) (m (c.tc.loc main_arg1)) (m (c.tc.loc main_arg2)) (m (c.tc.loc main_arg3))
          (m (c.tc.loc main_arg4)) (m (c.tc.loc main_arg5)) (m (c.tc.loc main_arg6)) := by
  refine (dats m 0 c).arrAt_eq_of_covers 4 _ (by decide +kernel) fun t hf y => ?_
  blk_simp
  rw [after0_4]
  obtain ⟨h0, h1, h2, h3, h4⟩ := index_facts t
  have ht : t.val < 64 := t_lt t
  have key : ∀ y : S512x1024.Idx, outBlk m c t y
      = G (m (c.tc.loc main_arg0)) (m (c.tc.loc main_arg1)) (m (c.tc.loc main_arg2)) (m (c.tc.loc main_arg3))
          (m (c.tc.loc main_arg4)) (m (c.tc.loc main_arg5)) (m (c.tc.loc main_arg6)) ((win0_4.blk t).view.emb y) := by
    intro y
    idx_vars y
    unfold outBlk
    rw [outAt_at]
    have he : ∀ Q : S32768x1024.Idx → EReal, Q ((win0_4.blk t).view.emb (ix2 y0 y1)) = Q (ix2 ⟨t.val * 512 + y0.val, by omega⟩ y1) := by
      intro Q
      blk_point [h4]
    refine Eq.trans ?_ (he _).symm
    have e1 : (⟨(t.val * 512 + y0.val) / 2048, by omega⟩ : Fin 16) = ⟨t.val / 4, by omega⟩ := Fin.ext (by dsimp only; omega)
    have e2 : (⟨(t.val * 512 + y0.val) % 2048, by omega⟩ : Fin 2048) = ⟨t.val % 4 * 512 + y0.val, by omega⟩ := Fin.ext (by dsimp only; omega)
    have e3 : Fin.ofNat 16 (t.val / 4) = ⟨t.val / 4, by omega⟩ := Fin.ext (Nat.mod_eq_of_lt (by omega))
    simp only [G, ix2_0, ix2_1, e1, e2]
    exact expert_congr (funext fun k => (tokens_at m c _ k).trans (by rw [tokIx_at m c t.val ht])) (funext (gain_at m c t))
      (funext fun k => funext fun n => (congrFun (V_main_arg4 m c) _).trans (by rw [e3]))
      (funext fun k => funext fun n => (congrFun (V_main_arg5 m c) _).trans (by rw [e3]))
      (funext fun k => funext fun n => (congrFun (V_main_arg6 m c) _).trans (by rw [e3])) (gates_at m c t ⟨t.val, ht⟩ rfl y0)
  exact key y

end Cert.Ffn
-- ==== Proof.Ffn.Ref.lean ====
/- The experts' reference, index by index, as the mathematics of Spec.lean. -/
module

public import proofs.«01_k».proof.Proof.Ffn.Spec
public import proofs.«01_k».proof.Proof.Gen.Reference2Ideal.Run
public import Idealize.ShloMosaic.Lib.Tactic.CleanTypes
public import Idealize.ShloMosaic.PureOps.Ideal.Laws
public import Idealize.ShloMosaic.Lib.ValueIdxCore
public import Idealize.ShloMosaic.Lib.Affine

@[expose] public section

set_option maxRecDepth 16384

noncomputable section

namespace Cert.Ffn

open Cert.Reference2Ideal Cert.Reference2Ideal.Gen Idealize.ShloMosaic Idealize.ShloMosaic.TcCoe

/-- The gather of whole rows, read at an index: the row its start index names, when that is one of the operand's rows. -/
theorem rows_gather {α : Type} (x : S16384x1024.Idx → α) (I : S16x2048x1.Idx → BitVec 32) (e : Fin 16) (r : Fin 2048) (k : Fin 1024)
    (h : (I (ix3 e r 0)).toNat < 16384) :
    Host.gather gather_S16384x1024_S16x2048x1_S16x2048x1024_2_0_n_n_0_2_11024 x I (ix3 e r k) = x (ix2 ⟨(I (ix3 e r 0)).toNat, h⟩ k) := by
  have hc : min (I (ix3 e r 0)).toInt.toNat 16383 = (I (ix3 e r 0)).toNat := by
    rw [BitVec.toInt_eq_toNat_of_lt (by omega)]; omega
  unfold Host.gather
  congr 1
  funext a
  refine Fin.ext ?_
  show (gather_S16384x1024_S16x2048x1_S16x2048x1024_2_0_n_n_0_2_11024).start (ix3 e r k) I a
    + (gather_S16384x1024_S16x2048x1_S16x2048x1024_2_0_n_n_0_2_11024).batchCoord (ix3 e r k) a
    + (gather_S16384x1024_S16x2048x1_S16x2048x1024_2_0_n_n_0_2_11024).offCoord (ix3 e r k) a = _
  match a with
  | ⟨0, _⟩ =>
    have hsi : (gather_S16384x1024_S16x2048x1_S16x2048x1024_2_0_n_n_0_2_11024).siIdx (ix3 e r k)
        ⟨List.idxOf (0 : Fin 2) (gather_S16384x1024_S16x2048x1_S16x2048x1024_2_0_n_n_0_2_11024).startIndexMap,
          List.idxOf_lt_length_iff.2 (List.mem_singleton.mpr rfl)⟩ = ix3 e r 0 := by
      funext b
      refine Fin.ext ?_
      match b with
      | ⟨0, _⟩ => rfl
      | ⟨1, _⟩ => rfl
      | ⟨2, _⟩ => rfl
    exact (congrArg (fun z => min (I z).toInt.toNat 16383) hsi).trans hc
  | ⟨1, _⟩ =>
    show 0 + 0 + k.val = k.val
    omega

/-- A row index in range is its own wrapped index. -/
theorem wrap_id (v : BitVec 32) (h : v.toNat < 16384) : Scalar.select (IntOp.cmpi CmpIPredicate.slt v 0#32) (IntOp.addi v 16384#32) v = v := by
  have h0 : ¬ IntOp.cmpi CmpIPredicate.slt v 0#32 = 1#1 := by
    rw [IntOp.cmpi_slt, BitVec.toInt_eq_toNat_of_lt (by omega)]
    simp
  exact if_neg h0

variable (m : (ℓ : Loc nD τ sig) → Buf (Elt Ideal) ℓ)

/-- The reference's result at an index, for a token table in range. -/
theorem ref_at (c : Dev nD) (hI : ∀ i, ((m (c.tc.loc main_arg1) : S16x2048.Idx → Elt Ideal .i32) i : BitVec 32).toNat < 16384) (j : S32768x1024.Idx) :
    Value.res_main_v38 m c j
    = G (m (c.tc.loc main_arg0)) (m (c.tc.loc main_arg1)) (m (c.tc.loc main_arg2)) (m (c.tc.loc main_arg3))
          (m (c.tc.loc main_arg4)) (m (c.tc.loc main_arg5)) (m (c.tc.loc main_arg6)) j := by
  idx_vars j
  have hs : ∀ (e : Fin 16) (r : Fin 2048), (broadcastInDim S16x2048x1 ![0, 1] bcast_S16x2048_S16x2048x1_0_1
                      (select
                        (cmpi CmpIPredicate.slt (m (c.tc.loc main_arg1))
                          (broadcastInDim S16x2048 ![] bcast_S_S16x2048 (constantI S_ 32 0#32)))
                        (addi (m (c.tc.loc main_arg1))
                          (broadcastInDim S16x2048 ![] bcast_S_S16x2048 (constantI S_ 32 16384#32)))
                        (m (c.tc.loc main_arg1)))) (ix3 e r 0) = (m (c.tc.loc main_arg1) : S16x2048.Idx → Elt Ideal .i32) (ix2 e r) := by
    intro e r
    pointwise
    exact wrap_id _ (hI _)
  have hr : ∀ (e : Fin 16) (r : Fin 2048), (⟨((m (c.tc.loc main_arg1) : S16x2048.Idx → Elt Ideal .i32) (ix2 e r) : BitVec 32).toNat, hI _⟩ : Fin 16384)
      = token (m (c.tc.loc main_arg1)) e r := fun e r => Fin.ext (Nat.mod_eq_of_lt (hI _)).symm
  unfold Value.res_main_v38
  clean_types
  pointwise
  simp only [rows_gather _ _ _ _ _ (lt_of_eq_of_lt (congrArg BitVec.toNat (hs _ _)) (hI _)), hs, hr]
  pointwise
  rfl

/-- The reference's run, for a token table in range: its result as the mathematics, its arguments unchanged. -/
theorem run_ref (m : (ℓ : Loc nD τ sig) → Buf (Elt Ideal) ℓ) (ρ : Dev nD → PrngReg)
    (hI : ∀ (c : Dev nD) i, ((m (c.tc.loc main_arg1) : S16x2048.Idx → Elt Ideal .i32) i : BitVec 32).toNat < 16384) :
    θ_run defs (onTc (τ := τ) (main (F := Ideal))) ⟨m, fun _ => 0, ρ⟩ fun r => ∀ c : Dev nD,
      r.2.mem (c.tc.loc main_v38) = G (m (c.tc.loc main_arg0)) (m (c.tc.loc main_arg1)) (m (c.tc.loc main_arg2))
          (m (c.tc.loc main_arg3)) (m (c.tc.loc main_arg4)) (m (c.tc.loc main_arg5)) (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun _ h c => ⟨(h c).1.trans (funext (ref_at m c (hI c))), (h c).2⟩) (Value.run m ρ)

end Cert.Ffn
-- ==== Proof.Back.Spec.lean ====
/-
  The mathematics of the layer's `back` call, token by token over the extended reals: the depthwise convolution of 31
  taps over the gated linear unit, its layer norm and SiLU, and the projection of both mixers' outputs onto the residual.
-/
module

public import proofs.«01_k».proof.Proof.Front.Spec

@[expose] public section

noncomputable section

namespace Cert.Back

open Idealize.ShloMosaic

/-- Adding the values `f 0`, `f 1`, … one after another to `b`. -/
def accum (b : EReal) (f : ℕ → EReal) : ℕ → EReal
  | 0 => b
  | k + 1 => accum b f k + f k

/-- That is their sum and `b`. -/
theorem accum_eq (b : EReal) (f : ℕ → EReal) (n : ℕ) : accum b f n = (∑ k : Fin n, f k.val) + b := by
  induction n with
  | zero => simp [accum]
  | succ n ih => rw [accum, ih, Fin.sum_univ_castSucc, add_right_comm]; rfl

/-- The token that tap position `p` of the padded sequence holds, at one channel: zero in the 15 positions before the
    first token and after the last. -/
def tap (g : Fin 16384 → EReal) (p : ℕ) : EReal := if h : 15 ≤ p ∧ p - 15 < 16384 then g ⟨p - 15, h.2⟩ else 0

/-- The convolution at token `t`: the 31 taps around it and the bias. -/
def conv (w : Fin 31 → EReal) (b : EReal) (g : Fin 16384 → EReal) (t : ℕ) : EReal :=
  (∑ k, w k * tap g (t + k.val)) + b

/-- The SiLU of `y`. -/
def silu (y : EReal) : EReal := y * Ideal.logistic y

/-- Mixer B's output at token `t` and channel `n`. -/
def mixB (w : Fin 31 → Fin 512 → EReal) (b : Fin 512 → EReal) (ng nb : Fin 512 → EReal)
    (g : Fin 16384 → Fin 512 → EReal) (t : ℕ) (n : Fin 512) : EReal :=
  silu (Front.ln (fun j => conv (fun k => w k j) (b j) (fun p => g p j) t) ng nb n)

/-- The residual `x` and both mixers' outputs against one column `w` of the output projection. -/
def out (x : EReal) (a b : Fin 512 → EReal) (w : Fin 1024 → EReal) : EReal :=
  x + ((∑ k, a k * w ⟨k.val, by omega⟩) + ∑ k, b k * w ⟨512 + k.val, by omega⟩)

/-- The call's result, 128 channels a row: row `r`, lane `l` is token `r / 8` at channel `r % 8 * 128 + l`. -/
def G3 (x : Vec Ideal ⟨3, ![1, 16384, 1024]⟩ .f32) (a : Vec Ideal ⟨3, ![1, 16384, 512]⟩ .bf16)
    (g : Vec Ideal ⟨3, ![1, 16384, 512]⟩ .f32) (w : Vec Ideal ⟨3, ![1, 31, 512]⟩ .f32)
    (b ng nb : Vec Ideal ⟨2, ![1, 512]⟩ .f32) (W : Vec Ideal ⟨3, ![1, 1024, 1024]⟩ .f32) :
    Vec Ideal ⟨2, ![131072, 128]⟩ .f32 := fun y =>
  have h0 : (y 0).val < 131072 := (y 0).isLt
  have h1 : (y 1).val < 128 := (y 1).isLt
  let t : Fin 16384 := ⟨(y 0).val / 8, by omega⟩
  let n : Fin 1024 := ⟨(y 0).val % 8 * 128 + (y 1).val, by omega⟩
  out (x (ix3 0 t n)) (fun k => a (ix3 0 t k))
    (mixB (fun k n => w (ix3 0 k n)) (fun n => b (ix2 0 n)) (fun n => ng (ix2 0 n)) (fun n => nb (ix2 0 n))
      (fun p n => g (ix3 0 p n)) t.val)
    fun k => W (ix3 0 k n)

end Cert.Back
end
-- ==== Proof.Back.Payloads.lean ====
/- The back kernel's stored values, read index by index. -/
module

public import proofs.«01_k».proof.Proof.Back.Spec
public import proofs.«01_k».proof.Proof.Gen.Kernel3Ideal.Skeleton
public import Idealize.ShloMosaic.Lib.Pipeline.ValueKit
public import Idealize.ShloMosaic.Lib.Pipeline.ReadBack

@[expose] public section

set_option maxRecDepth 16384

noncomputable section

namespace Cert.Back

open Cert.Kernel3Ideal Cert.Kernel3Ideal.Gen Idealize.ShloMosaic Idealize.ShloMosaic.TcCoe

/-- The first 4 taps onto the bias. -/
theorem pay13_at (cb : Vec Ideal S1x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (r : Fin 256) (n : Fin 512) :
    k0_pay13 cb w0 s0 w1 s1 w2 s2 w3 s3 (ix2 r n) = (((((0 + cb (ix2 0 n)) + w0 (ix2 0 n) * s0 (ix3 0 r n)) + w1 (ix2 0 n) * s1 (ix3 0 r n)) + w2 (ix2 0 n) * s2 (ix3 0 r n)) + w3 (ix2 0 n) * s3 (ix3 0 r n)) := by
  pointwise [k0_pay13]

/-- The first 3 taps onto the bias. -/
theorem pay21_at (cb : Vec Ideal S1x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (r : Fin 256) (n : Fin 512) :
    k0_pay21 cb w0 s0 w1 s1 w2 s2 (ix2 r n) = ((((0 + cb (ix2 0 n)) + w0 (ix2 0 n) * s0 (ix3 0 r n)) + w1 (ix2 0 n) * s1 (ix3 0 r n)) + w2 (ix2 0 n) * s2 (ix3 0 r n)) := by
  pointwise [k0_pay21]

/-- Five more taps. -/
theorem pay14_at (a : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (w4 : Vec Ideal S1x512 .f32) (s4 : Vec Ideal S1x256x512 .f32) (r : Fin 256) (n : Fin 512) :
    k0_pay14 a w0 s0 w1 s1 w2 s2 w3 s3 w4 s4 (ix2 r n) = (((((a (ix2 r n) + w0 (ix2 0 n) * s0 (ix3 0 r n)) + w1 (ix2 0 n) * s1 (ix3 0 r n)) + w2 (ix2 0 n) * s2 (ix3 0 r n)) + w3 (ix2 0 n) * s3 (ix3 0 r n)) + w4 (ix2 0 n) * s4 (ix3 0 r n)) := by
  pointwise [k0_pay14]

/-- Five more taps. -/
theorem pay15_at (a : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (w4 : Vec Ideal S1x512 .f32) (s4 : Vec Ideal S1x256x512 .f32) (r : Fin 256) (n : Fin 512) :
    k0_pay15 a w0 s0 w1 s1 w2 s2 w3 s3 w4 s4 (ix2 r n) = (((((a (ix2 r n) + w0 (ix2 0 n) * s0 (ix3 0 r n)) + w1 (ix2 0 n) * s1 (ix3 0 r n)) + w2 (ix2 0 n) * s2 (ix3 0 r n)) + w3 (ix2 0 n) * s3 (ix3 0 r n)) + w4 (ix2 0 n) * s4 (ix3 0 r n)) := by
  pointwise [k0_pay15]

/-- Five more taps. -/
theorem pay16_at (a : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (w4 : Vec Ideal S1x512 .f32) (s4 : Vec Ideal S1x256x512 .f32) (r : Fin 256) (n : Fin 512) :
    k0_pay16 a w0 s0 w1 s1 w2 s2 w3 s3 w4 s4 (ix2 r n) = (((((a (ix2 r n) + w0 (ix2 0 n) * s0 (ix3 0 r n)) + w1 (ix2 0 n) * s1 (ix3 0 r n)) + w2 (ix2 0 n) * s2 (ix3 0 r n)) + w3 (ix2 0 n) * s3 (ix3 0 r n)) + w4 (ix2 0 n) * s4 (ix3 0 r n)) := by
  pointwise [k0_pay16]

/-- Five more taps. -/
theorem pay17_at (a : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (w4 : Vec Ideal S1x512 .f32) (s4 : Vec Ideal S1x256x512 .f32) (r : Fin 256) (n : Fin 512) :
    k0_pay17 a w0 s0 w1 s1 w2 s2 w3 s3 w4 s4 (ix2 r n) = (((((a (ix2 r n) + w0 (ix2 0 n) * s0 (ix3 0 r n)) + w1 (ix2 0 n) * s1 (ix3 0 r n)) + w2 (ix2 0 n) * s2 (ix3 0 r n)) + w3 (ix2 0 n) * s3 (ix3 0 r n)) + w4 (ix2 0 n) * s4 (ix3 0 r n)) := by
  pointwise [k0_pay17]

/-- Five more taps. -/
theorem pay18_at (a : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (w4 : Vec Ideal S1x512 .f32) (s4 : Vec Ideal S1x256x512 .f32) (r : Fin 256) (n : Fin 512) :
    k0_pay18 a w0 s0 w1 s1 w2 s2 w3 s3 w4 s4 (ix2 r n) = (((((a (ix2 r n) + w0 (ix2 0 n) * s0 (ix3 0 r n)) + w1 (ix2 0 n) * s1 (ix3 0 r n)) + w2 (ix2 0 n) * s2 (ix3 0 r n)) + w3 (ix2 0 n) * s3 (ix3 0 r n)) + w4 (ix2 0 n) * s4 (ix3 0 r n)) := by
  pointwise [k0_pay18]

/-- One tap's product. -/
theorem pay22_at (w0 : Vec Ideal S1x512 .f32) (s0 : Vec Ideal S1x256x512 .f32) (r : Fin 256) (n : Fin 512) :
    k0_pay22 w0 s0 (ix2 r n) = w0 (ix2 0 n) * s0 (ix3 0 r n) := by
  pointwise [k0_pay22]

/-- One tap's product. -/
theorem pay24_at (w0 : Vec Ideal S1x512 .f32) (s0 : Vec Ideal S1x256x512 .f32) (r : Fin 256) (n : Fin 512) :
    k0_pay24 w0 s0 (ix2 r n) = w0 (ix2 0 n) * s0 (ix3 0 r n) := by
  pointwise [k0_pay24]

/-- One tap's product. -/
theorem pay26_at (w0 : Vec Ideal S1x512 .f32) (s0 : Vec Ideal S1x256x512 .f32) (r : Fin 256) (n : Fin 512) :
    k0_pay26 w0 s0 (ix2 r n) = w0 (ix2 0 n) * s0 (ix3 0 r n) := by
  pointwise [k0_pay26]

/-- One tap's product. -/
theorem pay28_at (w0 : Vec Ideal S1x512 .f32) (s0 : Vec Ideal S1x256x512 .f32) (r : Fin 256) (n : Fin 512) :
    k0_pay28 w0 s0 (ix2 r n) = w0 (ix2 0 n) * s0 (ix3 0 r n) := by
  pointwise [k0_pay28]

/-- One tap's product. -/
theorem pay30_at (w0 : Vec Ideal S1x512 .f32) (s0 : Vec Ideal S1x256x512 .f32) (r : Fin 256) (n : Fin 512) :
    k0_pay30 w0 s0 (ix2 r n) = w0 (ix2 0 n) * s0 (ix3 0 r n) := by
  pointwise [k0_pay30]

/-- One tap's product. -/
theorem pay32_at (w0 : Vec Ideal S1x512 .f32) (s0 : Vec Ideal S1x256x512 .f32) (r : Fin 256) (n : Fin 512) :
    k0_pay32 w0 s0 (ix2 r n) = w0 (ix2 0 n) * s0 (ix3 0 r n) := by
  pointwise [k0_pay32]

/-- A product and four more taps. -/
theorem pay23_at (a q : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (r : Fin 256) (n : Fin 512) :
    k0_pay23 a q w0 s0 w1 s1 w2 s2 w3 s3 (ix2 r n) = (((((a (ix2 r n) + q (ix2 r n)) + w0 (ix2 0 n) * s0 (ix3 0 r n)) + w1 (ix2 0 n) * s1 (ix3 0 r n)) + w2 (ix2 0 n) * s2 (ix3 0 r n)) + w3 (ix2 0 n) * s3 (ix3 0 r n)) := by
  pointwise [k0_pay23]

/-- A product and four more taps. -/
theorem pay25_at (a q : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (r : Fin 256) (n : Fin 512) :
    k0_pay25 a q w0 s0 w1 s1 w2 s2 w3 s3 (ix2 r n) = (((((a (ix2 r n) + q (ix2 r n)) + w0 (ix2 0 n) * s0 (ix3 0 r n)) + w1 (ix2 0 n) * s1 (ix3 0 r n)) + w2 (ix2 0 n) * s2 (ix3 0 r n)) + w3 (ix2 0 n) * s3 (ix3 0 r n)) := by
  pointwise [k0_pay25]

/-- A product and four more taps. -/
theorem pay27_at (a q : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (r : Fin 256) (n : Fin 512) :
    k0_pay27 a q w0 s0 w1 s1 w2 s2 w3 s3 (ix2 r n) = (((((a (ix2 r n) + q (ix2 r n)) + w0 (ix2 0 n) * s0 (ix3 0 r n)) + w1 (ix2 0 n) * s1 (ix3 0 r n)) + w2 (ix2 0 n) * s2 (ix3 0 r n)) + w3 (ix2 0 n) * s3 (ix3 0 r n)) := by
  pointwise [k0_pay27]

/-- A product and four more taps. -/
theorem pay29_at (a q : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (r : Fin 256) (n : Fin 512) :
    k0_pay29 a q w0 s0 w1 s1 w2 s2 w3 s3 (ix2 r n) = (((((a (ix2 r n) + q (ix2 r n)) + w0 (ix2 0 n) * s0 (ix3 0 r n)) + w1 (ix2 0 n) * s1 (ix3 0 r n)) + w2 (ix2 0 n) * s2 (ix3 0 r n)) + w3 (ix2 0 n) * s3 (ix3 0 r n)) := by
  pointwise [k0_pay29]

/-- A product and four more taps. -/
theorem pay31_at (a q : Vec Ideal S256x512 .f32) (w0 : Vec Ideal S1x512 .f32) (s0 : Vec Ideal S1x256x512 .f32) (w1 : Vec Ideal S1x512 .f32) (s1 : Vec Ideal S1x256x512 .f32) (w2 : Vec Ideal S1x512 .f32) (s2 : Vec Ideal S1x256x512 .f32) (w3 : Vec Ideal S1x512 .f32) (s3 : Vec Ideal S1x256x512 .f32) (r : Fin 256) (n : Fin 512) :
    k0_pay31 a q w0 s0 w1 s1 w2 s2 w3 s3 (ix2 r n) = (((((a (ix2 r n) + q (ix2 r n)) + w0 (ix2 0 n) * s0 (ix3 0 r n)) + w1 (ix2 0 n) * s1 (ix3 0 r n)) + w2 (ix2 0 n) * s2 (ix3 0 r n)) + w3 (ix2 0 n) * s3 (ix3 0 r n)) := by
  pointwise [k0_pay31]

/-- The last two taps, the layer norm and the SiLU. -/
theorem pay19_at (a : Vec Ideal S256x512 .f32) (w0 : Vec Ideal S1x512 .f32) (s0 : Vec Ideal S1x256x512 .f32) (w1 : Vec Ideal S1x512 .f32) (s1 : Vec Ideal S1x256x512 .f32) (g b : Vec Ideal S1x512 .f32) (r : Fin 256) (n : Fin 512) :
    k0_pay19 a w0 s0 w1 s1 g b (ix2 r n) = silu (Front.ln (fun j => ((a (ix2 r j) + w0 (ix2 0 j) * s0 (ix3 0 r j)) + w1 (ix2 0 j) * s1 (ix3 0 r j)))
        (fun j => g (ix2 0 j)) (fun j => b (ix2 0 j)) n) := by
  pointwise [k0_pay19]; rfl

/-- A product, the last two taps, the layer norm and the SiLU. -/
theorem pay33_at (a q : Vec Ideal S256x512 .f32) (w0 : Vec Ideal S1x512 .f32) (s0 : Vec Ideal S1x256x512 .f32) (w1 : Vec Ideal S1x512 .f32) (s1 : Vec Ideal S1x256x512 .f32) (g b : Vec Ideal S1x512 .f32) (r : Fin 256) (n : Fin 512) :
    k0_pay33 a q w0 s0 w1 s1 g b (ix2 r n) = silu (Front.ln (fun j => (((a (ix2 r j) + q (ix2 r j)) + w0 (ix2 0 j) * s0 (ix3 0 r j)) + w1 (ix2 0 j) * s1 (ix3 0 r j)))
        (fun j => g (ix2 0 j)) (fun j => b (ix2 0 j)) n) := by
  pointwise [k0_pay33]; rfl

/-- The cast of the first half is the same values. -/
theorem pay20_at (a : Vec Ideal S256x512 .bf16) (r : Fin 256) (n : Fin 512) : k0_pay20 (F := Ideal) a (ix2 r n) = (a (ix2 r n) : EReal) := by
  pointwise [k0_pay20]

/-- The cast of the second half is the same values. -/
theorem pay34_at (a : Vec Ideal S256x512 .f32) (r : Fin 256) (n : Fin 512) : k0_pay34 (F := Ideal) a (ix2 r n) = (a (ix2 r n) : EReal) := by
  pointwise [k0_pay34]

/-- Both mixers' outputs against the output projection, onto the residual. -/
theorem pay35_at (a : Vec Ideal S512x512 .bf16) (u : Vec Ideal S512x1024 .bf16) (b : Vec Ideal S512x512 .bf16)
    (v : Vec Ideal S512x1024 .bf16) (x : Vec Ideal S512x1024 .f32) (r : Fin 512) (n : Fin 1024) :
    k0_pay35 a u b v x (ix2 r n)
      = x (ix2 r n) + ((∑ k : Fin 512, a (ix2 r k) * u (ix2 k n)) + ∑ k : Fin 512, b (ix2 r k) * v (ix2 k n)) := by
  pointwise [k0_pay35]

/-- A choice by the bit one. -/
theorem sel_one {α : Type} (a b : α) : Scalar.select 1#1 a b = a := rfl

/-- A choice by the bit zero. -/
theorem sel_zero {α : Type} (a b : α) : Scalar.select 0#1 a b = b := rfl

/-- The halo before the tile, zero for the sequence's first tile. -/
theorem pay2_at (i : grid0.Coords) (x : Vec Ideal S16x512 .f32) (p : Fin 16) (n : Fin 512) :
    k0_pay2 i x (ix2 p n) = if (i 0).val = 0 then 0 else x (ix2 p n) := by
  have h : ∀ k : Fin 32, Scalar.cmpi .eq (Scalar.remsi (BitVec.ofNat 32 k.val) 32#32) 0#32 = if k.val = 0 then 1#1 else 0#1 := by
    decide
  unfold k0_pay2
  dsimp only
  rw [h ⟨(i 0).val, (i 0).isLt⟩]
  dsimp only
  split
  · rw [sel_one]; pointwise
  · rw [sel_zero]; pointwise

/-- The halo after the tile, zero for the sequence's last tile. -/
theorem pay4_at (i : grid0.Coords) (x : Vec Ideal S16x512 .f32) (p : Fin 16) (n : Fin 512) :
    k0_pay4 i x (ix2 p n) = if (i 0).val = 31 then 0 else x (ix2 p n) := by
  have h : ∀ k : Fin 32, Scalar.cmpi .eq (Scalar.remsi (BitVec.ofNat 32 k.val) 32#32) 31#32 = if k.val = 31 then 1#1 else 0#1 := by
    decide
  unfold k0_pay4
  dsimp only
  rw [h ⟨(i 0).val, (i 0).isLt⟩]
  dsimp only
  split
  · rw [sel_one]; pointwise
  · rw [sel_zero]; pointwise

/-- The tile itself. -/
theorem pay3_at (x : Vec Ideal S512x512 .f32) (r n : Fin 512) : k0_pay3 x (ix2 r n) = x (ix2 r n) := by
  pointwise [k0_pay3]

/-- Channels 0 to 127 of every token. -/
theorem pay36_at (a : Vec Ideal S512x512 .bf16) (u : Vec Ideal S512x1024 .bf16) (b : Vec Ideal S512x512 .bf16)
    (v : Vec Ideal S512x1024 .bf16) (x : Vec Ideal S512x1024 .f32) (r : Fin 512) (l : Fin 128) :
    k0_pay36 a u b v x (ix2 r l) = k0_pay35 a u b v x (ix2 r ⟨0 + l.val, by omega⟩) := by
  unfold k0_pay36
  pointwise

/-- Channels 128 to 255 of every token. -/
theorem pay37_at (a : Vec Ideal S512x512 .bf16) (u : Vec Ideal S512x1024 .bf16) (b : Vec Ideal S512x512 .bf16)
    (v : Vec Ideal S512x1024 .bf16) (x : Vec Ideal S512x1024 .f32) (r : Fin 512) (l : Fin 128) :
    k0_pay37 a u b v x (ix2 r l) = k0_pay35 a u b v x (ix2 r ⟨128 + l.val, by omega⟩) := by
  unfold k0_pay37
  pointwise

/-- Channels 256 to 383 of every token. -/
theorem pay38_at (a : Vec Ideal S512x512 .bf16) (u : Vec Ideal S512x1024 .bf16) (b : Vec Ideal S512x512 .bf16)
    (v : Vec Ideal S512x1024 .bf16) (x : Vec Ideal S512x1024 .f32) (r : Fin 512) (l : Fin 128) :
    k0_pay38 a u b v x (ix2 r l) = k0_pay35 a u b v x (ix2 r ⟨256 + l.val, by omega⟩) := by
  unfold k0_pay38
  pointwise

/-- Channels 384 to 511 of every token. -/
theorem pay39_at (a : Vec Ideal S512x512 .bf16) (u : Vec Ideal S512x1024 .bf16) (b : Vec Ideal S512x512 .bf16)
    (v : Vec Ideal S512x1024 .bf16) (x : Vec Ideal S512x1024 .f32) (r : Fin 512) (l : Fin 128) :
    k0_pay39 a u b v x (ix2 r l) = k0_pay35 a u b v x (ix2 r ⟨384 + l.val, by omega⟩) := by
  unfold k0_pay39
  pointwise

/-- Channels 512 to 639 of every token. -/
theorem pay40_at (a : Vec Ideal S512x512 .bf16) (u : Vec Ideal S512x1024 .bf16) (b : Vec Ideal S512x512 .bf16)
    (v : Vec Ideal S512x1024 .bf16) (x : Vec Ideal S512x1024 .f32) (r : Fin 512) (l : Fin 128) :
    k0_pay40 a u b v x (ix2 r l) = k0_pay35 a u b v x (ix2 r ⟨512 + l.val, by omega⟩) := by
  unfold k0_pay40
  pointwise

/-- Channels 640 to 767 of every token. -/
theorem pay41_at (a : Vec Ideal S512x512 .bf16) (u : Vec Ideal S512x1024 .bf16) (b : Vec Ideal S512x512 .bf16)
    (v : Vec Ideal S512x1024 .bf16) (x : Vec Ideal S512x1024 .f32) (r : Fin 512) (l : Fin 128) :
    k0_pay41 a u b v x (ix2 r l) = k0_pay35 a u b v x (ix2 r ⟨640 + l.val, by omega⟩) := by
  unfold k0_pay41
  pointwise

/-- Channels 768 to 895 of every token. -/
theorem pay42_at (v : Vec Ideal S512x1024 .f32) (r : Fin 512) (l : Fin 128) :
    k0_pay42 (F := Ideal) v (ix2 r l) = v (ix2 r ⟨768 + l.val, by omega⟩) := by
  unfold k0_pay42
  pointwise

/-- Channels 896 to 1023 of every token. -/
theorem pay43_at (v : Vec Ideal S512x1024 .f32) (r : Fin 512) (l : Fin 128) :
    k0_pay43 (F := Ideal) v (ix2 r l) = v (ix2 r ⟨896 + l.val, by omega⟩) := by
  unfold k0_pay43
  pointwise

end Cert.Back
end
-- ==== Proof.Back.Run.lean ====
/-
  The back kernel's body run once: what its stores leave in each of its outputs and in its scratch buffers.
-/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 4000000 in
/-- The pieces the body stores into its two outputs (`L13`, `L14`) and its three scratch buffers, and that, given the
    thirteen inputs' buffers, the body leaves the inputs as they were and every other buffer with its pieces written. -/
def bodyRun (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S4096x128 .f32) (harg14 : arg14.IsWhole) (arg15 : Memref sig .tc .vmem S16x512 .f32) (harg15 : arg15.IsWhole) (arg16 : Memref sig .tc .vmem S544x512 .f32) (harg16 : arg16.IsWhole) (arg17 : Memref sig .tc .vmem S8x536x512 .f32) (harg17 : arg17.IsWhole) (arg18 : Memref sig .tc .vmem S512x512 .bf16) (harg18 : arg18.IsWhole)
    (x0 : Vec F S512x1024 .f32) (x1 : Vec F S512x512 .bf16) (x2 : Vec F S512x512 .f32) (x3 : Vec F S16x512 .f32) (x4 : Vec F S16x512 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S16x1024 .bf16) (x12 : Vec F S16x1024 .bf16) :
    Σ' (L13 : List (View.Piece (Elt F) S4096x128 .f32)), Σ' (L14 : List (View.Piece (Elt F) S16x512 .f32)), Σ' (LT0 : List (View.Piece (Elt F) S544x512 .f32)), Σ' (LT1 : List (View.Piece (Elt F) S8x536x512 .f32)), { LT2 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LT2)) -∗ K ⟨⟩))
          ⊢ wp frame (wpE (defs₀ (F := F)) Variants.none c none) E (cc0_back i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_back_eq_skeleton]; unfold cc0_back_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    iexists _; iexact H17

end Cert.Kernel3Ideal.Back

end
-- ==== Proof.Back.Reads.lean ====
/- What the back kernel's scratch buffers hold, read index by index: the extended tile, its shifted copies, the
   convolution accumulated tap by tap, and mixer B's output. -/
module

public import proofs.«01_k».proof.Proof.Back.Payloads
public import proofs.«01_k».proof.Proof.Back.Run
public import Idealize.ShloMosaic.Lib.WholeRead

@[expose] public section

set_option maxRecDepth 16384

noncomputable section

namespace Cert.Back

open Cert.Kernel3Ideal Cert.Kernel3Ideal.Gen Cert.Kernel3Ideal.Back Idealize.ShloMosaic Idealize.ShloMosaic.TcCoe

/-- The tile with its two halos, at row `p` and channel `n`: 16 rows before it (zero for the first tile), its 512 rows,
    16 rows after it (zero for the last tile). -/
def ext (i : grid0.Coords) (x2 : Vec Ideal S512x512 .f32) (x3 x4 : Vec Ideal S16x512 .f32) (p : ℕ) (n : Fin 512) : EReal :=
  if h : p < 16 then (if (i 0).val = 0 then 0 else x3 (ix2 ⟨p, h⟩ n))
  else if h : p - 16 < 512 then x2 (ix2 ⟨p - 16, h⟩ n)
  else if h : p - 528 < 16 then (if (i 0).val = 31 then 0 else x4 (ix2 ⟨p - 528, h⟩ n))
  else 0

/-- Row `k` of the tap weights at channel `n`. -/
def wrow (x5 : Vec Ideal S31x512 .f32) (k : ℕ) (n : Fin 512) : EReal := if h : k < 31 then x5 (ix2 ⟨k, h⟩ n) else 0

variable (c : Dev nD) (i : grid0.Coords)
  (arg3 : Memref sig .tc .vmem S512x512 .f32) (harg3 : arg3.IsWhole) (arg4 : Memref sig .tc .vmem S16x512 .f32) (harg4 : arg4.IsWhole)
  (arg5 : Memref sig .tc .vmem S16x512 .f32) (harg5 : arg5.IsWhole) (arg6 : Memref sig .tc .vmem S31x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S1x512 .f32) (harg9 : arg9.IsWhole)
  (arg16 : Memref sig .tc .vmem S544x512 .f32) (arg17 : Memref sig .tc .vmem S8x536x512 .f32) (arg18 : Memref sig .tc .vmem S512x512 .bf16)
  (x2 : Vec Ideal S512x512 .f32) (x3 x4 : Vec Ideal S16x512 .f32) (x5 : Vec Ideal S31x512 .f32)
  (x6 x7 x8 : Vec Ideal S1x512 .f32)

/-- A load of one row of the tap weights. -/
theorem wload (k : ℕ) (inb) (n : Fin 512) :
    View.readAt (Elt Ideal) arg6.view (Rect.unit (s := S31x512) ![k, 0] S1x512.size inb).toLoadRect (harg6.unread x5) (ix2 0 n)
      = wrow x5 k n := by
  have hk : k < 31 := by have := inb 0; simp at this; omega
  rw [Memref.IsWhole.readAt_unread, wrow, dif_pos hk]
  congr 1
  funext a
  apply Fin.ext
  match a with
  | 0 => show k + 1 * 0 = k; omega
  | 1 => show 0 + 1 * n.val = n.val; omega

/-- A load of a whole row. -/
theorem bload (arg : Memref sig .tc .vmem S1x512 .f32) (harg : arg.IsWhole) (x : Vec Ideal S1x512 .f32) (inb) (n : Fin 512) :
    View.readAt (Elt Ideal) arg.view (Rect.unit (s := S1x512) ![0, 0] S1x512.size inb).toLoadRect (harg.unread x) (ix2 0 n)
      = x (ix2 0 n) := by
  rw [Memref.IsWhole.readAt_unread]
  congr 1
  funext a
  apply Fin.ext
  match a with
  | 0 => rfl
  | 1 => show 0 + 1 * n.val = n.val; omega

/-- The first scratch holds the extended tile. -/
theorem ext_at (p : Fin 544) (n : Fin 512) :
    View.canon (bodyRun.sl.H15_3 c i arg3 harg3 arg4 harg4 arg5 harg5 x2 x3 x4) (ix2 p n) = ext i x2 x3 x4 p.val n := by
  have hp := p.isLt
  have hcover : ∃ pc ∈ bodyRun.sl.H15_3 c i arg3 harg3 arg4 harg4 arg5 harg5 x2 x3 x4, ix2 p n ∈ pc.1.set := by
    unfold bodyRun.sl.H15_3
    rcases (by omega : p.val < 16 ∨ (16 ≤ p.val ∧ p.val < 528) ∨ 528 ≤ p.val) with h | h | h
    · refine ⟨_, List.mem_cons_of_mem _ (List.mem_cons_of_mem _ List.mem_cons_self), (LoadRect.mem_set _).2 fun a => ?_⟩
      match a with
      | 0 => exact ⟨p.val - 0, (by show p.val - 0 < 16; omega), (by show p.val = 0 + 1 * (p.val - 0); omega)⟩
      | 1 => exact ⟨n.val, n.isLt, (by show n.val = 0 + 1 * n.val; omega)⟩
    · refine ⟨_, List.mem_cons_of_mem _ List.mem_cons_self, (LoadRect.mem_set _).2 fun a => ?_⟩
      match a with
      | 0 => exact ⟨p.val - 16, (by show p.val - 16 < 512; omega), (by show p.val = 16 + 1 * (p.val - 16); omega)⟩
      | 1 => exact ⟨n.val, n.isLt, (by show n.val = 0 + 1 * n.val; omega)⟩
    · refine ⟨_, List.mem_cons_self, (LoadRect.mem_set _).2 fun a => ?_⟩
      match a with
      | 0 => exact ⟨p.val - 528, (by show p.val - 528 < 16; omega), (by show p.val = 528 + 1 * (p.val - 528); omega)⟩
      | 1 => exact ⟨n.val, n.isLt, (by show n.val = 0 + 1 * n.val; omega)⟩
  unfold bodyRun.sl.H15_3 at hcover ⊢
  simp (disch := decide) only [View.readAt_eq_ld, Memref.IsWhole.read_unread, View.ld_unit_lit'] at hcover ⊢
  canon_tiles x h using hcover
  · idx_vars x
    obtain rfl := Fin.ext h1
    rw [pay4_at, ext, dif_neg (by omega), dif_neg (by omega), dif_pos (by omega)]
    congr 2
    congr 1
    exact Fin.ext (by simp only; omega)
  · idx_vars x
    obtain rfl := Fin.ext h1
    rw [pay3_at, ext, dif_neg (by omega), dif_pos (by omega)]
    congr 2
    exact Fin.ext (by simp only; omega)
  · idx_vars x
    obtain rfl := Fin.ext h1
    rw [pay2_at, ext, dif_pos (by omega)]
    congr 2
    congr 1
    exact Fin.ext (by simp only; omega)

/-- A load of the first scratch from row `b`. -/
theorem ext_read (b : ℕ) (inb) (q : Fin 536) (n : Fin 512) :
    arg16.view.readCov (bodyRun.sl.H15_3 c i arg3 harg3 arg4 harg4 arg5 harg5 x2 x3 x4)
      (Rect.unit (s := S544x512) ![b, 0] S536x512.size inb).toLoadRect (ix2 q n) = ext i x2 x3 x4 (b + q.val) n := by
  have hb : b + q.val < 544 := by have := inb 0; have := q.isLt; simp at *; omega
  rw [View.readCov_eq_canon']
  refine Eq.trans (congrArg _ ?_) (ext_at c i arg3 harg3 arg4 harg4 arg5 harg5 x2 x3 x4 ⟨b + q.val, hb⟩ n)
  funext a
  apply Fin.ext
  match a with
  | 0 => show b + 1 * q.val = b + q.val; omega
  | 1 => show 0 + 1 * n.val = n.val; omega

/-- The cast of 536 rows to a rank-three block is the same values. -/
theorem cast_at (v : Vec Ideal S536x512 .f32) (h) (q : Fin 536) (n : Fin 512) :
    shapeCast S1x536x512 v h (ix3 0 q n) = v (ix2 q n) := by
  pointwise

/-- The second scratch holds the extended tile eight times, shifted by one row more each time. -/
theorem sh_at (b : Fin 8) (q : Fin 536) (n : Fin 512) :
    View.canon (bodyRun.sl.H16_8 c i arg3 harg3 arg4 harg4 arg5 harg5 arg16 x2 x3 x4) (ix3 b q n)
      = ext i x2 x3 x4 (b.val + q.val) n := by
  unfold bodyRun.sl.H16_8
  canon_tiles x h
  all_goals
    idx_vars x
    obtain rfl := Fin.ext h1
    obtain rfl := Fin.ext h2
    have h3 : x0 = 0 := Subsingleton.elim _ _
    subst h3
    rw [h0]
    exact (cast_at _ _ q n).trans (ext_read c i arg3 harg3 arg4 harg4 arg5 harg5 arg16 x2 x3 x4 _ _ q n)

/-- A load of 256 rows of the second scratch. -/
theorem sh_read (b o : ℕ) (inb) (r : Fin 256) (n : Fin 512) :
    arg17.view.readCov (bodyRun.sl.H16_8 c i arg3 harg3 arg4 harg4 arg5 harg5 arg16 x2 x3 x4)
      (Rect.unit (s := S8x536x512) ![b, o, 0] S1x256x512.size inb).toLoadRect (ix3 0 r n) = ext i x2 x3 x4 (b + o + r.val) n := by
  have hb : b < 8 := by have := inb 0; simp at this; omega
  have ho : o + r.val < 536 := by have := inb 1; have := r.isLt; simp at *; omega
  rw [View.readCov_eq_canon', Nat.add_assoc]
  refine Eq.trans (congrArg _ ?_) (sh_at c i arg3 harg3 arg4 harg4 arg5 harg5 arg16 x2 x3 x4 ⟨b, hb⟩ ⟨o + r.val, ho⟩ n)
  funext a
  apply Fin.ext
  match a with
  | 0 => show b + 1 * 0 = b; omega
  | 1 => show o + 1 * r.val = o + r.val; omega
  | 2 => show 0 + 1 * n.val = n.val; omega

/-- One product more on equal sums. -/
theorem step {a a' w w' s s' : EReal} (h : a = a') (hw : w = w') (hs : s = s') : a + w * s = a' + w' * s' := by
  rw [h, hw, hs]

/-- Equal factors have equal products. -/
theorem prod_congr {w w' s s' : EReal} (hw : w = w') (hs : s = s') : w * s = w' * s' := by rw [hw, hs]

/-- The layer norm of equal values with equal gains and biases. -/
theorem ln_congr {z z' g g' b b' : Fin 512 → EReal} (hz : ∀ j, z j = z' j) (hg : ∀ j, g j = g' j) (hb : ∀ j, b j = b' j)
    (n : Fin 512) : Front.ln z g b n = Front.ln z' g' b' n := by
  rw [funext hz, funext hg, funext hb]

/-- Tap `k`'s product for tile row `o + r`. -/
def term (i : grid0.Coords) (x2 : Vec Ideal S512x512 .f32) (x3 x4 : Vec Ideal S16x512 .f32) (x5 : Vec Ideal S31x512 .f32)
    (o r : ℕ) (n : Fin 512) (k : ℕ) : EReal := wrow x5 k n * ext i x2 x3 x4 (o + k + r) n

/-- The accumulator after the first 4 taps, for the rows from 0. -/
theorem r_at (r : Fin 256) (n : Fin 512) : bodyRun.sl.r c i arg3 harg3 arg4 harg4 arg5 harg5 arg6 harg6 arg7 harg7 arg16 arg17 x2 x3 x4 x5 x6 (ix2 r n)
    = accum (0 + x6 (ix2 0 n)) (term i x2 x3 x4 x5 1 r.val n) 4 := by
  unfold bodyRun.sl.r
  rw [pay13_at]
  exact (step (step (step (step (congrArg (0 + ·) (bload arg7 harg7 x6 _ n))
    (wload arg6 harg6 x5 0 _ n) (sh_read c i arg3 harg3 arg4 harg4 arg5 harg5 arg16 arg17 x2 x3 x4 1 0 _ r n))
    (wload arg6 harg6 x5 1 _ n) (sh_read c i arg3 harg3 arg4 harg4 arg5 harg5 arg16 arg17 x2 x3 x4 2 0 _ r n))
    (wload arg6 harg6 x5 2 _ n) (sh_read c i arg3 harg3 arg4 harg4 arg5 harg5 arg16 arg17 x2 x3 x4 3 0 _ r n))
    (wload arg6 harg6 x5 3 _ n) (sh_read c i arg3 harg3 arg4 harg4 arg5 harg5 arg16 arg17 x2 x3 x4 4 0 _ r n))

/-- The accumulator after the first 9 taps, for the rows from 0. -/
theorem r_1_at (r : Fin 256) (n : Fin 512) : bodyRun.sl.r_1 c i arg3 harg3 arg4 harg4 arg5 harg5 arg6 harg6 arg7 harg7 arg16 arg17 x2 x3 x4 x5 x6 (ix2 r n)
    = accum (0 + x6 (ix2 0 n)) (term i x2 x3 x4 x5 1 r.val n) 9 := by
  unfold bodyRun.sl.r_1
  rw [pay14_at]
  exact (step (step (step (step (step (r_at c i arg3 harg3 arg4 harg4 arg5 harg5 arg6 harg6 arg7 harg7 arg16 arg17 x2 x3 x4 x5 x6 r n)
    (wload arg6 harg6 x5 4 _ n) (sh_read c i arg3 harg3 arg4 harg4 arg5 harg5 arg16 arg17 x2 x3 x4 5 0 _ r n))
    (wload arg6 harg6 x5 5 _ n) (sh_read c i arg3 harg3 arg4 harg4 arg5 harg5 arg16 arg17 x2 x3 x4 6 0 _ r n))
    (wload arg6 harg6 x5 6 _ n) (sh_read c i arg3 harg3 arg4 harg4 arg5 harg5 arg16 arg17 x2 x3 x4 7 0 _ r n))
    (wload arg6 harg6 x5 7 _ n) (sh_read c i arg3 harg3 arg4 harg4 arg5 harg5 arg16 arg17 x2 x3 x4 0 8 _ r n))
    (wload arg6 harg6 x5 8 _ n) (sh_read c i arg3 harg3 arg4 harg4 arg5 harg5 arg16 arg17 x2 x3 x4 1 8 _ r n))

/-- The accumulator after the first 14 taps, for the rows from 0. -/
theorem r_2_at (r : Fin 256) (n : Fin 512) : bodyRun.sl.r_2 c i arg3 harg3 arg4 harg4 arg5 harg5 arg6 harg6 arg7 harg7 arg16 arg17 x2 x3 x4 x5 x6 (ix2 r n)
    = accum (0 + x6 (ix2 0 n)) (term i x2 x3 x4 x5 1 r.val n) 14 := by
  unfold bodyRun.sl.r_2
  rw [pay15_at]
  exact (step (step (step (step (step (r_1_at c i arg3 harg3 arg4 harg4 arg5 harg5 arg6 harg6 arg7 harg7 arg16 arg17 x2 x3 x4 x5 x6 r n)
    (wload arg6 harg6 x5 9 _ n) (sh_read c i arg3 harg3 arg4 harg4 arg5 harg5 arg16 arg17 x2 x3 x4 2 8 _ r n))
    (wload arg6 harg6 x5 10 _ n) (sh_read c i arg3 harg3 arg4 harg4 arg5 harg5 arg16 arg17 x2 x3 x4 3 8 _ r n))
    (wload arg6 harg6 x5 11 _ n) (sh_read c i arg3 harg3 arg4 harg4 arg5 harg5 arg16 arg17 x2 x3 x4 4 8 _ r n))
    (wload arg6 harg6 x5 12 _ n) (sh_read c i arg3 harg3 arg4 harg4 arg5 harg5 arg16 arg17 x2 x3 x4 5 8 _ r n))
    (wload arg6 harg6 x5 13 _ n) (sh_read c i arg3 harg3 arg4 harg4 arg5 harg5 arg16 arg17 x2 x3 x4 6 8 _ r n))

/-- The accumulator after the first 19 taps, for the rows from 0. -/
theorem r_3_at (r : Fin 256) (n : Fin 512) : bodyRun.sl.r_3 c i arg3 harg3 arg4 harg4 arg5 harg5 arg6 harg6 arg7 harg7 arg16 arg17 x2 x3 x4 x5 x6 (ix2 r n)
    = accum (0 + x6 (ix2 0 n)) (term i x2 x3 x4 x5 1 r.val n) 19 := by
  unfold bodyRun.sl.r_3
  rw [pay16_at]
  exact (step (step (step (step (step (r_2_at c i arg3 harg3 arg4 harg4 arg5 harg5 arg6 harg6 arg7 harg7 arg16 arg17 x2 x3 x4 x5 x6 r n)
    (wload arg6 harg6 x5 14 _ n) (sh_read c i arg3 harg3 arg4 harg4 arg5 harg5 arg16 arg17 x2 x3 x4 7 8 _ r n))
    (wload arg6 harg6 x5 15 _ n) (sh_read c i arg3 harg3 arg4 harg4 arg5 harg5 arg16 arg17 x2 x3 x4 0 16 _ r n))
    (wload arg6 harg6 x5 16 _ n) (sh_read c i arg3 harg3 arg4 harg4 arg5 harg5 arg16 arg17 x2 x3 x4 1 16 _ r n))
    (wload arg6 harg6 x5 17 _ n) (sh_read c i arg3 harg3 arg4 harg4 arg5 harg5 arg16 arg17 x2 x3 x4 2 16 _ r n))
    (wload arg6 harg6 x5 18 _ n) (sh_read c i arg3 harg3 arg4 harg4 arg5 harg5 arg16 arg17 x2 x3 x4 3 16 _ r n))

/-- The accumulator after the first 24 taps, for the rows from 0. -/
theorem r_4_at (r : Fin 256) (n : Fin 512) : bodyRun.sl.r_4 c i arg3 harg3 arg4 harg4 arg5 harg5 arg6 harg6 arg7 harg7 arg16 arg17 x2 x3 x4 x5 x6 (ix2 r n)
    = accum (0 + x6 (ix2 0 n)) (term i x2 x3 x4 x5 1 r.val n) 24 := by
  unfold bodyRun.sl.r_4
  rw [pay17_at]
  exact (step (step (step (step (step (r_3_at c i arg3 harg3 arg4 harg4 arg5 harg5 arg6 harg6 arg7 harg7 arg16 arg17 x2 x3 x4 x5 x6 r n)
    (wload arg6 harg6 x5 19 _ n) (sh_read c i arg3 harg3 arg4 harg4 arg5 harg5 arg16 arg17 x2 x3 x4 4 16 _ r n))
    (wload arg6 harg6 x5 20 _ n) (sh_read c i arg3 harg3 arg4 harg4 arg5 harg5 arg16 arg17 x2 x3 x4 5 16 _ r n))
    (wload arg6 harg6 x5 21 _ n) (sh_read c i arg3 harg3 arg4 harg4 arg5 harg5 arg16 arg17 x2 x3 x4 6 16 _ r n))
    (wload arg6 harg6 x5 22 _ n) (sh_read c i arg3 harg3 arg4 harg4 arg5 harg5 arg16 arg17 x2 x3 x4 7 16 _ r n))
    (wload arg6 harg6 x5 23 _ n) (sh_read c i arg3 harg3 arg4 harg4 arg5 harg5 arg16 arg17 x2 x3 x4 0 24 _ r n))

/-- The accumulator after the first 29 taps, for the rows from 0. -/
theorem r_5_at (r : Fin 256) (n : Fin 512) : bodyRun.sl.r_5 c i arg3 harg3 arg4 harg4 arg5 harg5 arg6 harg6 arg7 harg7 arg16 arg17 x2 x3 x4 x5 x6 (ix2 r n)
    = accum (0 + x6 (ix2 0 n)) (term i x2 x3 x4 x5 1 r.val n) 29 := by
  unfold bodyRun.sl.r_5
  rw [pay18_at]
  exact (step (step (step (step (step (r_4_at c i arg3 harg3 arg4 harg4 arg5 harg5 arg6 harg6 arg7 harg7 arg16 arg17 x2 x3 x4 x5 x6 r n)
    (wload arg6 harg6 x5 24 _ n) (sh_read c i arg3 harg3 arg4 harg4 arg5 harg5 arg16 arg17 x2 x3 x4 1 24 _ r n))
    (wload arg6 harg6 x5 25 _ n) (sh_read c i arg3 harg3 arg4 harg4 arg5 harg5 arg16 arg17 x2 x3 x4 2 24 _ r n))
    (wload arg6 harg6 x5 26 _ n) (sh_read c i arg3 harg3 arg4 harg4 arg5 harg5 arg16 arg17 x2 x3 x4 3 24 _ r n))
    (wload arg6 harg6 x5 27 _ n) (sh_read c i arg3 harg3 arg4 harg4 arg5 harg5 arg16 arg17 x2 x3 x4 4 24 _ r n))
    (wload arg6 harg6 x5 28 _ n) (sh_read c i arg3 harg3 arg4 harg4 arg5 harg5 arg16 arg17 x2 x3 x4 5 24 _ r n))

/-- Mixer B's output before its cast, for the rows from 0. -/
theorem r_6_at (r : Fin 256) (n : Fin 512) : bodyRun.sl.r_6 c i arg3 harg3 arg4 harg4 arg5 harg5 arg6 harg6 arg7 harg7 arg8 harg8 arg9 harg9 arg16 arg17 x2 x3 x4 x5 x6 x7 x8 (ix2 r n)
    = silu (Front.ln (fun j => accum (0 + x6 (ix2 0 j)) (term i x2 x3 x4 x5 1 r.val j) 31)
        (fun j => x7 (ix2 0 j)) (fun j => x8 (ix2 0 j)) n) := by
  unfold bodyRun.sl.r_6
  rw [pay19_at]
  exact congrArg silu (ln_congr (fun j => (step (step (r_5_at c i arg3 harg3 arg4 harg4 arg5 harg5 arg6 harg6 arg7 harg7 arg16 arg17 x2 x3 x4 x5 x6 r j)
    (wload arg6 harg6 x5 29 _ j) (sh_read c i arg3 harg3 arg4 harg4 arg5 harg5 arg16 arg17 x2 x3 x4 6 24 _ r j))
    (wload arg6 harg6 x5 30 _ j) (sh_read c i arg3 harg3 arg4 harg4 arg5 harg5 arg16 arg17 x2 x3 x4 7 24 _ r j)))
    (fun j => bload arg8 harg8 x7 _ j) (fun j => bload arg9 harg9 x8 _ j) n)

/-- The accumulator after the first 3 taps, for the rows from 256. -/
theorem r_7_at (r : Fin 256) (n : Fin 512) : bodyRun.sl.r_7 c i arg3 harg3 arg4 harg4 arg5 harg5 arg6 harg6 arg7 harg7 arg16 arg17 x2 x3 x4 x5 x6 (ix2 r n)
    = accum (0 + x6 (ix2 0 n)) (term i x2 x3 x4 x5 257 r.val n) 3 := by
  unfold bodyRun.sl.r_7
  rw [pay21_at]
  exact (step (step (step (congrArg (0 + ·) (bload arg7 harg7 x6 _ n))
    (wload arg6 harg6 x5 0 _ n) (sh_read c i arg3 harg3 arg4 harg4 arg5 harg5 arg16 arg17 x2 x3 x4 1 256 _ r n))
    (wload arg6 harg6 x5 1 _ n) (sh_read c i arg3 harg3 arg4 harg4 arg5 harg5 arg16 arg17 x2 x3 x4 2 256 _ r n))
    (wload arg6 harg6 x5 2 _ n) (sh_read c i arg3 harg3 arg4 harg4 arg5 harg5 arg16 arg17 x2 x3 x4 3 256 _ r n))

/-- The product of tap 3, for the rows from 256. -/
theorem r_8_at (r : Fin 256) (n : Fin 512) : bodyRun.sl.r_8 c i arg3 harg3 arg4 harg4 arg5 harg5 arg6 harg6 arg16 arg17 x2 x3 x4 x5 (ix2 r n)
    = term i x2 x3 x4 x5 257 r.val n 3 := by
  unfold bodyRun.sl.r_8
  rw [pay22_at]
  exact prod_congr (wload arg6 harg6 x5 3 _ n) (sh_read c i arg3 harg3 arg4 harg4 arg5 harg5 arg16 arg17 x2 x3 x4 4 256 _ r n)

/-- The accumulator after the first 8 taps, for the rows from 256. -/
theorem r_9_at (r : Fin 256) (n : Fin 512) : bodyRun.sl.r_9 c i arg3 harg3 arg4 harg4 arg5 harg5 arg6 harg6 arg7 harg7 arg16 arg17 x2 x3 x4 x5 x6 (ix2 r n)
    = accum (0 + x6 (ix2 0 n)) (term i x2 x3 x4 x5 257 r.val n) 8 := by
  unfold bodyRun.sl.r_9
  rw [pay23_at]
  exact (step (step (step (step (congrArg₂ (· + ·) (r_7_at c i arg3 harg3 arg4 harg4 arg5 harg5 arg6 harg6 arg7 harg7 arg16 arg17 x2 x3 x4 x5 x6 r n) (r_8_at c i arg3 harg3 arg4 harg4 arg5 harg5 arg6 harg6 arg16 arg17 x2 x3 x4 x5 r n))
    (wload arg6 harg6 x5 4 _ n) (sh_read c i arg3 harg3 arg4 harg4 arg5 harg5 arg16 arg17 x2 x3 x4 5 256 _ r n))
    (wload arg6 harg6 x5 5 _ n) (sh_read c i arg3 harg3 arg4 harg4 arg5 harg5 arg16 arg17 x2 x3 x4 6 256 _ r n))
    (wload arg6 harg6 x5 6 _ n) (sh_read c i arg3 harg3 arg4 harg4 arg5 harg5 arg16 arg17 x2 x3 x4 7 256 _ r n))
    (wload arg6 harg6 x5 7 _ n) (sh_read c i arg3 harg3 arg4 harg4 arg5 harg5 arg16 arg17 x2 x3 x4 0 264 _ r n))

/-- The product of tap 8, for the rows from 256. -/
theorem r_10_at (r : Fin 256) (n : Fin 512) : bodyRun.sl.r_10 c i arg3 harg3 arg4 harg4 arg5 harg5 arg6 harg6 arg16 arg17 x2 x3 x4 x5 (ix2 r n)
    = term i x2 x3 x4 x5 257 r.val n 8 := by
  unfold bodyRun.sl.r_10
  rw [pay24_at]
  exact prod_congr (wload arg6 harg6 x5 8 _ n) (sh_read c i arg3 harg3 arg4 harg4 arg5 harg5 arg16 arg17 x2 x3 x4 1 264 _ r n)

/-- The accumulator after the first 13 taps, for the rows from 256. -/
theorem r_11_at (r : Fin 256) (n : Fin 512) : bodyRun.sl.r_11 c i arg3 harg3 arg4 harg4 arg5 harg5 arg6 harg6 arg7 harg7 arg16 arg17 x2 x3 x4 x5 x6 (ix2 r n)
    = accum (0 + x6 (ix2 0 n)) (term i x2 x3 x4 x5 257 r.val n) 13 := by
  unfold bodyRun.sl.r_11
  rw [pay25_at]
  exact (step (step (step (step (congrArg₂ (· + ·) (r_9_at c i arg3 harg3 arg4 harg4 arg5 harg5 arg6 harg6 arg7 harg7 arg16 arg17 x2 x3 x4 x5 x6 r n) (r_10_at c i arg3 harg3 arg4 harg4 arg5 harg5 arg6 harg6 arg16 arg17 x2 x3 x4 x5 r n))
    (wload arg6 harg6 x5 9 _ n) (sh_read c i arg3 harg3 arg4 harg4 arg5 harg5 arg16 arg17 x2 x3 x4 2 264 _ r n))
    (wload arg6 harg6 x5 10 _ n) (sh_read c i arg3 harg3 arg4 harg4 arg5 harg5 arg16 arg17 x2 x3 x4 3 264 _ r n))
    (wload arg6 harg6 x5 11 _ n) (sh_read c i arg3 harg3 arg4 harg4 arg5 harg5 arg16 arg17 x2 x3 x4 4 264 _ r n))
    (wload arg6 harg6 x5 12 _ n) (sh_read c i arg3 harg3 arg4 harg4 arg5 harg5 arg16 arg17 x2 x3 x4 5 264 _ r n))

/-- The product of tap 13, for the rows from 256. -/
theorem r_12_at (r : Fin 256) (n : Fin 512) : bodyRun.sl.r_12 c i arg3 harg3 arg4 harg4 arg5 harg5 arg6 harg6 arg16 arg17 x2 x3 x4 x5 (ix2 r n)
    = term i x2 x3 x4 x5 257 r.val n 13 := by
  unfold bodyRun.sl.r_12
  rw [pay26_at]
  exact prod_congr (wload arg6 harg6 x5 13 _ n) (sh_read c i arg3 harg3 arg4 harg4 arg5 harg5 arg16 arg17 x2 x3 x4 6 264 _ r n)

/-- The accumulator after the first 18 taps, for the rows from 256. -/
theorem r_13_at (r : Fin 256) (n : Fin 512) : bodyRun.sl.r_13 c i arg3 harg3 arg4 harg4 arg5 harg5 arg6 harg6 arg7 harg7 arg16 arg17 x2 x3 x4 x5 x6 (ix2 r n)
    = accum (0 + x6 (ix2 0 n)) (term i x2 x3 x4 x5 257 r.val n) 18 := by
  unfold bodyRun.sl.r_13
  rw [pay27_at]
  exact (step (step (step (step (congrArg₂ (· + ·) (r_11_at c i arg3 harg3 arg4 harg4 arg5 harg5 arg6 harg6 arg7 harg7 arg16 arg17 x2 x3 x4 x5 x6 r n) (r_12_at c i arg3 harg3 arg4 harg4 arg5 harg5 arg6 harg6 arg16 arg17 x2 x3 x4 x5 r n))
    (wload arg6 harg6 x5 14 _ n) (sh_read c i arg3 harg3 arg4 harg4 arg5 harg5 arg16 arg17 x2 x3 x4 7 264 _ r n))
    (wload arg6 harg6 x5 15 _ n) (sh_read c i arg3 harg3 arg4 harg4 arg5 harg5 arg16 arg17 x2 x3 x4 0 272 _ r n))
    (wload arg6 harg6 x5 16 _ n) (sh_read c i arg3 harg3 arg4 harg4 arg5 harg5 arg16 arg17 x2 x3 x4 1 272 _ r n))
    (wload arg6 harg6 x5 17 _ n) (sh_read c i arg3 harg3 arg4 harg4 arg5 harg5 arg16 arg17 x2 x3 x4 2 272 _ r n))

/-- The product of tap 18, for the rows from 256. -/
theorem r_14_at (r : Fin 256) (n : Fin 512) : bodyRun.sl.r_14 c i arg3 harg3 arg4 harg4 arg5 harg5 arg6 harg6 arg16 arg17 x2 x3 x4 x5 (ix2 r n)
    = term i x2 x3 x4 x5 257 r.val n 18 := by
  unfold bodyRun.sl.r_14
  rw [pay28_at]
  exact prod_congr (wload arg6 harg6 x5 18 _ n) (sh_read c i arg3 harg3 arg4 harg4 arg5 harg5 arg16 arg17 x2 x3 x4 3 272 _ r n)

/-- The accumulator after the first 23 taps, for the rows from 256. -/
theorem r_15_at (r : Fin 256) (n : Fin 512) : bodyRun.sl.r_15 c i arg3 harg3 arg4 harg4 arg5 harg5 arg6 harg6 arg7 harg7 arg16 arg17 x2 x3 x4 x5 x6 (ix2 r n)
    = accum (0 + x6 (ix2 0 n)) (term i x2 x3 x4 x5 257 r.val n) 23 := by
  unfold bodyRun.sl.r_15
  rw [pay29_at]
  exact (step (step (step (step (congrArg₂ (· + ·) (r_13_at c i arg3 harg3 arg4 harg4 arg5 harg5 arg6 harg6 arg7 harg7 arg16 arg17 x2 x3 x4 x5 x6 r n) (r_14_at c i arg3 harg3 arg4 harg4 arg5 harg5 arg6 harg6 arg16 arg17 x2 x3 x4 x5 r n))
    (wload arg6 harg6 x5 19 _ n) (sh_read c i arg3 harg3 arg4 harg4 arg5 harg5 arg16 arg17 x2 x3 x4 4 272 _ r n))
    (wload arg6 harg6 x5 20 _ n) (sh_read c i arg3 harg3 arg4 harg4 arg5 harg5 arg16 arg17 x2 x3 x4 5 272 _ r n))
    (wload arg6 harg6 x5 21 _ n) (sh_read c i arg3 harg3 arg4 harg4 arg5 harg5 arg16 arg17 x2 x3 x4 6 272 _ r n))
    (wload arg6 harg6 x5 22 _ n) (sh_read c i arg3 harg3 arg4 harg4 arg5 harg5 arg16 arg17 x2 x3 x4 7 272 _ r n))

/-- The product of tap 23, for the rows from 256. -/
theorem r_16_at (r : Fin 256) (n : Fin 512) : bodyRun.sl.r_16 c i arg3 harg3 arg4 harg4 arg5 harg5 arg6 harg6 arg16 arg17 x2 x3 x4 x5 (ix2 r n)
    = term i x2 x3 x4 x5 257 r.val n 23 := by
  unfold bodyRun.sl.r_16
  rw [pay30_at]
  exact prod_congr (wload arg6 harg6 x5 23 _ n) (sh_read c i arg3 harg3 arg4 harg4 arg5 harg5 arg16 arg17 x2 x3 x4 0 280 _ r n)

/-- The accumulator after the first 28 taps, for the rows from 256. -/
theorem r_17_at (r : Fin 256) (n : Fin 512) : bodyRun.sl.r_17 c i arg3 harg3 arg4 harg4 arg5 harg5 arg6 harg6 arg7 harg7 arg16 arg17 x2 x3 x4 x5 x6 (ix2 r n)
    = accum (0 + x6 (ix2 0 n)) (term i x2 x3 x4 x5 257 r.val n) 28 := by
  unfold bodyRun.sl.r_17
  rw [pay31_at]
  exact (step (step (step (step (congrArg₂ (· + ·) (r_15_at c i arg3 harg3 arg4 harg4 arg5 harg5 arg6 harg6 arg7 harg7 arg16 arg17 x2 x3 x4 x5 x6 r n) (r_16_at c i arg3 harg3 arg4 harg4 arg5 harg5 arg6 harg6 arg16 arg17 x2 x3 x4 x5 r n))
    (wload arg6 harg6 x5 24 _ n) (sh_read c i arg3 harg3 arg4 harg4 arg5 harg5 arg16 arg17 x2 x3 x4 1 280 _ r n))
    (wload arg6 harg6 x5 25 _ n) (sh_read c i arg3 harg3 arg4 harg4 arg5 harg5 arg16 arg17 x2 x3 x4 2 280 _ r n))
    (wload arg6 harg6 x5 26 _ n) (sh_read c i arg3 harg3 arg4 harg4 arg5 harg5 arg16 arg17 x2 x3 x4 3 280 _ r n))
    (wload arg6 harg6 x5 27 _ n) (sh_read c i arg3 harg3 arg4 harg4 arg5 harg5 arg16 arg17 x2 x3 x4 4 280 _ r n))

/-- The product of tap 28, for the rows from 256. -/
theorem r_18_at (r : Fin 256) (n : Fin 512) : bodyRun.sl.r_18 c i arg3 harg3 arg4 harg4 arg5 harg5 arg6 harg6 arg16 arg17 x2 x3 x4 x5 (ix2 r n)
    = term i x2 x3 x4 x5 257 r.val n 28 := by
  unfold bodyRun.sl.r_18
  rw [pay32_at]
  exact prod_congr (wload arg6 harg6 x5 28 _ n) (sh_read c i arg3 harg3 arg4 harg4 arg5 harg5 arg16 arg17 x2 x3 x4 5 280 _ r n)

/-- Mixer B's output before its cast, for the rows from 256. -/
theorem r_19_at (r : Fin 256) (n : Fin 512) : bodyRun.sl.r_19 c i arg3 harg3 arg4 harg4 arg5 harg5 arg6 harg6 arg7 harg7 arg8 harg8 arg9 harg9 arg16 arg17 x2 x3 x4 x5 x6 x7 x8 (ix2 r n)
    = silu (Front.ln (fun j => accum (0 + x6 (ix2 0 j)) (term i x2 x3 x4 x5 257 r.val j) 31)
        (fun j => x7 (ix2 0 j)) (fun j => x8 (ix2 0 j)) n) := by
  unfold bodyRun.sl.r_19
  rw [pay33_at]
  exact congrArg silu (ln_congr (fun j => (step (step (congrArg₂ (· + ·) (r_17_at c i arg3 harg3 arg4 harg4 arg5 harg5 arg6 harg6 arg7 harg7 arg16 arg17 x2 x3 x4 x5 x6 r j) (r_18_at c i arg3 harg3 arg4 harg4 arg5 harg5 arg6 harg6 arg16 arg17 x2 x3 x4 x5 r j))
    (wload arg6 harg6 x5 29 _ j) (sh_read c i arg3 harg3 arg4 harg4 arg5 harg5 arg16 arg17 x2 x3 x4 6 280 _ r j))
    (wload arg6 harg6 x5 30 _ j) (sh_read c i arg3 harg3 arg4 harg4 arg5 harg5 arg16 arg17 x2 x3 x4 7 280 _ r j)))
    (fun j => bload arg8 harg8 x7 _ j) (fun j => bload arg9 harg9 x8 _ j) n)

/-- The third scratch holds mixer B's output. -/
theorem mix_at (r n : Fin 512) : View.canon (bodyRun.sl.H17_2 c i arg3 harg3 arg4 harg4 arg5 harg5 arg6 harg6 arg7 harg7 arg8 harg8 arg9 harg9 arg16 arg17 x2 x3 x4 x5 x6 x7 x8) (ix2 r n)
    = silu (Front.ln (fun j => accum (0 + x6 (ix2 0 j)) (term i x2 x3 x4 x5 1 r.val j) 31)
        (fun j => x7 (ix2 0 j)) (fun j => x8 (ix2 0 j)) n) := by
  unfold bodyRun.sl.H17_2
  canon_tiles x h
  · idx_vars x
    obtain rfl := Fin.ext h1
    have ht : ∀ j, term i x2 x3 x4 x5 257 x0.val j = term i x2 x3 x4 x5 1 (256 + x0.val) j := fun j => funext fun k => by
      rw [term, term, show 257 + k + x0.val = 1 + k + (256 + x0.val) by omega]
    rw [pay34_at, r_19_at, h0]
    simp only [ht]
  · idx_vars x
    obtain rfl := Fin.ext h1
    rw [pay20_at, r_6_at, h0]

/-- So does the load of it. -/
theorem v563_at (r n : Fin 512) : bodyRun.sl.v563 c i arg3 harg3 arg4 harg4 arg5 harg5 arg6 harg6 arg7 harg7 arg8 harg8 arg9 harg9 arg16 arg17 arg18 x2 x3 x4 x5 x6 x7 x8 (ix2 r n)
    = silu (Front.ln (fun j => accum (0 + x6 (ix2 0 j)) (term i x2 x3 x4 x5 1 r.val j) 31)
        (fun j => x7 (ix2 0 j)) (fun j => x8 (ix2 0 j)) n) := by
  unfold bodyRun.sl.v563
  rw [View.readCov_eq_canon']
  refine Eq.trans (congrArg _ ?_) (mix_at c i arg3 harg3 arg4 harg4 arg5 harg5 arg6 harg6 arg7 harg7 arg8 harg8 arg9 harg9 arg16 arg17 x2 x3 x4 x5 x6 x7 x8 r n)
  funext a
  apply Fin.ext
  match a with
  | 0 => show 0 + 1 * r.val = r.val; omega
  | 1 => show 0 + 1 * n.val = n.val; omega

/-- The tile's token `r` at channel `n` after the call, from the blocks the grid point reads. -/
def tok (i : grid0.Coords) (x0 : Vec Ideal S512x1024 .f32) (x1 : Vec Ideal S512x512 .bf16) (x2 : Vec Ideal S512x512 .f32)
    (x3 x4 : Vec Ideal S16x512 .f32) (x5 : Vec Ideal S31x512 .f32) (x6 x7 x8 : Vec Ideal S1x512 .f32)
    (x9 : Vec Ideal S1024x1024 .bf16) (r : Fin 512) (n : Fin 1024) : EReal :=
  out (x0 (ix2 r n)) (fun k => x1 (ix2 r k))
    (fun k => silu (Front.ln (fun j => accum (0 + x6 (ix2 0 j)) (term i x2 x3 x4 x5 1 r.val j) 31)
      (fun j => x7 (ix2 0 j)) (fun j => x8 (ix2 0 j)) k))
    (fun k => x9 (ix2 k n))

/-- The body's sum of the residual and both products, from its loads. -/
theorem sum_at (arg1 : Memref sig .tc .vmem S512x1024 .f32) (harg1 : arg1.IsWhole) (arg2 : Memref sig .tc .vmem S512x512 .bf16)
    (harg2 : arg2.IsWhole) (arg10 : Memref sig .tc .vmem S1024x1024 .bf16) (harg10 : arg10.IsWhole) (x0 : Vec Ideal S512x1024 .f32)
    (x1 : Vec Ideal S512x512 .bf16) (x9 : Vec Ideal S1024x1024 .bf16) (ia ib ic id) (r : Fin 512) (n : Fin 1024) :
    k0_pay35
      (View.readAt (Elt Ideal) arg2.view (Rect.unit (s := S512x512) ![0, 0] S512x512.size ia).toLoadRect (harg2.unread x1))
      (View.readAt (Elt Ideal) arg10.view (Rect.unit (s := S1024x1024) ![0, 0] S512x1024.size ib).toLoadRect (harg10.unread x9))
      (bodyRun.sl.v563 c i arg3 harg3 arg4 harg4 arg5 harg5 arg6 harg6 arg7 harg7 arg8 harg8 arg9 harg9 arg16 arg17 arg18 x2 x3 x4 x5 x6 x7 x8)
      (View.readAt (Elt Ideal) arg10.view (Rect.unit (s := S1024x1024) ![512, 0] S512x1024.size ic).toLoadRect (harg10.unread x9))
      (View.readAt (Elt Ideal) arg1.view (Rect.unit (s := S512x1024) ![0, 0] S512x1024.size id).toLoadRect (harg1.unread x0)) (ix2 r n)
      = tok i x0 x1 x2 x3 x4 x5 x6 x7 x8 x9 r n := by
  have hz : ∀ {d : Fin 2 → ℕ} {e : EltTy} (X : (⟨2, d⟩ : Shape).Idx → Elt Ideal e) (y y' : (⟨2, d⟩ : Shape).Idx),
      (y 0).val = (y' 0).val → (y 1).val = (y' 1).val → X y = X y' := fun X y y' h0 h1 => congrArg X (funext fun a => Fin.ext (by
    match a with
    | 0 => exact h0
    | 1 => exact h1))
  rw [pay35_at]
  unfold tok out
  refine congrArg₂ (· + ·) ?_ (congrArg₂ (· + ·) (Finset.sum_congr rfl fun k _ => congrArg₂ (· * ·) ?_ ?_)
    (Finset.sum_congr rfl fun k _ => congrArg₂ (· * ·) (v563_at _ _ _ _ _ _ _ _ _ _ _ _ _ _ _ _ _ _ _ _ _ _ _ _ _ _ r k) ?_))
  · rw [Memref.IsWhole.readAt_unread]
    exact hz _ _ _ (by show 0 + 1 * r.val = r.val; omega) (by show 0 + 1 * n.val = n.val; omega)
  · rw [Memref.IsWhole.readAt_unread]
    exact hz _ _ _ (by show 0 + 1 * r.val = r.val; omega) (by show 0 + 1 * k.val = k.val; omega)
  · rw [Memref.IsWhole.readAt_unread]
    exact hz _ _ _ (by show 0 + 1 * k.val = k.val; omega) (by show 0 + 1 * n.val = n.val; omega)
  · rw [Memref.IsWhole.readAt_unread]
    exact hz _ _ _ (by show 512 + 1 * k.val = 512 + k.val; omega) (by show 0 + 1 * n.val = n.val; omega)

end Cert.Back
end
-- ==== Proof.Back.Frame.lean ====
/-
  The back kernel's frame: what each grid point leaves in the two outputs, the launch, the run of @main.
-/
module

public import proofs.«01_k».proof.Defs
public import proofs.«01_k».proof.Proof.Back.Run
public import proofs.«01_k».proof.Proof.Gen.Kernel3
public import Idealize.ShloMosaic.Lib.Claim
public import Idealize.ShloMosaic.Lib.Pipeline.ValueKit

@[expose] public section

set_option maxRecDepth 16384

noncomputable section

namespace Cert.Kernel3Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-! ## The outputs' pieces cover them -/

/-- The rows of the token output that hold slab `s` of each token: `s`, `s + 8`, `s + 16` and so on. -/
def row (s : Fin 8) : Rect S4096x128 :=
  ⟨⟨![s.val, 0], S512x128.size, ![8, 1], fun a => .inr (by
    have := s.isLt
    match a with
    | 0 => show s.val + 8 * 511 < 4096; omega
    | 1 => show 0 + 1 * 127 < 128; omega)⟩, spos_8_1⟩

theorem mem_row (s : Fin 8) (y : S4096x128.Idx) (h : (y 0).val % 8 = s.val) : y ∈ (row s).set := by
  have h0 : (y 0).val < 4096 := (y 0).isLt
  have h1 : (y 1).val < 128 := (y 1).isLt
  refine (LoadRect.mem_set _).2 fun a => ?_
  match a with
  | 0 => exact ⟨(y 0).val / 8, (by omega : (y 0).val / 8 < 512), (by show (y 0).val = s.val + 8 * ((y 0).val / 8); omega)⟩
  | 1 => exact ⟨(y 1).val, h1, (by show (y 1).val = 0 + 1 * (y 1).val; omega)⟩

/-- The eight stores into the token output are at the eight row sets. -/
theorem rects13 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S4096x128 .f32) (harg14 : arg14.IsWhole) (arg15 : Memref sig .tc .vmem S16x512 .f32) (harg15 : arg15.IsWhole) (arg16 : Memref sig .tc .vmem S544x512 .f32) (harg16 : arg16.IsWhole) (arg17 : Memref sig .tc .vmem S8x536x512 .f32) (harg17 : arg17.IsWhole) (arg18 : Memref sig .tc .vmem S512x512 .bf16) (harg18 : arg18.IsWhole)
    (x0 : Vec F S512x1024 .f32) (x1 : Vec F S512x512 .bf16) (x2 : Vec F S512x512 .f32) (x3 : Vec F S16x512 .f32) (x4 : Vec F S16x512 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S16x1024 .bf16) (x12 : Vec F S16x1024 .bf16) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1.map (fun pc => pc.1) = [row 7, row 6, row 5, row 4, row 3, row 2, row 1, row 0] := by sl_kernel_rfl

/-- So they cover it. -/
theorem cover13 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S4096x128 .f32) (harg14 : arg14.IsWhole) (arg15 : Memref sig .tc .vmem S16x512 .f32) (harg15 : arg15.IsWhole) (arg16 : Memref sig .tc .vmem S544x512 .f32) (harg16 : arg16.IsWhole) (arg17 : Memref sig .tc .vmem S8x536x512 .f32) (harg17 : arg17.IsWhole) (arg18 : Memref sig .tc .vmem S512x512 .bf16) (harg18 : arg18.IsWhole)
    (x0 : Vec F S512x1024 .f32) (x1 : Vec F S512x512 .bf16) (x2 : Vec F S512x512 .f32) (x3 : Vec F S16x512 .f32) (x4 : Vec F S16x512 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S16x1024 .bf16) (x12 : Vec F S16x1024 .bf16) (y : S4096x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1, y ∈ pc.1.set := by
  have h : row ⟨(y 0).val % 8, Nat.mod_lt _ (by decide)⟩ ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1.map (fun pc => pc.1) := by
    rw [rects13]
    have : ∀ s : Fin 8, row s ∈ [row 7, row 6, row 5, row 4, row 3, row 2, row 1, row 0] := fun s => by
      fin_cases s <;> simp
    exact this _
  obtain ⟨pc, hpc, e⟩ := List.mem_map.1 h
  exact ⟨pc, hpc, e ▸ mem_row _ y rfl⟩

/-- The one store into the logit output is of the whole block. -/
theorem cover14 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S4096x128 .f32) (harg14 : arg14.IsWhole) (arg15 : Memref sig .tc .vmem S16x512 .f32) (harg15 : arg15.IsWhole) (arg16 : Memref sig .tc .vmem S544x512 .f32) (harg16 : arg16.IsWhole) (arg17 : Memref sig .tc .vmem S8x536x512 .f32) (harg17 : arg17.IsWhole) (arg18 : Memref sig .tc .vmem S512x512 .bf16) (harg18 : arg18.IsWhole)
    (x0 : Vec F S512x1024 .f32) (x1 : Vec F S512x512 .bf16) (x2 : Vec F S512x512 .f32) (x3 : Vec F S16x512 .f32) (x4 : Vec F S16x512 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S16x1024 .bf16) (x12 : Vec F S16x1024 .bf16) (y : S16x512.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1 S16x512.size (by sl_kernel_rfl) y

variable (m : (ℓ : Loc nD τ sig) → Buf (Elt F) ℓ) (ρ : Dev nD → PrngReg)

/-- The pieces the body stores into the token output at grid point `t`. -/
def pieces13 (c : Dev nD) (t : Fin cfg0.N) : List (View.Piece (Elt F) S4096x128 .f32) :=
  (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1

/-- The pieces the body stores into the logit output at grid point `t`. -/
def pieces14 (c : Dev nD) (t : Fin cfg0.N) : List (View.Piece (Elt F) S16x512 .f32) :=
  (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1

/-- The block of tokens grid point `t` leaves. -/
def out13 (c : Dev nD) (t : Fin cfg0.N) : Vec F S4096x128 .f32 := View.canon (pieces13 m c t)

/-- The block of logits grid point `t` leaves. -/
def out14 (c : Dev nD) (t : Fin cfg0.N) : Vec F S16x512 .f32 := View.canon (pieces14 m c t)

/-- The proof data of the one pipeline: each input's buffer holds its block, the outputs' what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 m c t
    | ⟨14, _⟩ => out14 m c t
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out13 m c t := by dsimp only [dats]
theorem after0_14 (c : Dev nD) (t : Fin cfg0.N) : (dats m 0 c).after 14 t = out14 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## One grid point -/

/-- What the body starts from at grid point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- What holds between grid points: the three scratch buffers, at some contents, and the generator's register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

set_option maxHeartbeats 1600000 in
/-- The body at a grid point, from what the pipeline gives it to what the pipeline expects of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.castSucc = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [HS0]; · iexact HS0
  isplitl [HS1]; · iexact HS1
  isplitl [HS2]; · iexact HS2
  iintro ⟨H0, H1, H2, H3, H4, H5, H6, H7, H8, H9, H10, H11, H12, ⟨%e13, H13⟩, ⟨%e14, H14⟩, ⟨%g0, HS0⟩, ⟨%g1, HS1⟩, ⟨%g2, HS2⟩⟩
  isplitl [HS0 HS1 HS2 Hg]
  · isplitr [Hg]
    swap; · iexact Hg
    isplitl [HS0]
    · iexists _; unfold owns; iexists _; isplitr
      swap; · iexact HS0
      ipureintro; rfl
    isplitl [HS1]
    · iexists _; unfold owns; iexists _; isplitr
      swap; · iexact HS1
      ipureintro; rfl
    iexists _; unfold owns; iexists _; isplitr
    swap; · iexact HS2
    ipureintro; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_eq_canon _ _ _ (cover13 c _ _ _ _ _ _ _ _ _ _ _ _ _ _ _ _ _ _ _ _ _ _ _ _ _ _ _ _ _ _ _ _ _ _ _ _ _ _ _ _ _ _ _ _ _ _ _ _ _ _ )
  unfold owns; iexists _; isplitr
  swap; · iexact H14
  ipureintro; exact View.read_writes_eq_canon _ _ _ (cover14 c _ _ _ _ _ _ _ _ _ _ _ _ _ _ _ _ _ _ _ _ _ _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- The run of @main: each window's array as the grid points leave it, the semaphores at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the run terminates with the arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The kernel's frame, its floats read as extended reals. -/
theorem frame_ideal : Cert.quiescent_Kernel3Ideal := fun m ρ _ => frame_run m ρ

/-- The two programs' body tables are the same. -/
theorem defs₀_bits : @Cert.Kernel3.defs₀ F _ Cert.Kernel3.Gen.facts = @Cert.Kernel3Ideal.defs₀ F _ Cert.Kernel3Ideal.Gen.facts :=
  congrArg Defs.onTc (funext fun l => funext fun a => match l, a with
    | 0, (_, _) => rfl
    | ⟨_ + 1, h⟩, _ => absurd h (Nat.not_lt.2 (Nat.le_add_left _ _)))

/-- So are their tables of pipelines and bodies. -/
theorem defs_bits : @Cert.Kernel3.defs F _ Cert.Kernel3.Gen.facts = @Cert.Kernel3Ideal.defs F _ Cert.Kernel3Ideal.Gen.facts :=
  congrArg (Pipeline.defs Cert.Kernel3Ideal.pcfgs) defs₀_bits

/-- And their entry functions. -/
theorem main_bits : @Cert.Kernel3.main F _ Cert.Kernel3.Gen.facts = @Cert.Kernel3Ideal.main F _ Cert.Kernel3Ideal.Gen.facts := rfl

set_option maxHeartbeats 4000000 in
/-- The kernel's frame, its floats read as bits. -/
theorem frame_bits : Cert.quiescent_Kernel3 := fun m ρ _ => by
  rw [show Cert.Kernel3.defs (F := Bits) = Cert.Kernel3Ideal.defs (F := Bits) from defs_bits, main_bits]
  exact frame_run (F := Bits) m ρ

end Cert.Kernel3Ideal.Back

end
-- ==== Proof.Back.Block.lean ====
/- The block of tokens one grid point leaves, read index by index. -/
module

public import proofs.«01_k».proof.Proof.Back.Reads
public import proofs.«01_k».proof.Proof.Back.Frame

@[expose] public section

set_option maxRecDepth 16384

noncomputable section

namespace Cert.Back

open Cert.Kernel3Ideal Cert.Kernel3Ideal.Gen Cert.Kernel3Ideal.Back Idealize.ShloMosaic Idealize.ShloMosaic.TcCoe

variable (m : (ℓ : Loc nD τ sig) → Buf (Elt Ideal) ℓ)

/-- A stored slab read back: the slab's row and lane are the token and the channel within it. -/
theorem piece_at (s : Fin 8) (f : S512x128.Idx → EReal) (g : Fin 512 → Fin 1024 → EReal)
    (hf : ∀ (a : Fin 512) (b : Fin 128), f (ix2 a b) = g a ⟨128 * s.val + b.val, by omega⟩) (x : S512x128.Idx)
    (r : Fin 4096) (l : Fin 128) (hx : (row s).emb x = ix2 r l) :
    f x = g ⟨r.val / 8, by omega⟩ ⟨r.val % 8 * 128 + l.val, by omega⟩ := by
  have e0 : s.val + 8 * (x 0).val = r.val := congrArg (fun y => (y 0).val) hx
  have e1 : 0 + 1 * (x 1).val = l.val := congrArg (fun y => (y 1).val) hx
  have hs := s.isLt
  idx_vars x
  rw [hf]
  refine congrArg₂ g (Fin.ext ?_) (Fin.ext ?_)
  · show x0.val = r.val / 8
    change s.val + 8 * x0.val = r.val at e0
    omega
  · show 128 * s.val + x1.val = r.val % 8 * 128 + l.val
    change s.val + 8 * x0.val = r.val at e0
    change 0 + 1 * x1.val = l.val at e1
    omega

set_option maxHeartbeats 4000000 in
/-- One grid point's block of tokens, from the blocks it reads: row `r`, lane `l` is the tile's token `r / 8` at channel
    `r % 8 * 128 + l`. -/
theorem block13 (c : Dev nD) (t : Fin cfg0.N) (r : Fin 4096) (l : Fin 128) : out13 m c t (ix2 r l)
    = (tok (grid0.coords t) (iblk m c 0 t) (iblk m c 1 t) (iblk m c 2 t) (iblk m c 3 t) (iblk m c 4 t) (iblk m c 5 t) (iblk m c 6 t)
        (iblk m c 7 t) (iblk m c 8 t) (iblk m c 9 t)) ⟨r.val / 8, by omega⟩ ⟨r.val % 8 * 128 + l.val, by omega⟩ := by
  generalize hT : (tok (grid0.coords t) (iblk m c 0 t) (iblk m c 1 t) (iblk m c 2 t) (iblk m c 3 t) (iblk m c 4 t) (iblk m c 5 t) (iblk m c 6 t)
        (iblk m c 7 t) (iblk m c 8 t) (iblk m c 9 t)) = T
  unfold out13
  refine View.canon_eq_of_allAt _ _ _ (cover13 _ _ _ _ _ _ _ _ _ _ _ _ _ _ _ _ _ _ _ _ _ _ _ _ _ _ _ _ _ _ _ _ _ _ _ _ _ _ _ _ _ _ _ _ _ _ _ _ _ _ _ _) ?_
  unfold pieces13 bodyRun
  dsimp only
  intro p hp x hx
  simp only [List.mem_cons, List.not_mem_nil, or_false] at hp
  subst hT
  rcases hp with rfl | rfl | rfl | rfl | rfl | rfl | rfl | rfl
  · exact piece_at 7 _ _ (fun a b => (pay43_at _ a b).trans (sum_at _ _ _ _ _ _ _ _ _ _ _ _ _ _ _ _ _ _ _ _ _ _ _ _ _ _ _ _ _ _ _ _ _ _ _ _ _ _ _ a _)) x r l hx
  · exact piece_at 6 _ _ (fun a b => (pay42_at _ a b).trans (sum_at _ _ _ _ _ _ _ _ _ _ _ _ _ _ _ _ _ _ _ _ _ _ _ _ _ _ _ _ _ _ _ _ _ _ _ _ _ _ _ a _)) x r l hx
  · exact piece_at 5 _ _ (fun a b => (pay41_at _ _ _ _ _ a b).trans (sum_at _ _ _ _ _ _ _ _ _ _ _ _ _ _ _ _ _ _ _ _ _ _ _ _ _ _ _ _ _ _ _ _ _ _ _ _ _ _ _ a _)) x r l hx
  · exact piece_at 4 _ _ (fun a b => (pay40_at _ _ _ _ _ a b).trans (sum_at _ _ _ _ _ _ _ _ _ _ _ _ _ _ _ _ _ _ _ _ _ _ _ _ _ _ _ _ _ _ _ _ _ _ _ _ _ _ _ a _)) x r l hx
  · exact piece_at 3 _ _ (fun a b => (pay39_at _ _ _ _ _ a b).trans (sum_at _ _ _ _ _ _ _ _ _ _ _ _ _ _ _ _ _ _ _ _ _ _ _ _ _ _ _ _ _ _ _ _ _ _ _ _ _ _ _ a _)) x r l hx
  · exact piece_at 2 _ _ (fun a b => (pay38_at _ _ _ _ _ a b).trans (sum_at _ _ _ _ _ _ _ _ _ _ _ _ _ _ _ _ _ _ _ _ _ _ _ _ _ _ _ _ _ _ _ _ _ _ _ _ _ _ _ a _)) x r l hx
  · exact piece_at 1 _ _ (fun a b => (pay37_at _ _ _ _ _ a b).trans (sum_at _ _ _ _ _ _ _ _ _ _ _ _ _ _ _ _ _ _ _ _ _ _ _ _ _ _ _ _ _ _ _ _ _ _ _ _ _ _ _ a _)) x r l hx
  · exact piece_at 0 _ _ (fun a b => (pay36_at _ _ _ _ _ a b).trans (sum_at _ _ _ _ _ _ _ _ _ _ _ _ _ _ _ _ _ _ _ _ _ _ _ _ _ _ _ _ _ _ _ _ _ _ _ _ _ _ _ a _)) x r l hx

end Cert.Back
end
-- ==== Proof.Back.KernelValue.lean ====
/- The kernel's result array after its run, as the mathematics of Spec.lean. -/
module

public import proofs.«01_k».proof.Proof.Back.Block

@[expose] public section

set_option maxRecDepth 16384

noncomputable section

namespace Cert.Back

open Cert.Kernel3Ideal Cert.Kernel3Ideal.Gen Cert.Kernel3Ideal.Back Idealize.ShloMosaic Idealize.ShloMosaic.TcCoe

variable (m : (ℓ : Loc nD τ sig) → Buf (Elt Ideal) ℓ)

/-- Where each window stands at grid point `t`: the token windows at block `t`, the halos at the 16 rows before and after
    it, the weights at their only block. -/
theorem index_facts : ∀ t : Fin cfg0.N, win0_0.index t = ![t.val, 0] ∧ win0_1.index t = ![t.val, 0]
    ∧ win0_2.index t = ![t.val, 0] ∧ win0_3.index t = ![32 * t.val - 1, 0] ∧ win0_4.index t = ![min (32 * (t.val + 1)) 1023, 0]
    ∧ win0_5.index t = ![0, 0] ∧ win0_6.index t = ![0, 0] ∧ win0_7.index t = ![0, 0] ∧ win0_8.index t = ![0, 0]
    ∧ win0_9.index t = ![0, 0] ∧ win0_13.index t = ![t.val, 0] ∧ (grid0.coords t 0).val = t.val :=
  (by decide +kernel : ∀ t : Fin grid0.N, _)

/-- The tile's rows. -/
theorem blk2 (c : Dev nD) (t : Fin cfg0.N) (ht : t.val < 32) (r n : Fin 512) :
    iblk m c 2 t (ix2 r n) = m (c.tc.loc main_arg2) (ix3 0 ⟨512 * t.val + r.val, by omega⟩ n) := by
  obtain ⟨h0, h1, h2, h3, h4, h5, h6, h7, h8, h9, h13, hc⟩ := index_facts t
  blk_point [iblk, h2]

/-- The rows before the tile. -/
theorem blk3 (c : Dev nD) (t : Fin cfg0.N) (ht : t.val < 32) (h : 0 < t.val) (r : Fin 16) (n : Fin 512) :
    iblk m c 3 t (ix2 r n) = m (c.tc.loc main_arg2) (ix3 0 ⟨512 * t.val + r.val - 16, by omega⟩ n) := by
  obtain ⟨h0, h1, h2, h3, h4, h5, h6, h7, h8, h9, h13, hc⟩ := index_facts t
  blk_point [iblk, h3]

/-- The rows after the tile. -/
theorem blk4 (c : Dev nD) (t : Fin cfg0.N) (ht : t.val < 31) (r : Fin 16) (n : Fin 512) :
    iblk m c 4 t (ix2 r n) = m (c.tc.loc main_arg2) (ix3 0 ⟨512 * t.val + 512 + r.val, by omega⟩ n) := by
  obtain ⟨h0, h1, h2, h3, h4, h5, h6, h7, h8, h9, h13, hc⟩ := index_facts t
  blk_point [iblk, h4]

/-- The positions the kernel looks at, halos included, are the sequence's positions around the tile, with zeros outside. -/
theorem ext_tap (c : Dev nD) (t : Fin cfg0.N) (q : ℕ) (hq : q < 542) (n : Fin 512) :
    ext (grid0.coords t) (iblk m c 2 t) (iblk m c 3 t) (iblk m c 4 t) (1 + q) n
      = tap (fun p => m (c.tc.loc main_arg2) (ix3 0 p n)) (512 * t.val + q) := by
  have hN : t.val < 32 := t.isLt
  obtain ⟨h0, h1, h2, h3, h4, h5, h6, h7, h8, h9, h13, hc⟩ := index_facts t
  unfold ext tap
  rw [hc]
  by_cases hp : 1 + q < 16
  · rw [dif_pos hp]
    by_cases h0' : t.val = 0
    · rw [if_pos h0', dif_neg (by omega)]
    · rw [if_neg h0', dif_pos (by omega), blk3 m c t hN (by omega)]
      exact congrArg (fun p => m (c.tc.loc main_arg2) (ix3 0 p n)) (Fin.ext (by show _ = _; dsimp only; omega))
  · rw [dif_neg hp]
    by_cases hp2 : 1 + q - 16 < 512
    · rw [dif_pos hp2, dif_pos (by omega), blk2 m c t hN]
      exact congrArg (fun p => m (c.tc.loc main_arg2) (ix3 0 p n)) (Fin.ext (by show _ = _; dsimp only; omega))
    · rw [dif_neg hp2, dif_pos (show 1 + q - 528 < 16 by omega)]
      by_cases h31 : t.val = 31
      · rw [if_pos h31, dif_neg (by omega)]
      · rw [if_neg h31, dif_pos (by omega), blk4 m c t (by omega)]
        exact congrArg (fun p => m (c.tc.loc main_arg2) (ix3 0 p n)) (Fin.ext (by show _ = _; dsimp only; omega))

/-- The convolution the kernel sums up is the sequence's convolution at the token. -/
theorem conv_eq (c : Dev nD) (t : Fin cfg0.N) (r : ℕ) (hr : r < 512) (n : Fin 512) (b : EReal) :
    accum (0 + b) (term (grid0.coords t) (iblk m c 2 t) (iblk m c 3 t) (iblk m c 4 t) (iblk m c 5 t) 1 r n) 31
      = conv (fun k => m (c.tc.loc main_arg3) (ix3 0 k n)) b (fun p => m (c.tc.loc main_arg2) (ix3 0 p n)) (512 * t.val + r) := by
  obtain ⟨h0, h1, h2, h3, h4, h5, h6, h7, h8, h9, h13, hc⟩ := index_facts t
  rw [accum_eq, zero_add]
  unfold conv
  refine congrArg (· + b) (Finset.sum_congr rfl fun k _ => ?_)
  unfold term
  have e : (1 + k.val + r) = 1 + (k.val + r) := by omega
  rw [e, ext_tap m c t _ (by omega)]
  have hw : wrow (iblk m c 5 t) k.val n = m (c.tc.loc main_arg3) (ix3 0 k n) := by
    unfold wrow
    rw [dif_pos k.isLt]
    blk_point [iblk, h5]
  rw [hw]
  exact congrArg (fun q => _ * tap _ q) (by omega)

/-- Equal parts give an equal result. -/
theorem out_congr {x x' : EReal} {a a' b b' : Fin 512 → EReal} {w w' : Fin 1024 → EReal} (hx : x = x')
    (ha : ∀ k, a k = a' k) (hb : ∀ k, b k = b' k) (hw : ∀ k, w k = w' k) : out x a b w = out x' a' b' w' := by
  rw [hx, funext ha, funext hb, funext hw]

/-- The specification at row `R` and lane `l`, its token and channel named. -/
theorem G3_at (x : Vec Ideal ⟨3, ![1, 16384, 1024]⟩ .f32) (a : Vec Ideal ⟨3, ![1, 16384, 512]⟩ .bf16)
    (g : Vec Ideal ⟨3, ![1, 16384, 512]⟩ .f32) (w : Vec Ideal ⟨3, ![1, 31, 512]⟩ .f32)
    (b ng nb : Vec Ideal ⟨2, ![1, 512]⟩ .f32) (W : Vec Ideal ⟨3, ![1, 1024, 1024]⟩ .f32) (R : Fin 131072) (l : Fin 128)
    (t : Fin 16384) (n : Fin 1024) (ht : R.val / 8 = t.val) (hn : R.val % 8 * 128 + l.val = n.val) :
    G3 x a g w b ng nb W (ix2 R l) = out (x (ix3 0 t n)) (fun k => a (ix3 0 t k))
      (mixB (fun k n => w (ix3 0 k n)) (fun n => b (ix2 0 n)) (fun n => ng (ix2 0 n)) (fun n => nb (ix2 0 n))
        (fun p n => g (ix3 0 p n)) t.val) fun k => W (ix3 0 k n) := by
  obtain ⟨t, h⟩ := t
  obtain ⟨n, h'⟩ := n
  dsimp only at ht hn
  subst ht hn
  rfl

/-- The tile's token `r` is the sequence's token at the tile's place. -/
theorem tok_at (c : Dev nD) (t : Fin cfg0.N) (ht : t.val < 32) (r : Fin 512) (n : Fin 1024) :
    tok (grid0.coords t) (iblk m c 0 t) (iblk m c 1 t) (iblk m c 2 t) (iblk m c 3 t) (iblk m c 4 t) (iblk m c 5 t) (iblk m c 6 t)
        (iblk m c 7 t) (iblk m c 8 t) (iblk m c 9 t) r n
      = out (m (c.tc.loc main_arg0) (ix3 0 ⟨512 * t.val + r.val, by omega⟩ n))
        (fun k => m (c.tc.loc main_arg1) (ix3 0 ⟨512 * t.val + r.val, by omega⟩ k))
        (mixB (fun k n => m (c.tc.loc main_arg3) (ix3 0 k n)) (fun n => m (c.tc.loc main_arg4) (ix2 0 n))
          (fun n => m (c.tc.loc main_arg5) (ix2 0 n)) (fun n => m (c.tc.loc main_arg6) (ix2 0 n))
          (fun p n => m (c.tc.loc main_arg2) (ix3 0 p n)) (512 * t.val + r.val))
        fun k => m (c.tc.loc main_arg7) (ix3 0 k n) := by
  obtain ⟨h0, h1, h2, h3, h4, h5, h6, h7, h8, h9, h13, hc⟩ := index_facts t
  unfold tok
  refine out_congr ?_ (fun k => ?_) (fun k => ?_) (fun k => ?_)
  · blk_point [iblk, h0]
  · blk_point [iblk, h1]
  · unfold mixB
    refine congrArg silu ?_
    refine ln_congr (fun j => ?_) (fun j => ?_) (fun j => ?_) k
    · have e6 : iblk m c 6 t (ix2 0 j) = m (c.tc.loc main_arg4) (ix2 0 j) := by blk_point [iblk, h6]
      rw [e6]
      exact conv_eq m c t _ (by omega) j _
    · blk_point [iblk, h7]
    · blk_point [iblk, h8]
  · blk_point [iblk, h9]

/-- The output array after the run is the specification of the arguments. -/
theorem arr13 (c : Dev nD) :
    (dats m 0 c).arrAt 13 cfg0.N = G3 (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) := by
  refine (dats m 0 c).arrAt_eq_of_covers 13 _ (by decide +kernel) fun t hf y => ?_
  blk_simp
  rw [after0_13]
  obtain ⟨h0, h1, h2, h3, h4, h5, h6, h7, h8, h9, h13, hc⟩ := index_facts t
  have hN : t.val < 32 := t.isLt
  have key : ∀ y : S4096x128.Idx, out13 m c t y = G3 (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) ((win0_13.blk t).view.emb y) := by
    intro y
    idx_vars y
    rw [block13]
    have e : (win0_13.blk t).view.emb (ix2 y0 y1) = ix2 ⟨4096 * t.val + y0.val, by omega⟩ y1 := by
      blk_point [h13]
    rw [e, G3_at _ _ _ _ _ _ _ _ ⟨4096 * t.val + y0.val, by omega⟩ y1 ⟨512 * t.val + y0.val / 8, by omega⟩
      ⟨y0.val % 8 * 128 + y1.val, by omega⟩ (by show (4096 * t.val + y0.val) / 8 = 512 * t.val + y0.val / 8; omega)
      (by show (4096 * t.val + y0.val) % 8 * 128 + y1.val = _; dsimp only; omega)]
    exact tok_at m c t hN _ _
  exact key y

end Cert.Back
end
-- ==== Proof.Back.Ref.lean ====
/- The reference's result, index by index, as the mathematics of Spec.lean. -/
module

public import proofs.«01_k».proof.Proof.Back.Spec
public import proofs.«01_k».proof.Proof.Gen.Reference3Ideal.Run
public import Idealize.ShloMosaic.Lib.Tactic.CleanTypes
public import Idealize.ShloMosaic.PureOps.Ideal.Laws

@[expose] public section

set_option maxRecDepth 16384

noncomputable section

namespace Cert.Back

open Cert.Reference3Ideal Cert.Reference3Ideal.Gen Idealize.ShloMosaic Idealize.ShloMosaic.TcCoe Idealize.ShloMosaic.StableHlo

variable (m : (ℓ : Loc nD τ sig) → Buf (Elt Ideal) ℓ)

/-- The padded sequence. -/
theorem pad_at (c : Dev nD) (p : Fin 16414) (n : Fin 512) : Value.res_main_v0 (launchContents m c) (ix3 0 p n)
    = tap (fun q => m (c.tc.loc main_arg2) (ix3 0 q n)) p.val := by
  unfold Value.res_main_v0
  clean_types
  pointwise
  rw [tap]
  refine dite_congr rfl (fun _ => rfl) (fun _ => ?_)
  show ((((0#32 : BitVec 32).toInt : ℝ)) : EReal) = 0
  simp

/-- The tap `k`'s product at token `t`, the sequence's value first. -/
def rterm (g : Fin 16384 → EReal) (w : Fin 31 → EReal) (t k : ℕ) : EReal :=
  tap g (k + t) * if h : k < 31 then w ⟨k, h⟩ else 0

/-- The products at channel `n` of the arguments. -/
def rt (c : Dev nD) (t : Fin 16384) (n : Fin 512) : ℕ → EReal :=
  rterm (fun q => m (c.tc.loc main_arg2) (ix3 0 q n)) (fun k => m (c.tc.loc main_arg3) (ix3 0 k n)) t.val

/-- The sum of the first 11 taps. -/
theorem v78_at (c : Dev nD) (t : Fin 16384) (n : Fin 512) :
    Value.res_main_v78 (launchContents m c) (ix3 0 t n) = accum 0 (rt m c t n) 11 := by
  unfold Value.res_main_v78
  clean_types
  pointwise
  simp only [pad_at, accum, rt, rterm, zero_add]
  rfl

/-- The sum of the first 22 taps. -/
theorem v155_at (c : Dev nD) (t : Fin 16384) (n : Fin 512) :
    Value.res_main_v155 (launchContents m c) (ix3 0 t n) = accum 0 (rt m c t n) 22 := by
  unfold Value.res_main_v155
  clean_types
  pointwise
  simp only [pad_at, v78_at]
  rfl

/-- The convolution. -/
theorem v222_at (c : Dev nD) (t : Fin 16384) (n : Fin 512) : Value.res_main_v222 (launchContents m c) (ix3 0 t n)
    = conv (fun k => m (c.tc.loc main_arg3) (ix3 0 k n)) (m (c.tc.loc main_arg4) (ix2 0 n))
        (fun p => m (c.tc.loc main_arg2) (ix3 0 p n)) t.val := by
  have e : Value.res_main_v222 (launchContents m c) (ix3 0 t n) = accum 0 (rt m c t n) 31 + m (c.tc.loc main_arg4) (ix2 0 n) := by
    unfold Value.res_main_v222
    clean_types
    pointwise
    simp only [pad_at, v155_at]
    rfl
  rw [e, accum_eq, add_zero]
  unfold conv
  refine congrArg (· + _) (Finset.sum_congr rfl fun k _ => ?_)
  unfold rt rterm
  rw [dif_pos k.isLt, mul_comm, Nat.add_comm]

/-- The layer norm after the convolution. -/
theorem v248_at (c : Dev nD) (t : Fin 16384) (n : Fin 512) : Value.res_main_v248 (launchContents m c) (ix3 0 t n)
    = Front.ln (fun j => conv (fun k => m (c.tc.loc main_arg3) (ix3 0 k j)) (m (c.tc.loc main_arg4) (ix2 0 j))
        (fun p => m (c.tc.loc main_arg2) (ix3 0 p j)) t.val) (fun j => m (c.tc.loc main_arg5) (ix2 0 j))
        (fun j => m (c.tc.loc main_arg6) (ix2 0 j)) n := by
  unfold Value.res_main_v248 Value.res_main_v230 Value.res_main_v228
  clean_types
  pointwise
  simp only [v222_at]
  rfl

/-- Mixer B's output. -/
theorem mixB_at (c : Dev nD) (t : Fin 16384) (n : Fin 512) (y : EReal)
    (hy : y = Value.res_main_v248 (launchContents m c) (ix3 0 t n)) :
    y * Ideal.div 1 (1 + Ideal.exp (-y))
    = mixB (fun k n => m (c.tc.loc main_arg3) (ix3 0 k n)) (fun n => m (c.tc.loc main_arg4) (ix2 0 n))
        (fun n => m (c.tc.loc main_arg5) (ix2 0 n)) (fun n => m (c.tc.loc main_arg6) (ix2 0 n))
        (fun p n => m (c.tc.loc main_arg2) (ix3 0 p n)) t.val n := by
  rw [v248_at] at hy
  subst hy
  rfl

/-- The reference's run: the result as the mathematics, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v255) = G3 (m (c.tc.loc main_arg0)) (m (c.tc.loc main_arg1)) (m (c.tc.loc main_arg2))
          (m (c.tc.loc main_arg3)) (m (c.tc.loc main_arg4)) (m (c.tc.loc main_arg5)) (m (c.tc.loc main_arg6))
          (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) :=
  (θ_run defs _ _).mono (fun _ h c => ⟨(h c).1.trans (by
      funext j
      idx_vars j
      clean_types
      pointwise
      exact congrArg₂ _ rfl (congrArg₂ _ rfl (Finset.sum_congr rfl fun k _ => congrArg₂ _ (mixB_at m c _ k _ rfl) rfl))), (h c).2⟩) (Value.run m ρ)

end Cert.Back
end
-- ==== Proof.Back.RouterSpec.lean ====
/-
  The mathematics of the call's second result: the router logits of the tokens the call leaves, and why a product whose
  two factors are each split in two parts is the plain product wherever the parts are real.
-/
module

public import proofs.«01_k».proof.Proof.Back.Spec
public import Idealize.ShloMosaic.PureOps.Ideal.Laws

@[expose] public section

noncomputable section

namespace Cert.Back

open Idealize.ShloMosaic

/-- Token `t` after the call, at channel `n`. -/
def after (x : Vec Ideal ⟨3, ![1, 16384, 1024]⟩ .f32) (a : Vec Ideal ⟨3, ![1, 16384, 512]⟩ .bf16)
    (g : Vec Ideal ⟨3, ![1, 16384, 512]⟩ .f32) (w : Vec Ideal ⟨3, ![1, 31, 512]⟩ .f32)
    (b ng nb : Vec Ideal ⟨2, ![1, 512]⟩ .f32) (W : Vec Ideal ⟨3, ![1, 1024, 1024]⟩ .f32) (t : Fin 16384) (n : Fin 1024) : EReal :=
  out (x (ix3 0 t n)) (fun k => a (ix3 0 t k))
    (mixB (fun k n => w (ix3 0 k n)) (fun n => b (ix2 0 n)) (fun n => ng (ix2 0 n)) (fun n => nb (ix2 0 n))
      (fun p n => g (ix3 0 p n)) t.val)
    fun k => W (ix3 0 k n)

/-- The router logits: row `e`, column `t` is the normed token `t` against expert `e`'s column of the router. -/
def G4 (x : Vec Ideal ⟨3, ![1, 16384, 1024]⟩ .f32) (a : Vec Ideal ⟨3, ![1, 16384, 512]⟩ .bf16)
    (g : Vec Ideal ⟨3, ![1, 16384, 512]⟩ .f32) (w : Vec Ideal ⟨3, ![1, 31, 512]⟩ .f32)
    (b ng nb : Vec Ideal ⟨2, ![1, 512]⟩ .f32) (W : Vec Ideal ⟨3, ![1, 1024, 1024]⟩ .f32)
    (mg : Vec Ideal ⟨2, ![2, 1024]⟩ .f32) (wr : Vec Ideal ⟨3, ![2, 1024, 16]⟩ .f32) : Vec Ideal ⟨2, ![16, 16384]⟩ .f32 := fun y =>
  Front.proj (after x a g w b ng nb W (⟨(y 1).val, (y 1).isLt⟩ : Fin 16384)) (fun k => mg (ix2 0 k))
    fun k => wr (ix3 0 k (⟨(y 0).val, (y 0).isLt⟩ : Fin 16))

/-- The specification at row `e` and column `R`. -/
theorem G4_at (x : Vec Ideal ⟨3, ![1, 16384, 1024]⟩ .f32) (a : Vec Ideal ⟨3, ![1, 16384, 512]⟩ .bf16)
    (g : Vec Ideal ⟨3, ![1, 16384, 512]⟩ .f32) (w : Vec Ideal ⟨3, ![1, 31, 512]⟩ .f32)
    (b ng nb : Vec Ideal ⟨2, ![1, 512]⟩ .f32) (W : Vec Ideal ⟨3, ![1, 1024, 1024]⟩ .f32) (mg : Vec Ideal ⟨2, ![2, 1024]⟩ .f32)
    (wr : Vec Ideal ⟨3, ![2, 1024, 16]⟩ .f32) (e : Fin 16) (t : Fin 16384) : G4 x a g w b ng nb W mg wr (ix2 e t)
      = ∑ k, Front.rms (after x a g w b ng nb W t) (fun k => mg (ix2 0 k)) k * wr (ix3 0 k e) := rfl

/-- An extended real that is a real number. -/
def IsReal (x : EReal) : Prop := ∃ r : ℝ, x = (r : EReal)

/-- The product of two reals is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A real less itself is zero. -/
theorem IsReal.sub_self {x : EReal} (hx : IsReal x) : x - x = 0 := by
  obtain ⟨r, rfl⟩ := hx
  rw [← EReal.coe_sub, _root_.sub_self, EReal.coe_zero]

/-- A value whose absolute value is below infinity is real. -/
theorem isReal_of_abs_lt {x : EReal} (h : max x (-x) < ⊤) : IsReal x := by
  induction x with
  | bot => simp at h
  | top => simp at h
  | coe r => exact ⟨r, rfl⟩

/-- The number of channels. -/
theorem width_val : Ideal.ofBits .f32 1149239296#32 = ((1024 : ℝ) : EReal) := by
  simp [Ideal.ofBits, Ideal.ieee, -EReal.coe_mul]
  norm_num

/-- The norm's small constant is a positive real. -/
theorem eps_pos : ∃ e : ℝ, 0 < e ∧ Ideal.ofBits .f32 897988541#32 = (e : EReal) :=
  ⟨(8796093 : ℝ) * 2 ^ (-43 : ℤ), by positivity, by
    simp [Ideal.ofBits, Ideal.ieee, -EReal.coe_mul]⟩

/-- A square is not negative. -/
theorem sq_nonneg' (x : EReal) : 0 ≤ x * x := by
  induction x with
  | bot => simp
  | top => simp
  | coe r => rw [← EReal.coe_mul]; exact EReal.coe_nonneg.mpr (mul_self_nonneg r)

/-- The norm of any token is real where its gain is: an infinite channel makes the scale zero. -/
theorem rms_real (x g : Fin 1024 → EReal) (hg : ∀ k, IsReal (g k)) (k : Fin 1024) : IsReal (Front.rms x g k) := by
  unfold Front.rms
  refine IsReal.mul ?_ (hg k)
  obtain ⟨e, he, hE⟩ := eps_pos
  have hS : 0 ≤ ∑ j, x j * x j := Finset.sum_nonneg fun j _ => sq_nonneg' _
  have hk : x k * x k ≤ ∑ j, x j * x j := Finset.single_le_sum (f := fun j => x j * x j) (fun j _ => sq_nonneg' _) (Finset.mem_univ k)
  generalize ∑ j, x j * x j = S at hS hk
  rw [width_val, hE, Ideal.div_coe (by norm_num)]
  have htop : S = ⊤ → Ideal.rsqrt (S * ((1 / 1024 : ℝ) : EReal) + (e : EReal)) = 0 := fun h => by
    rw [h, EReal.top_mul_coe_of_pos (by norm_num), EReal.top_add_coe]
    rfl
  have hinf : x k * x k = ⊤ → IsReal (x k * Ideal.rsqrt (S * ((1 / 1024 : ℝ) : EReal) + (e : EReal))) := fun h => by
    rw [htop (top_le_iff.mp (h ▸ hk)), mul_zero]
    exact ⟨0, rfl⟩
  induction S with
  | bot => simp at hS
  | top => rw [htop rfl, mul_zero]; exact ⟨0, rfl⟩
  | coe s =>
    have hs : 0 ≤ s := EReal.coe_nonneg.mp hS
    have hp : 0 < s * (1 / 1024) + e := by positivity
    have hr : IsReal (Ideal.rsqrt ((s : EReal) * ((1 / 1024 : ℝ) : EReal) + (e : EReal))) := by
      rw [← EReal.coe_mul, ← EReal.coe_add, Ideal.rsqrt_coe, if_neg (not_lt.mpr hp.le), if_neg hp.ne']
      exact ⟨_, rfl⟩
    cases hx : x k with
    | bot => rw [← hx]; exact hinf (by rw [hx]; simp)
    | top => rw [← hx]; exact hinf (by rw [hx]; simp)
    | coe r => exact IsReal.mul ⟨r, rfl⟩ hr

/-- Equal tokens and gains have equal norms. -/
theorem rms_congr {x x' g g' : Fin 1024 → EReal} (hx : ∀ k, x k = x' k) (hg : ∀ k, g k = g' k) (n : Fin 1024) :
    Front.rms x g n = Front.rms x' g' n := by
  rw [funext hx, funext hg]

/-- A value less itself: what a split's second part holds. -/
def selfSub (x : EReal) : EReal := x - x

/-- A product over split factors, the parts being the value and its difference to itself, is the plain product. -/
theorem split_sum (h w : Fin 1024 → EReal) (hh : ∀ k, IsReal (h k)) (hw : ∀ k, IsReal (w k)) :
    (∑ k, w k * h k) + ((∑ k, w k * (h k - h k)) + ∑ k, (w k - w k) * h k) = ∑ k, h k * w k := by
  have h1 : ∀ k, w k * (h k - h k) = 0 := fun k => by rw [(hh k).sub_self, mul_zero]
  have h2 : ∀ k, (w k - w k) * h k = 0 := fun k => by rw [(hw k).sub_self, zero_mul]
  simp only [h1, h2, Finset.sum_const_zero, add_zero]
  exact Finset.sum_congr rfl fun k _ => mul_comm _ _

end Cert.Back
end
-- ==== Proof.Back.Finite.lean ====
/-
  What the precondition says: the first layer's gain and router are real; and the frames of the logits' programs, which are
  the call's own.
-/
module

public import proofs.«01_k».proof.Defs
public import proofs.«01_k».proof.Proof.Back.Frame
public import proofs.«01_k».proof.Proof.Back.RouterSpec
public import proofs.«01_k».proof.Proof.Gen.Kernel4
public import proofs.«01_k».proof.Proof.Gen.Kernel4Ideal
public import proofs.«01_k».proof.Proof.Gen.Pre_finite
public import Idealize.ShloMosaic.Lib.ReduceAll
public import Idealize.ShloMosaic.Lib.Claim

@[expose] public section

set_option maxRecDepth 16384

noncomputable section

namespace Cert.Back.Logits

open Idealize.ShloMosaic Idealize.ShloMosaic.TcCoe Idealize.ShloMosaic.Tactic
open Idealize.SL.Sem
open Cert.Kernel4Ideal Cert.Kernel4Ideal.Gen

/-- A value whose absolute value compares below infinity is real. -/
theorem isReal_of_cmp {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine isReal_of_abs_lt ?_
  by_contra hn
  simp [Ideal.cmp, hn] at h

/-- The precondition at the gain's and the router's entries. -/
theorem finite_real (a0 : FVec Ideal S1x16384x1024 .f32) (a1 : FVec Ideal S1x16384x512 .bf16) (a2 : FVec Ideal S1x16384x512 .f32)
    (a3 : FVec Ideal S1x31x512 .f32) (a4 a5 a6 : FVec Ideal S1x512 .f32) (a7 : FVec Ideal S1x1024x1024 .f32)
    (a8 : FVec Ideal S2x1024 .f32) (a9 : FVec Ideal S2x1024x16 .f32)
    (h : Cert.Pre_finite.fn a0 a1 a2 a3 a4 a5 a6 a7 a8 a9 = fun _ => 1#1) :
    (∀ k, IsReal (a8 (ix2 0 k))) ∧ ∀ k e, IsReal (a9 (ix3 0 k e)) := by
  haveI : Subsingleton Cert.Pre_finite.S_.Idx := ⟨fun x y => funext fun k => k.elim0⟩
  obtain ⟨h8, h9⟩ := IntOp.andi_eq_one.mp (congrFun h (fun k => k.elim0))
  refine ⟨fun k => ?_, fun k e => ?_⟩
  · have h := Host.reduce_andi_all _ _ _ _ _ h8 (ix1 k)
    refine isReal_of_cmp (Eq.trans ?_ h)
    pointwise
    rfl
  · have h := Host.reduce_andi_all _ _ _ _ _ h9 (ix2 k e)
    refine isReal_of_cmp (Eq.trans ?_ h)
    pointwise
    rfl

variable {F : FTy → Type} [FloatOps F]

/-- The logits' program has the call's table of bodies. -/
theorem defs₀_eq : @Cert.Kernel4Ideal.defs₀ F _ Cert.Kernel4Ideal.Gen.facts = @Cert.Kernel3Ideal.defs₀ F _ Cert.Kernel3Ideal.Gen.facts :=
  congrArg Defs.onTc (funext fun l => funext fun a => match l, a with
    | 0, (_, _) => rfl
    | ⟨_ + 1, h⟩, _ => absurd h (Nat.not_lt.2 (Nat.le_add_left _ _)))

/-- So has it the table of pipelines and bodies. -/
theorem defs_eq : @Cert.Kernel4Ideal.defs F _ Cert.Kernel4Ideal.Gen.facts = @Cert.Kernel3Ideal.defs F _ Cert.Kernel3Ideal.Gen.facts :=
  congrArg (Pipeline.defs Cert.Kernel3Ideal.pcfgs) defs₀_eq

/-- And the entry function. -/
theorem main_eq : @Cert.Kernel4Ideal.main F _ Cert.Kernel4Ideal.Gen.facts = @Cert.Kernel3Ideal.main F _ Cert.Kernel3Ideal.Gen.facts := rfl

set_option maxHeartbeats 4000000 in
/-- The frame of the logits' program, its floats read as extended reals. -/
theorem frame_ideal : Cert.quiescent_Kernel4Ideal := fun m ρ _ => by
  rw [show Cert.Kernel4Ideal.defs (F := Ideal) = Cert.Kernel3Ideal.defs (F := Ideal) from defs_eq, main_eq]
  exact Cert.Kernel3Ideal.Back.frame_run (F := Ideal) m ρ

/-- The same where the gain and the router are real. -/
theorem frame_ideal_pre : Cert.quiescent_Kernel4Ideal_pre_finite := fun m ρ _ => frame_ideal m ρ trivial

/-- The bodies are the same read as bits. -/
theorem defs₀_bits : @Cert.Kernel4.defs₀ F _ Cert.Kernel4.Gen.facts = @Cert.Kernel3Ideal.defs₀ F _ Cert.Kernel3Ideal.Gen.facts :=
  congrArg Defs.onTc (funext fun l => funext fun a => match l, a with
    | 0, (_, _) => rfl
    | ⟨_ + 1, h⟩, _ => absurd h (Nat.not_lt.2 (Nat.le_add_left _ _)))

theorem defs_bits : @Cert.Kernel4.defs F _ Cert.Kernel4.Gen.facts = @Cert.Kernel3Ideal.defs F _ Cert.Kernel3Ideal.Gen.facts :=
  congrArg (Pipeline.defs Cert.Kernel3Ideal.pcfgs) defs₀_bits

theorem main_bits : @Cert.Kernel4.main F _ Cert.Kernel4.Gen.facts = @Cert.Kernel3Ideal.main F _ Cert.Kernel3Ideal.Gen.facts := rfl

set_option maxHeartbeats 4000000 in
/-- The frame of the logits' program, its floats read as bits. -/
theorem frame_bits : Cert.quiescent_Kernel4 := fun m ρ _ => by
  rw [show Cert.Kernel4.defs (F := Bits) = Cert.Kernel3Ideal.defs (F := Bits) from defs_bits, main_bits]
  exact Cert.Kernel3Ideal.Back.frame_run (F := Bits) m ρ

end Cert.Back.Logits

end
-- ==== Proof.Back.Router.lean ====
/- The call's second result, the router logits: the block one grid point leaves, and the array after the run. -/
module

public import proofs.«01_k».proof.Proof.Back.RouterSpec
public import proofs.«01_k».proof.Proof.Back.KernelValue
public import Idealize.ShloMosaic.Lib.Tactic.CleanTypes

@[expose] public section

set_option maxRecDepth 16384

noncomputable section

namespace Cert.Back

open Cert.Kernel3Ideal Cert.Kernel3Ideal.Gen Cert.Kernel3Ideal.Back Idealize.ShloMosaic Idealize.ShloMosaic.TcCoe

/-- The normed tokens of the tile. -/
theorem pay44_at (x : Vec Ideal S512x1024 .f32) (g : Vec Ideal S1x1024 .f32) (r : Fin 512) (n : Fin 1024) :
    k0_pay44 (F := Ideal) x g (ix2 r n) = Front.rms (fun k => x (ix2 r k)) (fun k => g (ix2 0 k)) n := by
  unfold Front.rms
  pointwise [k0_pay44]

/-- Their first parts. -/
theorem pay45_at (x : Vec Ideal S512x1024 .f32) (g : Vec Ideal S1x1024 .f32) (r : Fin 512) (n : Fin 1024) :
    k0_pay45 (F := Ideal) x g (ix2 r n) = Front.rms (fun k => x (ix2 r k)) (fun k => g (ix2 0 k)) n :=
  pay44_at x g r n

/-- Their second parts: the difference to the first. -/
theorem pay46_at (x : Vec Ideal S512x1024 .f32) (g : Vec Ideal S1x1024 .f32) (r : Fin 512) (n : Fin 1024) :
    k0_pay46 (F := Ideal) x g (ix2 r n) = Front.rms (fun k => x (ix2 r k)) (fun k => g (ix2 0 k)) n
      - Front.rms (fun k => x (ix2 r k)) (fun k => g (ix2 0 k)) n := by
  rw [← pay44_at x g r n]
  rfl

/-- The products of the first parts. -/
theorem pay47_at (x : Vec Ideal S512x1024 .f32) (g : Vec Ideal S1x1024 .f32) (u : Vec Ideal S16x1024 .bf16) (e : Fin 16)
    (r : Fin 512) : k0_pay47 (F := Ideal) x g u (ix2 e r) = ∑ k, u (ix2 e k) * k0_pay45 (F := Ideal) x g (ix2 r k) := by
  pointwise [k0_pay47]

/-- The products of the mixed parts onto them. -/
theorem pay1_at (a b : Vec Ideal S512x1024 .bf16) (s : Vec Ideal S16x512 .f32) (u v : Vec Ideal S16x1024 .bf16) (e : Fin 16)
    (r : Fin 512) : k0_pay1 (F := Ideal) a b s u v (ix2 e r)
      = s (ix2 e r) + ((∑ k : Fin 1024, u (ix2 e k) * b (ix2 r k)) + ∑ k : Fin 1024, v (ix2 e k) * a (ix2 r k)) := by
  pointwise [k0_pay1]

variable (m : (ℓ : Loc nD τ sig) → Buf (Elt Ideal) ℓ)

/-- A load of a whole buffer, read at one index. -/
theorem load_at {d : Fin 2 → ℕ} {e : EltTy} (a : Memref sig .tc .vmem ⟨2, d⟩ e) (ha : a.IsWhole) (x : Vec Ideal ⟨2, d⟩ e)
    (h) (y : (⟨2, d⟩ : Shape).Idx) :
    View.readAt (Elt Ideal) a.view (Rect.unit (s := ⟨2, d⟩) ![0, 0] d h).toLoadRect (ha.unread x) y = x y := by
  rw [Memref.IsWhole.readAt_unread]
  refine congrArg x (funext fun k => Fin.ext ?_)
  match k with
  | 0 => show 0 + 1 * (y 0).val = (y 0).val; omega
  | 1 => show 0 + 1 * (y 1).val = (y 1).val; omega

set_option maxHeartbeats 4000000 in
/-- One grid point's block of logits, from the blocks it reads and the tokens `T` it leaves at row `r`. -/
theorem block14 (c : Dev nD) (t : Fin cfg0.N) (e : Fin 16) (r : Fin 512) (T : Fin 1024 → EReal)
    (hT : ∀ n, tok (grid0.coords t) (iblk m c 0 t) (iblk m c 1 t) (iblk m c 2 t) (iblk m c 3 t) (iblk m c 4 t) (iblk m c 5 t)
      (iblk m c 6 t) (iblk m c 7 t) (iblk m c 8 t) (iblk m c 9 t) r n = T n) (g : Fin 1024 → EReal)
    (hg : ∀ k, iblk m c 10 t (ix2 0 k) = g k) (u v : Fin 1024 → EReal) (hu : ∀ k, iblk m c 11 t (ix2 e k) = u k)
    (hv : ∀ k, iblk m c 12 t (ix2 e k) = v k) : out14 m c t (ix2 e r)
      = (∑ k, u k * Front.rms T g k) + ((∑ k, u k * (Front.rms T g k - Front.rms T g k)) + ∑ k, v k * Front.rms T g k) := by
  unfold out14
  refine View.canon_eq_of_allAt _ _ _ (cover14 _ _ _ _ _ _ _ _ _ _ _ _ _ _ _ _ _ _ _ _ _ _ _ _ _ _ _ _ _ _ _ _ _ _ _ _ _ _ _ _ _ _ _ _ _ _ _ _ _ _ _ _) ?_
  unfold pieces14 bodyRun
  dsimp only
  intro p hp x hx
  rw [List.mem_singleton] at hp
  subst hp
  have ex : x = ix2 e r := by
    have e0 : 0 + 1 * (x 0).val = e.val := congrArg (fun y => (y 0).val) hx
    have e1 : 0 + 1 * (x 1).val = r.val := congrArg (fun y => (y 1).val) hx
    idx_vars x
    change 0 + 1 * x0.val = e.val at e0
    change 0 + 1 * x1.val = r.val at e1
    obtain rfl : x0 = e := Fin.ext (by omega)
    obtain rfl : x1 = r := Fin.ext (by omega)
    rfl
  subst ex
  dsimp only
  rw [pay1_at]
  refine congrArg₂ (· + ·) ?_ (congrArg₂ (· + ·) (Finset.sum_congr rfl fun k _ => congrArg₂ (· * ·) ((load_at _ _ _ _ _).trans (hu k)) ?_)
    (Finset.sum_congr rfl fun k _ => congrArg₂ (· * ·) ((load_at _ _ _ _ _).trans (hv k)) ?_))
  · unfold bodyRun.sl.r_24
    rw [pay47_at]
    refine Finset.sum_congr rfl fun k _ => congrArg₂ (· * ·) ((load_at _ _ _ _ _).trans (hu k)) ?_
    rw [pay45_at]
    refine rms_congr (fun n => ?_) (fun n => (load_at _ _ _ _ _).trans (hg n)) k
    unfold bodyRun.sl.r_20
    exact (sum_at _ _ _ _ _ _ _ _ _ _ _ _ _ _ _ _ _ _ _ _ _ _ _ _ _ _ _ _ _ _ _ _ _ _ _ _ _ _ _ r n).trans (hT n)
  · unfold bodyRun.sl.r_23
    rw [pay46_at]
    refine congrArg (fun z => z - z) (rms_congr (fun n => ?_) (fun n => (load_at _ _ _ _ _).trans (hg n)) k)
    unfold bodyRun.sl.r_20
    exact (sum_at _ _ _ _ _ _ _ _ _ _ _ _ _ _ _ _ _ _ _ _ _ _ _ _ _ _ _ _ _ _ _ _ _ _ _ _ _ _ _ r n).trans (hT n)
  · unfold bodyRun.sl.r_22
    rw [pay45_at]
    refine rms_congr (fun n => ?_) (fun n => (load_at _ _ _ _ _).trans (hg n)) k
    unfold bodyRun.sl.r_20
    exact (sum_at _ _ _ _ _ _ _ _ _ _ _ _ _ _ _ _ _ _ _ _ _ _ _ _ _ _ _ _ _ _ _ _ _ _ _ _ _ _ _ r n).trans (hT n)

/-- Where the router's windows stand at grid point `t`: the gain and the weights at their only block, the logits at column block `t`. -/
theorem router_facts : ∀ t : Fin cfg0.N, win0_10.index t = ![0, 0] ∧ win0_11.index t = ![0, 0] ∧ win0_12.index t = ![0, 0]
    ∧ win0_14.index t = ![0, t.val] :=
  (by decide +kernel : ∀ t : Fin grid0.N, _)

/-- The norm's gain. -/
theorem blk10 (c : Dev nD) (t : Fin cfg0.N) (k : Fin 1024) : iblk m c 10 t (ix2 0 k) = m (c.tc.loc main_arg8) (ix2 0 k) := by
  obtain ⟨h10, h11, h12, h14⟩ := router_facts t
  blk_point [iblk, h10]

/-- The router's weights, their first part. -/
theorem blk11 (c : Dev nD) (t : Fin cfg0.N) (e : Fin 16) (k : Fin 1024) :
    iblk m c 11 t (ix2 e k) = m (c.tc.loc main_arg9) (ix3 0 k e) := by
  obtain ⟨h10, h11, h12, h14⟩ := router_facts t
  blk_point [iblk, h11]

/-- The router's weights, their second part: the difference to the first. -/
theorem blk12 (c : Dev nD) (t : Fin cfg0.N) (e : Fin 16) (k : Fin 1024) :
    iblk m c 12 t (ix2 e k) = selfSub (m (c.tc.loc main_arg9) (ix3 0 k e)) := by
  obtain ⟨h10, h11, h12, h14⟩ := router_facts t
  have e12 : (win0_12.blk t).view.emb (ix2 e k) = ix2 e k := by blk_point [h12]
  show (V m c main_v21 : S16x1024.Idx → EReal) ((win0_12.blk t).view.emb (ix2 e k)) = _
  rw [e12]
  unfold selfSub
  entry_read
  clean_types
  pointwise

/-- The logits after the run are the specification of the arguments, where the gain and the router are real. -/
theorem arr14 (c : Dev nD) (hg : ∀ k, IsReal (m (c.tc.loc main_arg8) (ix2 0 k)))
    (hw : ∀ k e, IsReal (m (c.tc.loc main_arg9) (ix3 0 k e))) :
    (dats m 0 c).arrAt 14 cfg0.N = G4 (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) (m (c.tc.loc main_arg8)) (m (c.tc.loc main_arg9)) := by
  refine (dats m 0 c).arrAt_eq_of_covers 14 _ (by decide +kernel) fun t hf y => ?_
  blk_simp
  rw [after0_14]
  obtain ⟨h10, h11, h12, h14⟩ := router_facts t
  have hN : t.val < 32 := t.isLt
  have key : ∀ y : S16x512.Idx, out14 m c t y = G4 (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) (m (c.tc.loc main_arg8)) (m (c.tc.loc main_arg9)) ((win0_14.blk t).view.emb y) := by
    intro y
    idx_vars y
    have e : (win0_14.blk t).view.emb (ix2 y0 y1) = ix2 y0 ⟨512 * t.val + y1.val, by omega⟩ := by
      blk_point [h14]
    rw [e, G4_at, block14 m c t y0 y1 _ (fun n => tok_at m c t hN y1 n) _ (blk10 m c t) _ _ (blk11 m c t y0) (blk12 m c t y0)]
    exact split_sum _ _ (rms_real _ _ hg) fun k => hw k y0
  exact key y

/-- The specification's logits of the arguments. -/
def logits (c : Dev nD) : Vec Ideal ⟨2, ![16, 16384]⟩ .f32 :=
  G4 (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))

/-- The run leaves the specification's logits, where the gain and the router are real, and the arguments unchanged. -/
theorem logits_run (ρ : Dev nD → PrngReg) (hr : ∀ c : Dev nD, (∀ k, IsReal (m (c.tc.loc main_arg8) (ix2 0 k)))
      ∧ ∀ k e, IsReal (m (c.tc.loc main_arg9) (ix3 0 k e))) :
    θ_run defs (onTc (τ := τ) (main (F := Ideal))) ⟨m, fun _ => 0, ρ⟩ fun r => ∀ c : Dev nD,
      r.2.mem (c.tc.loc main_v22_1) = logits m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) :=
  (θ_run defs _ _).mono (fun _ h c => ⟨((h.1.1 c).1 14).trans (arr14 m c (hr c).1 (hr c).2), h.2.1 c⟩)
    (θ_run_and (run_main m ρ) (frame_run m ρ))

end Cert.Back
end
-- ==== Proof.Back.RouterRef.lean ====
/- The reference's router logits, index by index, as the mathematics of RouterSpec.lean. -/
module

public import proofs.«01_k».proof.Proof.Back.RouterSpec
public import proofs.«01_k».proof.Proof.Back.Ref
public import proofs.«01_k».proof.Proof.Gen.Reference4Ideal.Run

@[expose] public section

set_option maxRecDepth 16384

noncomputable section

namespace Cert.Back.Logits

open Cert.Reference4Ideal Cert.Reference4Ideal.Gen Idealize.ShloMosaic Idealize.ShloMosaic.TcCoe Idealize.ShloMosaic.StableHlo

variable (m : (ℓ : Loc nD τ sig) → Buf (Elt Ideal) ℓ)

/-- The padded sequence. -/
theorem pad_at (c : Dev nD) (p : Fin 16414) (n : Fin 512) : Value.res_main_v0 (launchContents m c) (ix3 0 p n)
    = tap (fun q => m (c.tc.loc main_arg2) (ix3 0 q n)) p.val := by
  unfold Value.res_main_v0
  clean_types
  pointwise
  rw [tap]
  refine dite_congr rfl (fun _ => rfl) (fun _ => ?_)
  show ((((0#32 : BitVec 32).toInt : ℝ)) : EReal) = 0
  simp

/-- The products at channel `n` of the arguments. -/
def rt (c : Dev nD) (t : Fin 16384) (n : Fin 512) : ℕ → EReal :=
  rterm (fun q => m (c.tc.loc main_arg2) (ix3 0 q n)) (fun k => m (c.tc.loc main_arg3) (ix3 0 k n)) t.val

/-- The sum of the first 11 taps. -/
theorem v78_at (c : Dev nD) (t : Fin 16384) (n : Fin 512) :
    Value.res_main_v78 (launchContents m c) (ix3 0 t n) = accum 0 (rt m c t n) 11 := by
  unfold Value.res_main_v78
  clean_types
  pointwise
  simp only [pad_at, accum, rt, rterm, zero_add]
  rfl

/-- The sum of the first 22 taps. -/
theorem v155_at (c : Dev nD) (t : Fin 16384) (n : Fin 512) :
    Value.res_main_v155 (launchContents m c) (ix3 0 t n) = accum 0 (rt m c t n) 22 := by
  unfold Value.res_main_v155
  clean_types
  pointwise
  simp only [pad_at, v78_at]
  rfl

/-- The convolution. -/
theorem v222_at (c : Dev nD) (t : Fin 16384) (n : Fin 512) : Value.res_main_v222 (launchContents m c) (ix3 0 t n)
    = conv (fun k => m (c.tc.loc main_arg3) (ix3 0 k n)) (m (c.tc.loc main_arg4) (ix2 0 n))
        (fun p => m (c.tc.loc main_arg2) (ix3 0 p n)) t.val := by
  have e : Value.res_main_v222 (launchContents m c) (ix3 0 t n) = accum 0 (rt m c t n) 31 + m (c.tc.loc main_arg4) (ix2 0 n) := by
    unfold Value.res_main_v222
    clean_types
    pointwise
    simp only [pad_at, v155_at]
    rfl
  rw [e, accum_eq, add_zero]
  unfold conv
  refine congrArg (· + _) (Finset.sum_congr rfl fun k _ => ?_)
  unfold rt rterm
  rw [dif_pos k.isLt, mul_comm, Nat.add_comm]

/-- The layer norm after the convolution. -/
theorem v248_at (c : Dev nD) (t : Fin 16384) (n : Fin 512) : Value.res_main_v248 (launchContents m c) (ix3 0 t n)
    = Front.ln (fun j => conv (fun k => m (c.tc.loc main_arg3) (ix3 0 k j)) (m (c.tc.loc main_arg4) (ix2 0 j))
        (fun p => m (c.tc.loc main_arg2) (ix3 0 p j)) t.val) (fun j => m (c.tc.loc main_arg5) (ix2 0 j))
        (fun j => m (c.tc.loc main_arg6) (ix2 0 j)) n := by
  unfold Value.res_main_v248 Value.res_main_v230 Value.res_main_v228
  clean_types
  pointwise
  simp only [v222_at]
  rfl

/-- Mixer B's output. -/
theorem mixB_at (c : Dev nD) (t : Fin 16384) (n : Fin 512) (y : EReal)
    (hy : y = Value.res_main_v248 (launchContents m c) (ix3 0 t n)) :
    y * Ideal.div 1 (1 + Ideal.exp (-y))
    = mixB (fun k n => m (c.tc.loc main_arg3) (ix3 0 k n)) (fun n => m (c.tc.loc main_arg4) (ix2 0 n))
        (fun n => m (c.tc.loc main_arg5) (ix2 0 n)) (fun n => m (c.tc.loc main_arg6) (ix2 0 n))
        (fun p n => m (c.tc.loc main_arg2) (ix3 0 p n)) t.val n := by
  rw [v248_at] at hy
  subst hy
  rfl

/-- The token after the call. -/
theorem v254_at (c : Dev nD) (t : Fin 16384) (n : Fin 1024) : Value.res_main_v254 (launchContents m c) (ix3 0 t n) = after
    (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) t n := by
  unfold Value.res_main_v254
  clean_types
  pointwise
  exact congrArg₂ _ rfl (congrArg₂ _ rfl (Finset.sum_congr rfl fun k _ => congrArg₂ _ (mixB_at m c _ k _ rfl) rfl))

/-- The reference's run: the result as the mathematics, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v274) = G4 (m (c.tc.loc main_arg0)) (m (c.tc.loc main_arg1)) (m (c.tc.loc main_arg2))
          (m (c.tc.loc main_arg3)) (m (c.tc.loc main_arg4)) (m (c.tc.loc main_arg5)) (m (c.tc.loc main_arg6))
          (m (c.tc.loc main_arg7)) (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) :=
  (θ_run defs _ _).mono (fun _ h c => ⟨(h c).1.trans (by
      funext j
      idx_vars j
      clean_types
      pointwise
      rw [G4_at]
      refine Finset.sum_congr rfl fun k _ => ?_
      exact congrArg₂ _ (rms_congr (x := fun n => Value.res_main_v254 (launchContents m c) (ix3 0 j1 n))
        (g := fun k => m (c.tc.loc main_arg8) (ix2 0 k)) (v254_at m c j1) (fun _ => rfl) k) rfl), (h c).2⟩) (Value.run m ρ)

end Cert.Back.Logits
end
-- ==== Proof.lean ====
/- The claims about the layer's first call, its experts' call and the call after its mixers: their runs, and their results
   against the plain mathematics. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Pre_tokens
public import proofs.«01_k».proof.Proof.Gen.Pre_finite
public import proofs.«01_k».proof.Proof.Front.KernelValue
public import proofs.«01_k».proof.Proof.Front.Ref
public import proofs.«01_k».proof.Proof.Ffn.Range
public import proofs.«01_k».proof.Proof.Ffn.KernelValue
public import proofs.«01_k».proof.Proof.Ffn.Ref
public import proofs.«01_k».proof.Proof.Back.KernelValue
public import proofs.«01_k».proof.Proof.Back.Ref
public import proofs.«01_k».proof.Proof.Back.Finite
public import proofs.«01_k».proof.Proof.Back.Router
public import proofs.«01_k».proof.Proof.Back.RouterRef
public import Idealize.ShloMosaic.Adequacy
public import Idealize.ShloMosaic.Init

@[expose] public section

noncomputable section

namespace Cert.Proof

open Idealize.ShloMosaic Idealize.SL.Sem

/-- The kernel runs to its end with its arguments unchanged and every semaphore at zero. -/
theorem frame : Cert.quiescent_Kernel := fun m ρ _ => Cert.Kernel.Gen.frame m ρ

/-- The same of the kernel read over the extended reals. -/
theorem frame_ideal : Cert.quiescent_KernelIdeal := fun m ρ _ => Cert.KernelIdeal.Gen.frame m ρ

/-- The reference runs to its end with its arguments unchanged. -/
theorem frame_ref : Cert.quiescent_ReferenceIdeal := fun m ρ _ =>
  (θ_run Cert.ReferenceIdeal.defs _ _).mono (fun r h => ⟨fun c => (h c).2.2,
      Idealize.ShloMosaic.sem_eq_zero_of_no_sems (by decide) r.2⟩) (Cert.ReferenceIdeal.Value.run (F := Ideal) m ρ)

/-- Both runs leave the same two arrays: the spatially gated half and the gated linear unit. -/
theorem algebraic : Cert.algebraic_KernelIdeal_ReferenceIdeal := by
  intro m ρ m' ρ' _ hag
  refine ⟨_, _, (θ_run Cert.KernelIdeal.defs _ _).mono (fun _ h c =>
    ⟨(h c).1.trans (Cert.Front.arr7 m c), (h c).2.1.trans (Cert.Front.arr8 m c), (h c).2.2⟩)
    (Cert.KernelIdeal.Value.run_blocks m ρ), (θ_run Cert.ReferenceIdeal.defs _ _).mono (fun _ h c =>
    ⟨(h c).1.trans ?_, (h c).2.1.trans ?_, (h c).2.2⟩) (Cert.Front.run_ref m' ρ')⟩
  all_goals
    obtain ⟨e0, e1, e2, e3, e4, e5, e6⟩ := hag c
    rw [e0, e1, e2]
    try rw [e3, e4, e5, e6]

/-- The experts' reference runs to its end with its arguments unchanged. -/
theorem ffn_frame_ref : Cert.quiescent_Reference2Ideal := fun m ρ _ =>
  (θ_run Cert.Reference2Ideal.defs _ _).mono (fun r h => ⟨fun c => (h c).2,
      Idealize.ShloMosaic.sem_eq_zero_of_no_sems (by decide) r.2⟩) (Cert.Reference2Ideal.Value.run (F := Ideal) m ρ)

/-- The same for a token table in range. -/
theorem ffn_frame_ref_pre : Cert.quiescent_Reference2Ideal_pre_tokens := fun m ρ _ => ffn_frame_ref m ρ trivial

/-- For a token table in range both runs leave the same array: every expert's output at the tokens it takes. -/
theorem ffn_algebraic : Cert.algebraic_Kernel2Ideal_Reference2Ideal := by
  intro m ρ m' ρ' hp hag
  have hI := fun c => Cert.Kernel2Ideal.Ffn.tokens_range _ _ _ _ _ _ _ (hp c)
  refine ⟨_, (θ_run Cert.Kernel2Ideal.defs _ _).mono (fun _ h c =>
    ⟨((h.1 c).1 4).trans (Cert.Ffn.arr4 m c), Cert.Kernel2Ideal.Ffn.args_kept m h.1 c⟩)
    (Cert.Kernel2Ideal.Ffn.run_main m ρ fun c => Cert.Kernel2Ideal.Ffn.blocks_range m c (hI c)),
    (θ_run Cert.Reference2Ideal.defs _ _).mono (fun _ h c =>
    ⟨(h c).1.trans ?_, (h c).2⟩) (Cert.Ffn.run_ref m' ρ' fun c => ?_)⟩
  · obtain ⟨-, e1, -⟩ := hag c
    rw [e1]
    exact hI c
  · obtain ⟨e0, e1, e2, e3, e4, e5, e6⟩ := hag c
    rw [e0, e1, e2, e3, e4, e5, e6]

/-- The reference of the call after the mixers runs to its end with its arguments unchanged. -/
theorem back_frame_ref : Cert.quiescent_Reference3Ideal := fun m ρ _ =>
  (θ_run Cert.Reference3Ideal.defs _ _).mono (fun r h => ⟨fun c => (h c).2,
      Idealize.ShloMosaic.sem_eq_zero_of_no_sems (by decide) r.2⟩) (Cert.Reference3Ideal.Value.run (F := Ideal) m ρ)

/-- Both runs leave the same array: the residual stream after both mixers, 128 channels a row. -/
theorem back_algebraic : Cert.algebraic_Kernel3Ideal_Reference3Ideal := by
  intro m ρ m' ρ' _ hag
  refine ⟨_, (θ_run Cert.Kernel3Ideal.defs _ _).mono (fun _ h c =>
    ⟨((h.1.1 c).1 13).trans (Cert.Back.arr13 m c), h.2.1 c⟩)
    (θ_run_and (Cert.Kernel3Ideal.Back.run_main m ρ) (Cert.Kernel3Ideal.Back.frame_run m ρ)),
    (θ_run Cert.Reference3Ideal.defs _ _).mono (fun _ h c =>
    ⟨(h c).1.trans ?_, (h c).2⟩) (Cert.Back.run_ref m' ρ')⟩
  obtain ⟨e0, e1, e2, e3, e4, e5, e6, e7, e8, e9⟩ := hag c
  rw [e0, e1, e2, e3, e4, e5, e6, e7]

/-- The reference of the router logits runs to its end with its arguments unchanged. -/
theorem logits_frame_ref : Cert.quiescent_Reference4Ideal := fun m ρ _ =>
  (θ_run Cert.Reference4Ideal.defs _ _).mono (fun r h => ⟨fun c => (h c).2,
      Idealize.ShloMosaic.sem_eq_zero_of_no_sems (by decide) r.2⟩) (Cert.Reference4Ideal.Value.run (F := Ideal) m ρ)

/-- The same where the gain and the router are real. -/
theorem logits_frame_ref_pre : Cert.quiescent_Reference4Ideal_pre_finite := fun m ρ _ => logits_frame_ref m ρ trivial

set_option maxHeartbeats 4000000 in
/-- Where the gain and the router are real both runs leave the same array: the router logits of every token. -/
theorem logits_algebraic : Cert.algebraic_Kernel4Ideal_Reference4Ideal_pre_finite := by
  intro m ρ m' ρ' hp hag
  have hr := fun c => Cert.Back.Logits.finite_real _ _ _ _ _ _ _ _ _ _ (hp c)
  refine ⟨fun c => Cert.Back.logits m c, ?_, (θ_run Cert.Reference4Ideal.defs _ _).mono (fun _ h c =>
    ⟨(h c).1.trans ?_, (h c).2⟩) (Cert.Back.Logits.run_ref m' ρ')⟩
  rotate_left
  · obtain ⟨e0, e1, e2, e3, e4, e5, e6, e7, e8, e9⟩ := hag c
    rw [e0, e1, e2, e3, e4, e5, e6, e7, e8, e9]
    rfl
  · rw [show Cert.Kernel4Ideal.defs (F := Ideal) = Cert.Kernel3Ideal.defs (F := Ideal) from Cert.Back.Logits.defs_eq, Cert.Back.Logits.main_eq]
    exact Cert.Back.logits_run m ρ hr

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Pre_tokens.Gen.facts, Cert.Pre_finite.Gen.facts,
  frame, frame_ideal, frame_ref, Cert.Kernel2Ideal.Ffn.frame_bits, Cert.Kernel2Ideal.Ffn.frame_ideal, ffn_frame_ref, ffn_frame_ref_pre,
  Cert.Kernel3Ideal.Back.frame_bits, Cert.Kernel3Ideal.Back.frame_ideal, back_frame_ref,
  Cert.Back.Logits.frame_bits, Cert.Back.Logits.frame_ideal, Cert.Back.Logits.frame_ideal_pre, logits_frame_ref, logits_frame_ref_pre,
  trivial, algebraic, trivial, ffn_algebraic, trivial, back_algebraic, trivial, logits_algebraic⟩

end Cert.Proof

end
